-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "mask" .f32 0xF149F2CA#32 ⊥

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S16x2048x512 : Shape := ⟨3, ![16, 2048, 512]⟩
abbrev S1x64 : Shape := ⟨2, ![1, 64]⟩
abbrev S128 : Shape := ⟨1, ![128]⟩
abbrev S_ : Shape := ⟨0, ![]⟩
abbrev S16x2048x1024 : Shape := ⟨3, ![16, 2048, 1024]⟩
abbrev S16x512x2048 : Shape := ⟨3, ![16, 512, 2048]⟩
abbrev S128x1 : Shape := ⟨2, ![128, 1]⟩
abbrev S1x2048x512 : Shape := ⟨3, ![1, 2048, 512]⟩
abbrev S1x512x2048 : Shape := ⟨3, ![1, 512, 2048]⟩
abbrev S8x2048x128 : Shape := ⟨3, ![8, 2048, 128]⟩
abbrev S4x144x2048 : Shape := ⟨3, ![4, 144, 2048]⟩
abbrev S2x256x256 : Shape := ⟨3, ![2, 256, 256]⟩
abbrev S2x8x256x256 : Shape := ⟨4, ![2, 8, 256, 256]⟩
abbrev S8x8x144x256 : Shape := ⟨4, ![8, 8, 144, 256]⟩
abbrev S1 : Shape := ⟨1, ![1]⟩
abbrev S1x1 : Shape := ⟨2, ![1, 1]⟩
abbrev S1x128 : Shape := ⟨2, ![1, 128]⟩
abbrev S256x128 : Shape := ⟨2, ![256, 128]⟩
abbrev S1x256x128 : Shape := ⟨3, ![1, 256, 128]⟩
abbrev S1x128x2048 : Shape := ⟨3, ![1, 128, 2048]⟩
abbrev S128x2048 : Shape := ⟨2, ![128, 2048]⟩
abbrev S16x2048 : Shape := ⟨2, ![16, 2048]⟩
abbrev S1x16x2048 : Shape := ⟨3, ![1, 16, 2048]⟩
abbrev S256x256 : Shape := ⟨2, ![256, 256]⟩
abbrev S1x256x256 : Shape := ⟨3, ![1, 256, 256]⟩
abbrev S8x144x256 : Shape := ⟨3, ![8, 144, 256]⟩
abbrev S1x8x144x256 : Shape := ⟨4, ![1, 8, 144, 256]⟩
abbrev S1x1x256x256 : Shape := ⟨4, ![1, 1, 256, 256]⟩
abbrev S256 : Shape := ⟨1, ![256]⟩
abbrev S1x256 : Shape := ⟨2, ![1, 256]⟩
abbrev S1x144x256 : Shape := ⟨3, ![1, 144, 256]⟩
abbrev S144x256 : Shape := ⟨2, ![144, 256]⟩
abbrev S1x1x144x256 : Shape := ⟨4, ![1, 1, 144, 256]⟩
abbrev S128x256 : Shape := ⟨2, ![128, 256]⟩

abbrev nBuf : Space → Nat
  | .hbm => 17
  | .vmem => 19
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128, .f32⟩
  | .hbm, ⟨8, _⟩ => ⟨S_, .f32⟩
  | .hbm, ⟨9, _⟩ => ⟨S16x2048x512, .f32⟩
  | .hbm, ⟨10, _⟩ => ⟨S16x2048x512, .f32⟩
  | .hbm, ⟨11, _⟩ => ⟨S16x2048x1024, .f32⟩
  | .hbm, ⟨12, _⟩ => ⟨S16x2048x1024, .bf16⟩
  | .hbm, ⟨13, _⟩ => ⟨S16x512x2048, .f32⟩
  | .hbm, ⟨14, _⟩ => ⟨S16x512x2048, .bf16⟩
  | .hbm, ⟨15, _⟩ => ⟨S128x1, .f32⟩
  | .hbm, ⟨16, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x2048x512, .bf16⟩
  | .local _ .vmem, ⟨12, _⟩ => ⟨S1x2048x512, .bf16⟩
  | .local _ .vmem, ⟨13, _⟩ => ⟨S8x2048x128, .bf16⟩
  | .local _ .vmem, ⟨14, _⟩ => ⟨S8x2048x128, .bf16⟩
  | .local _ .vmem, ⟨15, _⟩ => ⟨S4x144x2048, .bf16⟩
  | .local _ .vmem, ⟨16, _⟩ => ⟨S2x256x256, .f32⟩
  | .local _ .vmem, ⟨17, _⟩ => ⟨S2x8x256x256, .f32⟩
  | .local _ .vmem, ⟨18, _⟩ => ⟨S8x8x144x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_63 : BitVec 32 := 0#32
  let c8_i32 : BitVec 32 := 8#32
  let v149 : BitVec 32 := Scalar.addi c0_i32_63 c8_i32
  let c1_i32_64 : BitVec 32 := 1#32
  ⟨c0_i32_63, v149, c1_i32_64⟩
def k0_mult1 (k0_t1 : Fin k0_t1_loop.trips) : BitVec 32 :=
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  v327
def k0_off1 (k0_t1 : Fin k0_t1_loop.trips) : Fin 3 → Nat :=
  let c0_212 : Index := 0#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v329 : Index := Scalar.indexCast v328
  let c0_213 : Index := 0#32
  ![0, v329.toNat, 0]
def k0_off2 (k0_t1 : Fin k0_t1_loop.trips) : Fin 3 → Nat :=
  let c0_214 : Index := 0#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v335 : Index := Scalar.indexCast v328
  let c0_215 : Index := 0#32
  ![0, v335.toNat, 0]
def k0_off3 (k0_t1 : Fin k0_t1_loop.trips) : Fin 3 → Nat :=
  let c1_216 : Index := 1#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v342 : Index := Scalar.indexCast v328
  let c0_217 : Index := 0#32
  ![1, v342.toNat, 0]
def k0_off4 (k0_t1 : Fin k0_t1_loop.trips) : Fin 3 → Nat :=
  let c0_224 : Index := 0#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v367 : Index := Scalar.indexCast v328
  let c128_225 : Index := 128#32
  ![0, v367.toNat, 128]
def k0_off5 (k0_t1 : Fin k0_t1_loop.trips) : Fin 3 → Nat :=
  let c2_226 : Index := 2#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v373 : Index := Scalar.indexCast v328
  let c0_227 : Index := 0#32
  ![2, v373.toNat, 0]
def k0_off6 (k0_t1 : Fin k0_t1_loop.trips) : Fin 3 → Nat :=
  let c3_228 : Index := 3#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v380 : Index := Scalar.indexCast v328
  let c0_229 : Index := 0#32
  ![3, v380.toNat, 0]
def k0_off7 (k0_t1 : Fin k0_t1_loop.trips) : Fin 3 → Nat :=
  let c0_236 : Index := 0#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v405 : Index := Scalar.indexCast v328
  let c256_237 : Index := 256#32
  ![0, v405.toNat, 256]
def k0_off8 (k0_t1 : Fin k0_t1_loop.trips) : Fin 3 → Nat :=
  let c4_238 : Index := 4#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v411 : Index := Scalar.indexCast v328
  let c0_239 : Index := 0#32
  ![4, v411.toNat, 0]
def k0_off9 (k0_t1 : Fin k0_t1_loop.trips) : Fin 3 → Nat :=
  let c5_240 : Index := 5#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v418 : Index := Scalar.indexCast v328
  let c0_241 : Index := 0#32
  ![5, v418.toNat, 0]
def k0_off10 (k0_t1 : Fin k0_t1_loop.trips) : Fin 3 → Nat :=
  let c0_248 : Index := 0#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v443 : Index := Scalar.indexCast v328
  let c384_249 : Index := 384#32
  ![0, v443.toNat, 384]
def k0_off11 (k0_t1 : Fin k0_t1_loop.trips) : Fin 3 → Nat :=
  let c6_250 : Index := 6#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v449 : Index := Scalar.indexCast v328
  let c0_251 : Index := 0#32
  ![6, v449.toNat, 0]
def k0_off12 (k0_t1 : Fin k0_t1_loop.trips) : Fin 3 → Nat :=
  let c7_252 : Index := 7#32
  let c0_i32_63 : BitVec 32 := 0#32
  let c1_i32_64 : BitVec 32 := 1#32
  let arg16 : BitVec 32 := Scf.iv c0_i32_63 c1_i32_64 k0_t1
  let c256_i32_211 : BitVec 32 := 256#32
  let v327 : BitVec 32 := Scalar.muli arg16 c256_i32_211
  let v328 : BitVec 32 := v327
  let v456 : Index := Scalar.indexCast v328
  let c0_253 : Index := 0#32
  ![7, v456.toNat, 0]
def k0_cond1 (i : grid0.Coords) : BitVec 1 :=
  let arg0 : BitVec 32 := BitVec.ofNat 32 (i 0).val
  let c0_i32_109 : BitVec 32 := 0#32
  let v199 : BitVec 1 := Scalar.cmpi .eq arg0 c0_i32_109
  let v200 : BitVec 32 := Scalar.extui v199
  let c0_i32_110 : BitVec 32 := 0#32
  let v201 : BitVec 1 := Scalar.cmpi .ne v200 c0_i32_110
  v201

@[reducible] def k0_t2_loop : Scf.Loop 32 :=
  let c0_i32_211 : BitVec 32 := 0#32
  let c8_i32_212 : BitVec 32 := 8#32
  let v327 : BitVec 32 := Scalar.addi c0_i32_211 c8_i32_212
  let c1_i32_213 : BitVec 32 := 1#32
  ⟨c0_i32_211, v327, c1_i32_213⟩
def k0_off13 (k0_t2 : Fin k0_t2_loop.trips) : Fin 4 → Nat :=
  let c0_i32_211 : BitVec 32 := 0#32
  let c1_i32_213 : BitVec 32 := 1#32
  let arg16 : BitVec 32 := Scf.iv c0_i32_211 c1_i32_213 k0_t2
  let v329 : Index := Scalar.indexCast arg16
  let c0_216 : Index := 0#32
  let c0_217 : Index := 0#32
  let c0_218 : Index := 0#32
  ![v329.toNat, 0, 0, 0]
def k0_mult2 : BitVec 32 :=
  let c0_i32_111 : BitVec 32 := 0#32
  let c256_i32 : BitVec 32 := 256#32
  let v202 : BitVec 32 := Scalar.muli c0_i32_111 c256_i32
  v202
def k0_mult3 : BitVec 32 :=
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  v205
def k0_off14 : Fin 3 → Nat :=
  let c0_i32_115 : BitVec 32 := 0#32
  let c0_i32_116 : BitVec 32 := 0#32
  let v207 : BitVec 1 := Scalar.cmpi .eq c0_i32_115 c0_i32_116
  let v208 : BitVec 32 := Scalar.extui v207
  let v209 : Index := Scalar.indexCast v208
  let c0_117 : Index := 0#32
  let c0_118 : Index := 0#32
  ![v209.toNat, 0, 0]
def k0_off15 : Fin 3 → Nat :=
  let c0_119 : Index := 0#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v212 : Index := Scalar.indexCast v206
  let c0_120 : Index := 0#32
  ![0, v212.toNat, 0]
def k0_off16 : Fin 3 → Nat :=
  let c0_121 : Index := 0#32
  let c0_i32_111 : BitVec 32 := 0#32
  let c256_i32 : BitVec 32 := 256#32
  let v202 : BitVec 32 := Scalar.muli c0_i32_111 c256_i32
  let v203 : BitVec 32 := v202
  let v215 : Index := Scalar.indexCast v203
  let c0_122 : Index := 0#32
  ![0, v215.toNat, 0]
def k0_off17 : Fin 3 → Nat :=
  let c1_129 : Index := 1#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v225 : Index := Scalar.indexCast v206
  let c0_130 : Index := 0#32
  ![1, v225.toNat, 0]
def k0_off18 : Fin 3 → Nat :=
  let c1_131 : Index := 1#32
  let c0_i32_111 : BitVec 32 := 0#32
  let c256_i32 : BitVec 32 := 256#32
  let v202 : BitVec 32 := Scalar.muli c0_i32_111 c256_i32
  let v203 : BitVec 32 := v202
  let v228 : Index := Scalar.indexCast v203
  let c0_132 : Index := 0#32
  ![1, v228.toNat, 0]
def k0_off19 : Fin 3 → Nat :=
  let c2_139 : Index := 2#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v238 : Index := Scalar.indexCast v206
  let c0_140 : Index := 0#32
  ![2, v238.toNat, 0]
def k0_off20 : Fin 3 → Nat :=
  let c2_141 : Index := 2#32
  let c0_i32_111 : BitVec 32 := 0#32
  let c256_i32 : BitVec 32 := 256#32
  let v202 : BitVec 32 := Scalar.muli c0_i32_111 c256_i32
  let v203 : BitVec 32 := v202
  let v241 : Index := Scalar.indexCast v203
  let c0_142 : Index := 0#32
  ![2, v241.toNat, 0]
def k0_off21 : Fin 3 → Nat :=
  let c3_149 : Index := 3#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v251 : Index := Scalar.indexCast v206
  let c0_150 : Index := 0#32
  ![3, v251.toNat, 0]
def k0_off22 : Fin 3 → Nat :=
  let c3_151 : Index := 3#32
  let c0_i32_111 : BitVec 32 := 0#32
  let c256_i32 : BitVec 32 := 256#32
  let v202 : BitVec 32 := Scalar.muli c0_i32_111 c256_i32
  let v203 : BitVec 32 := v202
  let v254 : Index := Scalar.indexCast v203
  let c0_152 : Index := 0#32
  ![3, v254.toNat, 0]
def k0_off23 : Fin 3 → Nat :=
  let c4 : Index := 4#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v264 : Index := Scalar.indexCast v206
  let c0_159 : Index := 0#32
  ![4, v264.toNat, 0]
def k0_off24 : Fin 3 → Nat :=
  let c4_160 : Index := 4#32
  let c0_i32_111 : BitVec 32 := 0#32
  let c256_i32 : BitVec 32 := 256#32
  let v202 : BitVec 32 := Scalar.muli c0_i32_111 c256_i32
  let v203 : BitVec 32 := v202
  let v267 : Index := Scalar.indexCast v203
  let c0_161 : Index := 0#32
  ![4, v267.toNat, 0]
def k0_off25 : Fin 3 → Nat :=
  let c5 : Index := 5#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v277 : Index := Scalar.indexCast v206
  let c0_168 : Index := 0#32
  ![5, v277.toNat, 0]
def k0_off26 : Fin 3 → Nat :=
  let c5_169 : Index := 5#32
  let c0_i32_111 : BitVec 32 := 0#32
  let c256_i32 : BitVec 32 := 256#32
  let v202 : BitVec 32 := Scalar.muli c0_i32_111 c256_i32
  let v203 : BitVec 32 := v202
  let v280 : Index := Scalar.indexCast v203
  let c0_170 : Index := 0#32
  ![5, v280.toNat, 0]
def k0_off27 : Fin 3 → Nat :=
  let c6 : Index := 6#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v290 : Index := Scalar.indexCast v206
  let c0_177 : Index := 0#32
  ![6, v290.toNat, 0]
def k0_off28 : Fin 3 → Nat :=
  let c6_178 : Index := 6#32
  let c0_i32_111 : BitVec 32 := 0#32
  let c256_i32 : BitVec 32 := 256#32
  let v202 : BitVec 32 := Scalar.muli c0_i32_111 c256_i32
  let v203 : BitVec 32 := v202
  let v293 : Index := Scalar.indexCast v203
  let c0_179 : Index := 0#32
  ![6, v293.toNat, 0]
def k0_off29 : Fin 3 → Nat :=
  let c7 : Index := 7#32
  let c0_i32_112 : BitVec 32 := 0#32
  let c0_i32_113 : BitVec 32 := 0#32
  let v204 : BitVec 32 := Scalar.subi c0_i32_112 c0_i32_113
  let c256_i32_114 : BitVec 32 := 256#32
  let v205 : BitVec 32 := Scalar.muli v204 c256_i32_114
  let v206 : BitVec 32 := v205
  let v303 : Index := Scalar.indexCast v206
  let c0_186 : Index := 0#32
  ![7, v303.toNat, 0]
def k0_off30 : Fin 3 → Nat :=
  let c7_187 : Index := 7#32
  let c0_i32_111 : BitVec 32 := 0#32
  let c256_i32 : BitVec 32 := 256#32
  let v202 : BitVec 32 := Scalar.muli c0_i32_111 c256_i32
  let v203 : BitVec 32 := v202
  let v306 : Index := Scalar.indexCast v203
  let c0_188 : Index := 0#32
  ![7, v306.toNat, 0]
@[reducible] def k0_t3_loop : Scf.Loop 32 :=
  let c0_i32_205 : BitVec 32 := 0#32
  let c6_i32 : BitVec 32 := 6#32
  let v324 : BitVec 32 := Scalar.addi c0_i32_205 c6_i32
  let c1_i32_206 : BitVec 32 := 1#32
  ⟨c0_i32_205, v324, c1_i32_206⟩
def k0_mult4 (arg17 : BitVec 32) (arg18 : BitVec 32) : BitVec 32 :=
  let v336 : BitVec 32 := Scalar.subi arg17 arg18
  let c256_i32_216 : BitVec 32 := 256#32
  let v337 : BitVec 32 := Scalar.muli v336 c256_i32_216
  v337

def k0_mult5 (arg17 : BitVec 32) (arg18 : BitVec 32) : BitVec 32 :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  v339
def k0_mult6 (arg17 : BitVec 32) (arg18 : BitVec 32) : BitVec 32 :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  v342
def k0_off31 (arg17 : BitVec 32) (arg18 : BitVec 32) : Fin 3 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c0_i32_219 : BitVec 32 := 0#32
  let v344 : BitVec 1 := Scalar.cmpi .eq v331 c0_i32_219
  let v345 : BitVec 32 := Scalar.extui v344
  let v346 : Index := Scalar.indexCast v345
  let c0_220 : Index := 0#32
  let c0_221 : Index := 0#32
  ![v346.toNat, 0, 0]
def k0_off32 (arg17 : BitVec 32) (arg18 : BitVec 32) : Fin 3 → Nat :=
  let c0_222 : Index := 0#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v349 : Index := Scalar.indexCast v343
  let c0_223 : Index := 0#32
  ![0, v349.toNat, 0]
def k0_off33 (arg17 : BitVec 32) (arg18 : BitVec 32) : Fin 3 → Nat :=
  let c0_224 : Index := 0#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v352 : Index := Scalar.indexCast v340
  let c0_225 : Index := 0#32
  ![0, v352.toNat, 0]
def k0_off34 (arg17 : BitVec 32) (arg18 : BitVec 32) : Fin 3 → Nat :=
  let c1_232 : Index := 1#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v362 : Index := Scalar.indexCast v343
  let c0_233 : Index := 0#32
  ![1, v362.toNat, 0]
def k0_off35 (arg17 : BitVec 32) (arg18 : BitVec 32) : Fin 3 → Nat :=
  let c1_234 : Index := 1#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v365 : Index := Scalar.indexCast v340
  let c0_235 : Index := 0#32
  ![1, v365.toNat, 0]
def k0_off36 (arg17 : BitVec 32) (arg18 : BitVec 32) : Fin 3 → Nat :=
  let c0_248 : Index := 0#32
  let c0_249 : Index := 0#32
  let v336 : BitVec 32 := Scalar.subi arg17 arg18
  let c256_i32_216 : BitVec 32 := 256#32
  let v337 : BitVec 32 := Scalar.muli v336 c256_i32_216
  let v338 : BitVec 32 := v337
  let v389 : Index := Scalar.indexCast v338
  ![0, 0, v389.toNat]
def k0_off37 (arg17 : BitVec 32) : Fin 4 → Nat :=
  let v395 : Index := Scalar.indexCast arg17
  let c0_251 : Index := 0#32
  let c0_252 : Index := 0#32
  let c0_253 : Index := 0#32
  ![v395.toNat, 0, 0, 0]

def k0_off38 (arg17 : BitVec 32) (arg18 : BitVec 32) : Fin 3 → Nat :=
  let c2_257 : Index := 2#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v405 : Index := Scalar.indexCast v343
  let c0_258 : Index := 0#32
  ![2, v405.toNat, 0]
def k0_off39 (arg17 : BitVec 32) (arg18 : BitVec 32) : Fin 3 → Nat :=
  let c2_259 : Index := 2#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v408 : Index := Scalar.indexCast v340
  let c0_260 : Index := 0#32
  ![2, v408.toNat, 0]
def k0_off40 (arg17 : BitVec 32) : Fin 4 → Nat :=
  let v438 : Index := Scalar.indexCast arg17
  let c1_276 : Index := 1#32
  let c0_277 : Index := 0#32
  let c0_278 : Index := 0#32
  ![v438.toNat, 1, 0, 0]
def k0_off41 (arg17 : BitVec 32) (arg18 : BitVec 32) : Fin 3 → Nat :=
  let c3_282 : Index := 3#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v448 : Index := Scalar.indexCast v343
  let c0_283 : Index := 0#32
  ![3, v448.toNat, 0]
def k0_off42 (arg17 : BitVec 32) (arg18 : BitVec 32) : Fin 3 → Nat :=
  let c3_284 : Index := 3#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v451 : Index := Scalar.indexCast v340
  let c0_285 : Index := 0#32
  ![3, v451.toNat, 0]
def k0_off43 (arg17 : BitVec 32) (arg18 : BitVec 32) : Fin 3 → Nat :=
  let c1_298 : Index := 1#32
  let c0_299 : Index := 0#32
  let v336 : BitVec 32 := Scalar.subi arg17 arg18
  let c256_i32_216 : BitVec 32 := 256#32
  let v337 : BitVec 32 := Scalar.muli v336 c256_i32_216
  let v338 : BitVec 32 := v337
  let v475 : Index := Scalar.indexCast v338
  ![1, 0, v475.toNat]
def k0_off44 (arg17 : BitVec 32) : Fin 4 → Nat :=
  let v481 : Index := Scalar.indexCast arg17
  let c2_301 : Index := 2#32
  let c0_302 : Index := 0#32
  let c0_303 : Index := 0#32
  ![v481.toNat, 2, 0, 0]
def k0_off45 (arg17 : BitVec 32) (arg18 : BitVec 32) : Fin 3 → Nat :=
  let c4_307 : Index := 4#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v491 : Index := Scalar.indexCast v343
  let c0_308 : Index := 0#32
  ![4, v491.toNat, 0]
def k0_off46 (arg17 : BitVec 32) (arg18 : BitVec 32) : Fin 3 → Nat :=
  let c4_309 : Index := 4#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v494 : Index := Scalar.indexCast v340
  let c0_310 : Index := 0#32
  ![4, v494.toNat, 0]
def k0_off47 (arg17 : BitVec 32) : Fin 4 → Nat :=
  let v524 : Index := Scalar.indexCast arg17
  let c3_326 : Index := 3#32
  let c0_327 : Index := 0#32
  let c0_328 : Index := 0#32
  ![v524.toNat, 3, 0, 0]
def k0_off48 (arg17 : BitVec 32) (arg18 : BitVec 32) : Fin 3 → Nat :=
  let c5_332 : Index := 5#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v534 : Index := Scalar.indexCast v343
  let c0_333 : Index := 0#32
  ![5, v534.toNat, 0]
def k0_off49 (arg17 : BitVec 32) (arg18 : BitVec 32) : Fin 3 → Nat :=
  let c5_334 : Index := 5#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v537 : Index := Scalar.indexCast v340
  let c0_335 : Index := 0#32
  ![5, v537.toNat, 0]
def k0_off50 (arg17 : BitVec 32) (arg18 : BitVec 32) : Fin 3 → Nat :=
  let c2_348 : Index := 2#32
  let c0_349 : Index := 0#32
  let v336 : BitVec 32 := Scalar.subi arg17 arg18
  let c256_i32_216 : BitVec 32 := 256#32
  let v337 : BitVec 32 := Scalar.muli v336 c256_i32_216
  let v338 : BitVec 32 := v337
  let v561 : Index := Scalar.indexCast v338
  ![2, 0, v561.toNat]
def k0_off51 (arg17 : BitVec 32) : Fin 4 → Nat :=
  let v567 : Index := Scalar.indexCast arg17
  let c4_351 : Index := 4#32
  let c0_352 : Index := 0#32
  let c0_353 : Index := 0#32
  ![v567.toNat, 4, 0, 0]
def k0_off52 (arg17 : BitVec 32) (arg18 : BitVec 32) : Fin 3 → Nat :=
  let c6_357 : Index := 6#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v577 : Index := Scalar.indexCast v343
  let c0_358 : Index := 0#32
  ![6, v577.toNat, 0]
def k0_off53 (arg17 : BitVec 32) (arg18 : BitVec 32) : Fin 3 → Nat :=
  let c6_359 : Index := 6#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v580 : Index := Scalar.indexCast v340
  let c0_360 : Index := 0#32
  ![6, v580.toNat, 0]
def k0_off54 (arg17 : BitVec 32) : Fin 4 → Nat :=
  let v610 : Index := Scalar.indexCast arg17
  let c5_376 : Index := 5#32
  let c0_377 : Index := 0#32
  let c0_378 : Index := 0#32
  ![v610.toNat, 5, 0, 0]
def k0_off55 (arg17 : BitVec 32) (arg18 : BitVec 32) : Fin 3 → Nat :=
  let c7_382 : Index := 7#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v341 : BitVec 32 := Scalar.subi v332 v331
  let c256_i32_218 : BitVec 32 := 256#32
  let v342 : BitVec 32 := Scalar.muli v341 c256_i32_218
  let v343 : BitVec 32 := v342
  let v620 : Index := Scalar.indexCast v343
  let c0_383 : Index := 0#32
  ![7, v620.toNat, 0]
def k0_off56 (arg17 : BitVec 32) (arg18 : BitVec 32) : Fin 3 → Nat :=
  let c7_384 : Index := 7#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c256_i32_217 : BitVec 32 := 256#32
  let v339 : BitVec 32 := Scalar.muli v332 c256_i32_217
  let v340 : BitVec 32 := v339
  let v623 : Index := Scalar.indexCast v340
  let c0_385 : Index := 0#32
  ![7, v623.toNat, 0]
def k0_off57 (arg17 : BitVec 32) (arg18 : BitVec 32) : Fin 3 → Nat :=
  let c3_398 : Index := 3#32
  let c0_399 : Index := 0#32
  let v336 : BitVec 32 := Scalar.subi arg17 arg18
  let c256_i32_216 : BitVec 32 := 256#32
  let v337 : BitVec 32 := Scalar.muli v336 c256_i32_216
  let v338 : BitVec 32 := v337
  let v647 : Index := Scalar.indexCast v338
  ![3, 0, v647.toNat]
def k0_off58 (arg17 : BitVec 32) : Fin 4 → Nat :=
  let v653 : Index := Scalar.indexCast arg17
  let c6_401 : Index := 6#32
  let c0_402 : Index := 0#32
  let c0_403 : Index := 0#32
  ![v653.toNat, 6, 0, 0]
def k0_off59 (arg17 : BitVec 32) : Fin 4 → Nat :=
  let v683 : Index := Scalar.indexCast arg17
  let c7_416 : Index := 7#32
  let c0_417 : Index := 0#32
  let c0_418 : Index := 0#32
  ![v683.toNat, 7, 0, 0]

def k0_chk2 (arg17 : BitVec 32) : Prop :=
  (∀ a, (k0_off37 arg17) a + S1x1x144x256.size a ≤ S8x8x144x256.size a) ∧
  (∀ a, (k0_off40 arg17) a + S1x1x144x256.size a ≤ S8x8x144x256.size a) ∧
  (∀ a, (k0_off44 arg17) a + S1x1x144x256.size a ≤ S8x8x144x256.size a) ∧
  (∀ a, (k0_off47 arg17) a + S1x1x144x256.size a ≤ S8x8x144x256.size a) ∧
  (∀ a, (k0_off51 arg17) a + S1x1x144x256.size a ≤ S8x8x144x256.size a) ∧
  (∀ a, (k0_off54 arg17) a + S1x1x144x256.size a ≤ S8x8x144x256.size a) ∧
  (∀ a, (k0_off58 arg17) a + S1x1x144x256.size a ≤ S8x8x144x256.size a) ∧
  (∀ a, (k0_off59 arg17) a + S1x1x144x256.size a ≤ S8x8x144x256.size a)
theorem k0_off37_inb : ∀ (arg17 : BitVec 32) (k0_hw2 : k0_chk2 arg17), ∀ a, (k0_off37 arg17) a + S1x1x144x256.size a ≤ S8x8x144x256.size a := fun arg17 k0_hw2 => k0_hw2.1
theorem k0_off40_inb : ∀ (arg17 : BitVec 32) (k0_hw2 : k0_chk2 arg17), ∀ a, (k0_off40 arg17) a + S1x1x144x256.size a ≤ S8x8x144x256.size a := fun arg17 k0_hw2 => k0_hw2.2.1
theorem k0_off44_inb : ∀ (arg17 : BitVec 32) (k0_hw2 : k0_chk2 arg17), ∀ a, (k0_off44 arg17) a + S1x1x144x256.size a ≤ S8x8x144x256.size a := fun arg17 k0_hw2 => k0_hw2.2.2.1
theorem k0_off47_inb : ∀ (arg17 : BitVec 32) (k0_hw2 : k0_chk2 arg17), ∀ a, (k0_off47 arg17) a + S1x1x144x256.size a ≤ S8x8x144x256.size a := fun arg17 k0_hw2 => k0_hw2.2.2.2.1
theorem k0_off51_inb : ∀ (arg17 : BitVec 32) (k0_hw2 : k0_chk2 arg17), ∀ a, (k0_off51 arg17) a + S1x1x144x256.size a ≤ S8x8x144x256.size a := fun arg17 k0_hw2 => k0_hw2.2.2.2.2.1
theorem k0_off54_inb : ∀ (arg17 : BitVec 32) (k0_hw2 : k0_chk2 arg17), ∀ a, (k0_off54 arg17) a + S1x1x144x256.size a ≤ S8x8x144x256.size a := fun arg17 k0_hw2 => k0_hw2.2.2.2.2.2.1
theorem k0_off58_inb : ∀ (arg17 : BitVec 32) (k0_hw2 : k0_chk2 arg17), ∀ a, (k0_off58 arg17) a + S1x1x144x256.size a ≤ S8x8x144x256.size a := fun arg17 k0_hw2 => k0_hw2.2.2.2.2.2.2.1
theorem k0_off59_inb : ∀ (arg17 : BitVec 32) (k0_hw2 : k0_chk2 arg17), ∀ a, (k0_off59 arg17) a + S1x1x144x256.size a ≤ S8x8x144x256.size a := fun arg17 k0_hw2 => k0_hw2.2.2.2.2.2.2.2

def k0_mult7 (arg17 : BitVec 32) (arg18 : BitVec 32) : BitVec 32 :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v702 : BitVec 32 := Scalar.subi v332 v331
  let c256_i32_428 : BitVec 32 := 256#32
  let v703 : BitVec 32 := Scalar.muli v702 c256_i32_428
  v703
def k0_mult8 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  v705
def k0_mult9 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  v708
def k0_off60 (arg17 : BitVec 32) (arg18 : BitVec 32) : Fin 3 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c0_i32_431 : BitVec 32 := 0#32
  let v710 : BitVec 1 := Scalar.cmpi .eq v697 c0_i32_431
  let v711 : BitVec 32 := Scalar.extui v710
  let v712 : Index := Scalar.indexCast v711
  let c0_432 : Index := 0#32
  let c0_433 : Index := 0#32
  ![v712.toNat, 0, 0]
def k0_off61 (arg17 : BitVec 32) (arg18 : BitVec 32) : Fin 3 → Nat :=
  let c0_434 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v715 : Index := Scalar.indexCast v709
  let c0_435 : Index := 0#32
  ![0, v715.toNat, 0]
def k0_off62 (arg17 : BitVec 32) (arg18 : BitVec 32) : Fin 3 → Nat :=
  let c0_436 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v718 : Index := Scalar.indexCast v706
  let c0_437 : Index := 0#32
  ![0, v718.toNat, 0]
def k0_off63 (arg17 : BitVec 32) (arg18 : BitVec 32) : Fin 3 → Nat :=
  let c1_444 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v728 : Index := Scalar.indexCast v709
  let c0_445 : Index := 0#32
  ![1, v728.toNat, 0]
def k0_off64 (arg17 : BitVec 32) (arg18 : BitVec 32) : Fin 3 → Nat :=
  let c1_446 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v731 : Index := Scalar.indexCast v706
  let c0_447 : Index := 0#32
  ![1, v731.toNat, 0]
def k0_off65 (arg17 : BitVec 32) (arg18 : BitVec 32) : Fin 3 → Nat :=
  let c0_460 : Index := 0#32
  let c0_461 : Index := 0#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v702 : BitVec 32 := Scalar.subi v332 v331
  let c256_i32_428 : BitVec 32 := 256#32
  let v703 : BitVec 32 := Scalar.muli v702 c256_i32_428
  let v704 : BitVec 32 := v703
  let v755 : Index := Scalar.indexCast v704
  ![0, 0, v755.toNat]
def k0_off66 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v761 : Index := Scalar.indexCast v332
  let c0_463 : Index := 0#32
  let c0_464 : Index := 0#32
  let c0_465 : Index := 0#32
  ![v761.toNat, 0, 0, 0]
def k0_off67 (arg17 : BitVec 32) (arg18 : BitVec 32) : Fin 3 → Nat :=
  let c2_469 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v771 : Index := Scalar.indexCast v709
  let c0_470 : Index := 0#32
  ![2, v771.toNat, 0]
def k0_off68 (arg17 : BitVec 32) (arg18 : BitVec 32) : Fin 3 → Nat :=
  let c2_471 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v774 : Index := Scalar.indexCast v706
  let c0_472 : Index := 0#32
  ![2, v774.toNat, 0]
def k0_off69 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v804 : Index := Scalar.indexCast v332
  let c1_488 : Index := 1#32
  let c0_489 : Index := 0#32
  let c0_490 : Index := 0#32
  ![v804.toNat, 1, 0, 0]
def k0_off70 (arg17 : BitVec 32) (arg18 : BitVec 32) : Fin 3 → Nat :=
  let c3_494 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v814 : Index := Scalar.indexCast v709
  let c0_495 : Index := 0#32
  ![3, v814.toNat, 0]
def k0_off71 (arg17 : BitVec 32) (arg18 : BitVec 32) : Fin 3 → Nat :=
  let c3_496 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v817 : Index := Scalar.indexCast v706
  let c0_497 : Index := 0#32
  ![3, v817.toNat, 0]
def k0_off72 (arg17 : BitVec 32) (arg18 : BitVec 32) : Fin 3 → Nat :=
  let c1_510 : Index := 1#32
  let c0_511 : Index := 0#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v702 : BitVec 32 := Scalar.subi v332 v331
  let c256_i32_428 : BitVec 32 := 256#32
  let v703 : BitVec 32 := Scalar.muli v702 c256_i32_428
  let v704 : BitVec 32 := v703
  let v841 : Index := Scalar.indexCast v704
  ![1, 0, v841.toNat]
def k0_off73 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v847 : Index := Scalar.indexCast v332
  let c2_513 : Index := 2#32
  let c0_514 : Index := 0#32
  let c0_515 : Index := 0#32
  ![v847.toNat, 2, 0, 0]
def k0_off74 (arg17 : BitVec 32) (arg18 : BitVec 32) : Fin 3 → Nat :=
  let c4_519 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v857 : Index := Scalar.indexCast v709
  let c0_520 : Index := 0#32
  ![4, v857.toNat, 0]
def k0_off75 (arg17 : BitVec 32) (arg18 : BitVec 32) : Fin 3 → Nat :=
  let c4_521 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v860 : Index := Scalar.indexCast v706
  let c0_522 : Index := 0#32
  ![4, v860.toNat, 0]
def k0_off76 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v890 : Index := Scalar.indexCast v332
  let c3_538 : Index := 3#32
  let c0_539 : Index := 0#32
  let c0_540 : Index := 0#32
  ![v890.toNat, 3, 0, 0]
def k0_off77 (arg17 : BitVec 32) (arg18 : BitVec 32) : Fin 3 → Nat :=
  let c5_544 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v900 : Index := Scalar.indexCast v709
  let c0_545 : Index := 0#32
  ![5, v900.toNat, 0]
def k0_off78 (arg17 : BitVec 32) (arg18 : BitVec 32) : Fin 3 → Nat :=
  let c5_546 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v903 : Index := Scalar.indexCast v706
  let c0_547 : Index := 0#32
  ![5, v903.toNat, 0]
def k0_off79 (arg17 : BitVec 32) (arg18 : BitVec 32) : Fin 3 → Nat :=
  let c2_560 : Index := 2#32
  let c0_561 : Index := 0#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v702 : BitVec 32 := Scalar.subi v332 v331
  let c256_i32_428 : BitVec 32 := 256#32
  let v703 : BitVec 32 := Scalar.muli v702 c256_i32_428
  let v704 : BitVec 32 := v703
  let v927 : Index := Scalar.indexCast v704
  ![2, 0, v927.toNat]
def k0_off80 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v933 : Index := Scalar.indexCast v332
  let c4_563 : Index := 4#32
  let c0_564 : Index := 0#32
  let c0_565 : Index := 0#32
  ![v933.toNat, 4, 0, 0]
def k0_off81 (arg17 : BitVec 32) (arg18 : BitVec 32) : Fin 3 → Nat :=
  let c6_569 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v943 : Index := Scalar.indexCast v709
  let c0_570 : Index := 0#32
  ![6, v943.toNat, 0]
def k0_off82 (arg17 : BitVec 32) (arg18 : BitVec 32) : Fin 3 → Nat :=
  let c6_571 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v946 : Index := Scalar.indexCast v706
  let c0_572 : Index := 0#32
  ![6, v946.toNat, 0]
def k0_off83 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v976 : Index := Scalar.indexCast v332
  let c5_588 : Index := 5#32
  let c0_589 : Index := 0#32
  let c0_590 : Index := 0#32
  ![v976.toNat, 5, 0, 0]
def k0_off84 (arg17 : BitVec 32) (arg18 : BitVec 32) : Fin 3 → Nat :=
  let c7_594 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v707 : BitVec 32 := Scalar.subi v698 v697
  let c256_i32_430 : BitVec 32 := 256#32
  let v708 : BitVec 32 := Scalar.muli v707 c256_i32_430
  let v709 : BitVec 32 := v708
  let v986 : Index := Scalar.indexCast v709
  let c0_595 : Index := 0#32
  ![7, v986.toNat, 0]
def k0_off85 (arg17 : BitVec 32) (arg18 : BitVec 32) : Fin 3 → Nat :=
  let c7_596 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c256_i32_429 : BitVec 32 := 256#32
  let v705 : BitVec 32 := Scalar.muli v698 c256_i32_429
  let v706 : BitVec 32 := v705
  let v989 : Index := Scalar.indexCast v706
  let c0_597 : Index := 0#32
  ![7, v989.toNat, 0]
def k0_off86 (arg17 : BitVec 32) (arg18 : BitVec 32) : Fin 3 → Nat :=
  let c3_610 : Index := 3#32
  let c0_611 : Index := 0#32
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let c0_i32_213 : BitVec 32 := 0#32
  let c1_i32_212 : BitVec 32 := 1#32
  let v330 : BitVec 32 := Scalar.addi arg18 c1_i32_212
  let v331 : BitVec 32 := Scalar.select v327 c0_i32_213 v330
  let v702 : BitVec 32 := Scalar.subi v332 v331
  let c256_i32_428 : BitVec 32 := 256#32
  let v703 : BitVec 32 := Scalar.muli v702 c256_i32_428
  let v704 : BitVec 32 := v703
  let v1013 : Index := Scalar.indexCast v704
  ![3, 0, v1013.toNat]
def k0_off87 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v1019 : Index := Scalar.indexCast v332
  let c6_613 : Index := 6#32
  let c0_614 : Index := 0#32
  let c0_615 : Index := 0#32
  ![v1019.toNat, 6, 0, 0]
def k0_off88 (arg17 : BitVec 32) (arg18 : BitVec 32) : Fin 4 → Nat :=
  let v327 : BitVec 1 := Scalar.cmpi .eq arg18 arg17
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v1049 : Index := Scalar.indexCast v332
  let c7_628 : Index := 7#32
  let c0_629 : Index := 0#32
  let c0_630 : Index := 0#32
  ![v1049.toNat, 7, 0, 0]
def k0_mult10 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v1068 : BitVec 32 := Scalar.subi v698 v697
  let c256_i32_640 : BitVec 32 := 256#32
  let v1069 : BitVec 32 := Scalar.muli v1068 c256_i32_640
  v1069
def k0_mult11 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  v1071
def k0_mult12 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  v1074
def k0_off89 (arg17 : BitVec 32) (arg18 : BitVec 32) : Fin 3 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c0_i32_643 : BitVec 32 := 0#32
  let v1076 : BitVec 1 := Scalar.cmpi .eq v1063 c0_i32_643
  let v1077 : BitVec 32 := Scalar.extui v1076
  let v1078 : Index := Scalar.indexCast v1077
  let c0_644 : Index := 0#32
  let c0_645 : Index := 0#32
  ![v1078.toNat, 0, 0]
def k0_off90 (arg17 : BitVec 32) (arg18 : BitVec 32) : Fin 3 → Nat :=
  let c0_646 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1081 : Index := Scalar.indexCast v1075
  let c0_647 : Index := 0#32
  ![0, v1081.toNat, 0]
def k0_off91 (arg17 : BitVec 32) (arg18 : BitVec 32) : Fin 3 → Nat :=
  let c0_648 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1084 : Index := Scalar.indexCast v1072
  let c0_649 : Index := 0#32
  ![0, v1084.toNat, 0]
def k0_off92 (arg17 : BitVec 32) (arg18 : BitVec 32) : Fin 3 → Nat :=
  let c1_656 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1094 : Index := Scalar.indexCast v1075
  let c0_657 : Index := 0#32
  ![1, v1094.toNat, 0]
def k0_off93 (arg17 : BitVec 32) (arg18 : BitVec 32) : Fin 3 → Nat :=
  let c1_658 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1097 : Index := Scalar.indexCast v1072
  let c0_659 : Index := 0#32
  ![1, v1097.toNat, 0]
def k0_off94 (arg17 : BitVec 32) (arg18 : BitVec 32) : Fin 3 → Nat :=
  let c0_672 : Index := 0#32
  let c0_673 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v1068 : BitVec 32 := Scalar.subi v698 v697
  let c256_i32_640 : BitVec 32 := 256#32
  let v1069 : BitVec 32 := Scalar.muli v1068 c256_i32_640
  let v1070 : BitVec 32 := v1069
  let v1121 : Index := Scalar.indexCast v1070
  ![0, 0, v1121.toNat]
def k0_off95 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1127 : Index := Scalar.indexCast v698
  let c0_675 : Index := 0#32
  let c0_676 : Index := 0#32
  let c0_677 : Index := 0#32
  ![v1127.toNat, 0, 0, 0]
def k0_off96 (arg17 : BitVec 32) (arg18 : BitVec 32) : Fin 3 → Nat :=
  let c2_681 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1137 : Index := Scalar.indexCast v1075
  let c0_682 : Index := 0#32
  ![2, v1137.toNat, 0]
def k0_off97 (arg17 : BitVec 32) (arg18 : BitVec 32) : Fin 3 → Nat :=
  let c2_683 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1140 : Index := Scalar.indexCast v1072
  let c0_684 : Index := 0#32
  ![2, v1140.toNat, 0]
def k0_off98 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1170 : Index := Scalar.indexCast v698
  let c1_700 : Index := 1#32
  let c0_701 : Index := 0#32
  let c0_702 : Index := 0#32
  ![v1170.toNat, 1, 0, 0]
def k0_off99 (arg17 : BitVec 32) (arg18 : BitVec 32) : Fin 3 → Nat :=
  let c3_706 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1180 : Index := Scalar.indexCast v1075
  let c0_707 : Index := 0#32
  ![3, v1180.toNat, 0]
def k0_off100 (arg17 : BitVec 32) (arg18 : BitVec 32) : Fin 3 → Nat :=
  let c3_708 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1183 : Index := Scalar.indexCast v1072
  let c0_709 : Index := 0#32
  ![3, v1183.toNat, 0]
def k0_off101 (arg17 : BitVec 32) (arg18 : BitVec 32) : Fin 3 → Nat :=
  let c1_722 : Index := 1#32
  let c0_723 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v1068 : BitVec 32 := Scalar.subi v698 v697
  let c256_i32_640 : BitVec 32 := 256#32
  let v1069 : BitVec 32 := Scalar.muli v1068 c256_i32_640
  let v1070 : BitVec 32 := v1069
  let v1207 : Index := Scalar.indexCast v1070
  ![1, 0, v1207.toNat]
def k0_off102 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1213 : Index := Scalar.indexCast v698
  let c2_725 : Index := 2#32
  let c0_726 : Index := 0#32
  let c0_727 : Index := 0#32
  ![v1213.toNat, 2, 0, 0]
def k0_off103 (arg17 : BitVec 32) (arg18 : BitVec 32) : Fin 3 → Nat :=
  let c4_731 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1223 : Index := Scalar.indexCast v1075
  let c0_732 : Index := 0#32
  ![4, v1223.toNat, 0]
def k0_off104 (arg17 : BitVec 32) (arg18 : BitVec 32) : Fin 3 → Nat :=
  let c4_733 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1226 : Index := Scalar.indexCast v1072
  let c0_734 : Index := 0#32
  ![4, v1226.toNat, 0]
def k0_off105 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1256 : Index := Scalar.indexCast v698
  let c3_750 : Index := 3#32
  let c0_751 : Index := 0#32
  let c0_752 : Index := 0#32
  ![v1256.toNat, 3, 0, 0]
def k0_off106 (arg17 : BitVec 32) (arg18 : BitVec 32) : Fin 3 → Nat :=
  let c5_756 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1266 : Index := Scalar.indexCast v1075
  let c0_757 : Index := 0#32
  ![5, v1266.toNat, 0]
def k0_off107 (arg17 : BitVec 32) (arg18 : BitVec 32) : Fin 3 → Nat :=
  let c5_758 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1269 : Index := Scalar.indexCast v1072
  let c0_759 : Index := 0#32
  ![5, v1269.toNat, 0]
def k0_off108 (arg17 : BitVec 32) (arg18 : BitVec 32) : Fin 3 → Nat :=
  let c2_772 : Index := 2#32
  let c0_773 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v1068 : BitVec 32 := Scalar.subi v698 v697
  let c256_i32_640 : BitVec 32 := 256#32
  let v1069 : BitVec 32 := Scalar.muli v1068 c256_i32_640
  let v1070 : BitVec 32 := v1069
  let v1293 : Index := Scalar.indexCast v1070
  ![2, 0, v1293.toNat]
def k0_off109 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1299 : Index := Scalar.indexCast v698
  let c4_775 : Index := 4#32
  let c0_776 : Index := 0#32
  let c0_777 : Index := 0#32
  ![v1299.toNat, 4, 0, 0]
def k0_off110 (arg17 : BitVec 32) (arg18 : BitVec 32) : Fin 3 → Nat :=
  let c6_781 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1309 : Index := Scalar.indexCast v1075
  let c0_782 : Index := 0#32
  ![6, v1309.toNat, 0]
def k0_off111 (arg17 : BitVec 32) (arg18 : BitVec 32) : Fin 3 → Nat :=
  let c6_783 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1312 : Index := Scalar.indexCast v1072
  let c0_784 : Index := 0#32
  ![6, v1312.toNat, 0]
def k0_off112 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1342 : Index := Scalar.indexCast v698
  let c5_800 : Index := 5#32
  let c0_801 : Index := 0#32
  let c0_802 : Index := 0#32
  ![v1342.toNat, 5, 0, 0]
def k0_off113 (arg17 : BitVec 32) (arg18 : BitVec 32) : Fin 3 → Nat :=
  let c7_806 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1073 : BitVec 32 := Scalar.subi v1064 v1063
  let c256_i32_642 : BitVec 32 := 256#32
  let v1074 : BitVec 32 := Scalar.muli v1073 c256_i32_642
  let v1075 : BitVec 32 := v1074
  let v1352 : Index := Scalar.indexCast v1075
  let c0_807 : Index := 0#32
  ![7, v1352.toNat, 0]
def k0_off114 (arg17 : BitVec 32) (arg18 : BitVec 32) : Fin 3 → Nat :=
  let c7_808 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c256_i32_641 : BitVec 32 := 256#32
  let v1071 : BitVec 32 := Scalar.muli v1064 c256_i32_641
  let v1072 : BitVec 32 := v1071
  let v1355 : Index := Scalar.indexCast v1072
  let c0_809 : Index := 0#32
  ![7, v1355.toNat, 0]
def k0_off115 (arg17 : BitVec 32) (arg18 : BitVec 32) : Fin 3 → Nat :=
  let c3_822 : Index := 3#32
  let c0_823 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let c0_i32_424 : BitVec 32 := 0#32
  let c1_i32_423 : BitVec 32 := 1#32
  let v696 : BitVec 32 := Scalar.addi v331 c1_i32_423
  let v697 : BitVec 32 := Scalar.select v693 c0_i32_424 v696
  let v1068 : BitVec 32 := Scalar.subi v698 v697
  let c256_i32_640 : BitVec 32 := 256#32
  let v1069 : BitVec 32 := Scalar.muli v1068 c256_i32_640
  let v1070 : BitVec 32 := v1069
  let v1379 : Index := Scalar.indexCast v1070
  ![3, 0, v1379.toNat]
def k0_off116 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1385 : Index := Scalar.indexCast v698
  let c6_825 : Index := 6#32
  let c0_826 : Index := 0#32
  let c0_827 : Index := 0#32
  ![v1385.toNat, 6, 0, 0]
def k0_off117 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1415 : Index := Scalar.indexCast v698
  let c7_840 : Index := 7#32
  let c0_841 : Index := 0#32
  let c0_842 : Index := 0#32
  ![v1415.toNat, 7, 0, 0]
def k0_mult13 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1434 : BitVec 32 := Scalar.subi v1064 v1063
  let c256_i32_852 : BitVec 32 := 256#32
  let v1435 : BitVec 32 := Scalar.muli v1434 c256_i32_852
  v1435
def k0_mult14 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  v1437
def k0_mult15 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  v1440
def k0_off118 (arg17 : BitVec 32) (arg18 : BitVec 32) : Fin 3 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c0_i32_855 : BitVec 32 := 0#32
  let v1442 : BitVec 1 := Scalar.cmpi .eq v1429 c0_i32_855
  let v1443 : BitVec 32 := Scalar.extui v1442
  let v1444 : Index := Scalar.indexCast v1443
  let c0_856 : Index := 0#32
  let c0_857 : Index := 0#32
  ![v1444.toNat, 0, 0]
def k0_off119 (arg17 : BitVec 32) (arg18 : BitVec 32) : Fin 3 → Nat :=
  let c0_858 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1447 : Index := Scalar.indexCast v1441
  let c0_859 : Index := 0#32
  ![0, v1447.toNat, 0]
def k0_off120 (arg17 : BitVec 32) (arg18 : BitVec 32) : Fin 3 → Nat :=
  let c0_860 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1450 : Index := Scalar.indexCast v1438
  let c0_861 : Index := 0#32
  ![0, v1450.toNat, 0]
def k0_off121 (arg17 : BitVec 32) (arg18 : BitVec 32) : Fin 3 → Nat :=
  let c1_868 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1460 : Index := Scalar.indexCast v1441
  let c0_869 : Index := 0#32
  ![1, v1460.toNat, 0]
def k0_off122 (arg17 : BitVec 32) (arg18 : BitVec 32) : Fin 3 → Nat :=
  let c1_870 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1463 : Index := Scalar.indexCast v1438
  let c0_871 : Index := 0#32
  ![1, v1463.toNat, 0]
def k0_off123 (arg17 : BitVec 32) (arg18 : BitVec 32) : Fin 3 → Nat :=
  let c0_884 : Index := 0#32
  let c0_885 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1434 : BitVec 32 := Scalar.subi v1064 v1063
  let c256_i32_852 : BitVec 32 := 256#32
  let v1435 : BitVec 32 := Scalar.muli v1434 c256_i32_852
  let v1436 : BitVec 32 := v1435
  let v1487 : Index := Scalar.indexCast v1436
  ![0, 0, v1487.toNat]
def k0_off124 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1493 : Index := Scalar.indexCast v1064
  let c0_887 : Index := 0#32
  let c0_888 : Index := 0#32
  let c0_889 : Index := 0#32
  ![v1493.toNat, 0, 0, 0]
def k0_off125 (arg17 : BitVec 32) (arg18 : BitVec 32) : Fin 3 → Nat :=
  let c2_893 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1503 : Index := Scalar.indexCast v1441
  let c0_894 : Index := 0#32
  ![2, v1503.toNat, 0]
def k0_off126 (arg17 : BitVec 32) (arg18 : BitVec 32) : Fin 3 → Nat :=
  let c2_895 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1506 : Index := Scalar.indexCast v1438
  let c0_896 : Index := 0#32
  ![2, v1506.toNat, 0]
def k0_off127 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1536 : Index := Scalar.indexCast v1064
  let c1_912 : Index := 1#32
  let c0_913 : Index := 0#32
  let c0_914 : Index := 0#32
  ![v1536.toNat, 1, 0, 0]
def k0_off128 (arg17 : BitVec 32) (arg18 : BitVec 32) : Fin 3 → Nat :=
  let c3_918 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1546 : Index := Scalar.indexCast v1441
  let c0_919 : Index := 0#32
  ![3, v1546.toNat, 0]
def k0_off129 (arg17 : BitVec 32) (arg18 : BitVec 32) : Fin 3 → Nat :=
  let c3_920 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1549 : Index := Scalar.indexCast v1438
  let c0_921 : Index := 0#32
  ![3, v1549.toNat, 0]
def k0_off130 (arg17 : BitVec 32) (arg18 : BitVec 32) : Fin 3 → Nat :=
  let c1_934 : Index := 1#32
  let c0_935 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1434 : BitVec 32 := Scalar.subi v1064 v1063
  let c256_i32_852 : BitVec 32 := 256#32
  let v1435 : BitVec 32 := Scalar.muli v1434 c256_i32_852
  let v1436 : BitVec 32 := v1435
  let v1573 : Index := Scalar.indexCast v1436
  ![1, 0, v1573.toNat]
def k0_off131 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1579 : Index := Scalar.indexCast v1064
  let c2_937 : Index := 2#32
  let c0_938 : Index := 0#32
  let c0_939 : Index := 0#32
  ![v1579.toNat, 2, 0, 0]
def k0_off132 (arg17 : BitVec 32) (arg18 : BitVec 32) : Fin 3 → Nat :=
  let c4_943 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1589 : Index := Scalar.indexCast v1441
  let c0_944 : Index := 0#32
  ![4, v1589.toNat, 0]
def k0_off133 (arg17 : BitVec 32) (arg18 : BitVec 32) : Fin 3 → Nat :=
  let c4_945 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1592 : Index := Scalar.indexCast v1438
  let c0_946 : Index := 0#32
  ![4, v1592.toNat, 0]
def k0_off134 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1622 : Index := Scalar.indexCast v1064
  let c3_962 : Index := 3#32
  let c0_963 : Index := 0#32
  let c0_964 : Index := 0#32
  ![v1622.toNat, 3, 0, 0]
def k0_off135 (arg17 : BitVec 32) (arg18 : BitVec 32) : Fin 3 → Nat :=
  let c5_968 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1632 : Index := Scalar.indexCast v1441
  let c0_969 : Index := 0#32
  ![5, v1632.toNat, 0]
def k0_off136 (arg17 : BitVec 32) (arg18 : BitVec 32) : Fin 3 → Nat :=
  let c5_970 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1635 : Index := Scalar.indexCast v1438
  let c0_971 : Index := 0#32
  ![5, v1635.toNat, 0]
def k0_off137 (arg17 : BitVec 32) (arg18 : BitVec 32) : Fin 3 → Nat :=
  let c2_984 : Index := 2#32
  let c0_985 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1434 : BitVec 32 := Scalar.subi v1064 v1063
  let c256_i32_852 : BitVec 32 := 256#32
  let v1435 : BitVec 32 := Scalar.muli v1434 c256_i32_852
  let v1436 : BitVec 32 := v1435
  let v1659 : Index := Scalar.indexCast v1436
  ![2, 0, v1659.toNat]
def k0_off138 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1665 : Index := Scalar.indexCast v1064
  let c4_987 : Index := 4#32
  let c0_988 : Index := 0#32
  let c0_989 : Index := 0#32
  ![v1665.toNat, 4, 0, 0]
def k0_off139 (arg17 : BitVec 32) (arg18 : BitVec 32) : Fin 3 → Nat :=
  let c6_993 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1675 : Index := Scalar.indexCast v1441
  let c0_994 : Index := 0#32
  ![6, v1675.toNat, 0]
def k0_off140 (arg17 : BitVec 32) (arg18 : BitVec 32) : Fin 3 → Nat :=
  let c6_995 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1678 : Index := Scalar.indexCast v1438
  let c0_996 : Index := 0#32
  ![6, v1678.toNat, 0]
def k0_off141 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1708 : Index := Scalar.indexCast v1064
  let c5_1012 : Index := 5#32
  let c0_1013 : Index := 0#32
  let c0_1014 : Index := 0#32
  ![v1708.toNat, 5, 0, 0]
def k0_off142 (arg17 : BitVec 32) (arg18 : BitVec 32) : Fin 3 → Nat :=
  let c7_1018 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1439 : BitVec 32 := Scalar.subi v1430 v1429
  let c256_i32_854 : BitVec 32 := 256#32
  let v1440 : BitVec 32 := Scalar.muli v1439 c256_i32_854
  let v1441 : BitVec 32 := v1440
  let v1718 : Index := Scalar.indexCast v1441
  let c0_1019 : Index := 0#32
  ![7, v1718.toNat, 0]
def k0_off143 (arg17 : BitVec 32) (arg18 : BitVec 32) : Fin 3 → Nat :=
  let c7_1020 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c256_i32_853 : BitVec 32 := 256#32
  let v1437 : BitVec 32 := Scalar.muli v1430 c256_i32_853
  let v1438 : BitVec 32 := v1437
  let v1721 : Index := Scalar.indexCast v1438
  let c0_1021 : Index := 0#32
  ![7, v1721.toNat, 0]
def k0_off144 (arg17 : BitVec 32) (arg18 : BitVec 32) : Fin 3 → Nat :=
  let c3_1034 : Index := 3#32
  let c0_1035 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let c0_i32_636 : BitVec 32 := 0#32
  let c1_i32_635 : BitVec 32 := 1#32
  let v1062 : BitVec 32 := Scalar.addi v697 c1_i32_635
  let v1063 : BitVec 32 := Scalar.select v1059 c0_i32_636 v1062
  let v1434 : BitVec 32 := Scalar.subi v1064 v1063
  let c256_i32_852 : BitVec 32 := 256#32
  let v1435 : BitVec 32 := Scalar.muli v1434 c256_i32_852
  let v1436 : BitVec 32 := v1435
  let v1745 : Index := Scalar.indexCast v1436
  ![3, 0, v1745.toNat]
def k0_off145 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1751 : Index := Scalar.indexCast v1064
  let c6_1037 : Index := 6#32
  let c0_1038 : Index := 0#32
  let c0_1039 : Index := 0#32
  ![v1751.toNat, 6, 0, 0]
def k0_off146 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1781 : Index := Scalar.indexCast v1064
  let c7_1052 : Index := 7#32
  let c0_1053 : Index := 0#32
  let c0_1054 : Index := 0#32
  ![v1781.toNat, 7, 0, 0]
def k0_mult16 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1800 : BitVec 32 := Scalar.subi v1430 v1429
  let c256_i32_1064 : BitVec 32 := 256#32
  let v1801 : BitVec 32 := Scalar.muli v1800 c256_i32_1064
  v1801
def k0_mult17 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  v1803
def k0_mult18 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  v1806
def k0_off147 (arg17 : BitVec 32) (arg18 : BitVec 32) : Fin 3 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c0_i32_1067 : BitVec 32 := 0#32
  let v1808 : BitVec 1 := Scalar.cmpi .eq v1795 c0_i32_1067
  let v1809 : BitVec 32 := Scalar.extui v1808
  let v1810 : Index := Scalar.indexCast v1809
  let c0_1068 : Index := 0#32
  let c0_1069 : Index := 0#32
  ![v1810.toNat, 0, 0]
def k0_off148 (arg17 : BitVec 32) (arg18 : BitVec 32) : Fin 3 → Nat :=
  let c0_1070 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v1813 : Index := Scalar.indexCast v1807
  let c0_1071 : Index := 0#32
  ![0, v1813.toNat, 0]
def k0_off149 (arg17 : BitVec 32) (arg18 : BitVec 32) : Fin 3 → Nat :=
  let c0_1072 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v1816 : Index := Scalar.indexCast v1804
  let c0_1073 : Index := 0#32
  ![0, v1816.toNat, 0]
def k0_off150 (arg17 : BitVec 32) (arg18 : BitVec 32) : Fin 3 → Nat :=
  let c1_1080 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v1826 : Index := Scalar.indexCast v1807
  let c0_1081 : Index := 0#32
  ![1, v1826.toNat, 0]
def k0_off151 (arg17 : BitVec 32) (arg18 : BitVec 32) : Fin 3 → Nat :=
  let c1_1082 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v1829 : Index := Scalar.indexCast v1804
  let c0_1083 : Index := 0#32
  ![1, v1829.toNat, 0]
def k0_off152 (arg17 : BitVec 32) (arg18 : BitVec 32) : Fin 3 → Nat :=
  let c0_1096 : Index := 0#32
  let c0_1097 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1800 : BitVec 32 := Scalar.subi v1430 v1429
  let c256_i32_1064 : BitVec 32 := 256#32
  let v1801 : BitVec 32 := Scalar.muli v1800 c256_i32_1064
  let v1802 : BitVec 32 := v1801
  let v1853 : Index := Scalar.indexCast v1802
  ![0, 0, v1853.toNat]
def k0_off153 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1859 : Index := Scalar.indexCast v1430
  let c0_1099 : Index := 0#32
  let c0_1100 : Index := 0#32
  let c0_1101 : Index := 0#32
  ![v1859.toNat, 0, 0, 0]
def k0_off154 (arg17 : BitVec 32) (arg18 : BitVec 32) : Fin 3 → Nat :=
  let c2_1105 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v1869 : Index := Scalar.indexCast v1807
  let c0_1106 : Index := 0#32
  ![2, v1869.toNat, 0]
def k0_off155 (arg17 : BitVec 32) (arg18 : BitVec 32) : Fin 3 → Nat :=
  let c2_1107 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v1872 : Index := Scalar.indexCast v1804
  let c0_1108 : Index := 0#32
  ![2, v1872.toNat, 0]
def k0_off156 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1902 : Index := Scalar.indexCast v1430
  let c1_1124 : Index := 1#32
  let c0_1125 : Index := 0#32
  let c0_1126 : Index := 0#32
  ![v1902.toNat, 1, 0, 0]
def k0_off157 (arg17 : BitVec 32) (arg18 : BitVec 32) : Fin 3 → Nat :=
  let c3_1130 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v1912 : Index := Scalar.indexCast v1807
  let c0_1131 : Index := 0#32
  ![3, v1912.toNat, 0]
def k0_off158 (arg17 : BitVec 32) (arg18 : BitVec 32) : Fin 3 → Nat :=
  let c3_1132 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v1915 : Index := Scalar.indexCast v1804
  let c0_1133 : Index := 0#32
  ![3, v1915.toNat, 0]
def k0_off159 (arg17 : BitVec 32) (arg18 : BitVec 32) : Fin 3 → Nat :=
  let c1_1146 : Index := 1#32
  let c0_1147 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1800 : BitVec 32 := Scalar.subi v1430 v1429
  let c256_i32_1064 : BitVec 32 := 256#32
  let v1801 : BitVec 32 := Scalar.muli v1800 c256_i32_1064
  let v1802 : BitVec 32 := v1801
  let v1939 : Index := Scalar.indexCast v1802
  ![1, 0, v1939.toNat]
def k0_off160 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1945 : Index := Scalar.indexCast v1430
  let c2_1149 : Index := 2#32
  let c0_1150 : Index := 0#32
  let c0_1151 : Index := 0#32
  ![v1945.toNat, 2, 0, 0]
def k0_off161 (arg17 : BitVec 32) (arg18 : BitVec 32) : Fin 3 → Nat :=
  let c4_1155 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v1955 : Index := Scalar.indexCast v1807
  let c0_1156 : Index := 0#32
  ![4, v1955.toNat, 0]
def k0_off162 (arg17 : BitVec 32) (arg18 : BitVec 32) : Fin 3 → Nat :=
  let c4_1157 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v1958 : Index := Scalar.indexCast v1804
  let c0_1158 : Index := 0#32
  ![4, v1958.toNat, 0]
def k0_off163 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1988 : Index := Scalar.indexCast v1430
  let c3_1174 : Index := 3#32
  let c0_1175 : Index := 0#32
  let c0_1176 : Index := 0#32
  ![v1988.toNat, 3, 0, 0]
def k0_off164 (arg17 : BitVec 32) (arg18 : BitVec 32) : Fin 3 → Nat :=
  let c5_1180 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v1998 : Index := Scalar.indexCast v1807
  let c0_1181 : Index := 0#32
  ![5, v1998.toNat, 0]
def k0_off165 (arg17 : BitVec 32) (arg18 : BitVec 32) : Fin 3 → Nat :=
  let c5_1182 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v2001 : Index := Scalar.indexCast v1804
  let c0_1183 : Index := 0#32
  ![5, v2001.toNat, 0]
def k0_off166 (arg17 : BitVec 32) (arg18 : BitVec 32) : Fin 3 → Nat :=
  let c2_1196 : Index := 2#32
  let c0_1197 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1800 : BitVec 32 := Scalar.subi v1430 v1429
  let c256_i32_1064 : BitVec 32 := 256#32
  let v1801 : BitVec 32 := Scalar.muli v1800 c256_i32_1064
  let v1802 : BitVec 32 := v1801
  let v2025 : Index := Scalar.indexCast v1802
  ![2, 0, v2025.toNat]
def k0_off167 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v2031 : Index := Scalar.indexCast v1430
  let c4_1199 : Index := 4#32
  let c0_1200 : Index := 0#32
  let c0_1201 : Index := 0#32
  ![v2031.toNat, 4, 0, 0]
def k0_off168 (arg17 : BitVec 32) (arg18 : BitVec 32) : Fin 3 → Nat :=
  let c6_1205 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v2041 : Index := Scalar.indexCast v1807
  let c0_1206 : Index := 0#32
  ![6, v2041.toNat, 0]
def k0_off169 (arg17 : BitVec 32) (arg18 : BitVec 32) : Fin 3 → Nat :=
  let c6_1207 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v2044 : Index := Scalar.indexCast v1804
  let c0_1208 : Index := 0#32
  ![6, v2044.toNat, 0]
def k0_off170 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v2074 : Index := Scalar.indexCast v1430
  let c5_1224 : Index := 5#32
  let c0_1225 : Index := 0#32
  let c0_1226 : Index := 0#32
  ![v2074.toNat, 5, 0, 0]
def k0_off171 (arg17 : BitVec 32) (arg18 : BitVec 32) : Fin 3 → Nat :=
  let c7_1230 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v1805 : BitVec 32 := Scalar.subi v1796 v1795
  let c256_i32_1066 : BitVec 32 := 256#32
  let v1806 : BitVec 32 := Scalar.muli v1805 c256_i32_1066
  let v1807 : BitVec 32 := v1806
  let v2084 : Index := Scalar.indexCast v1807
  let c0_1231 : Index := 0#32
  ![7, v2084.toNat, 0]
def k0_off172 (arg17 : BitVec 32) (arg18 : BitVec 32) : Fin 3 → Nat :=
  let c7_1232 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c256_i32_1065 : BitVec 32 := 256#32
  let v1803 : BitVec 32 := Scalar.muli v1796 c256_i32_1065
  let v1804 : BitVec 32 := v1803
  let v2087 : Index := Scalar.indexCast v1804
  let c0_1233 : Index := 0#32
  ![7, v2087.toNat, 0]
def k0_off173 (arg17 : BitVec 32) (arg18 : BitVec 32) : Fin 3 → Nat :=
  let c3_1246 : Index := 3#32
  let c0_1247 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let c0_i32_848 : BitVec 32 := 0#32
  let c1_i32_847 : BitVec 32 := 1#32
  let v1428 : BitVec 32 := Scalar.addi v1063 c1_i32_847
  let v1429 : BitVec 32 := Scalar.select v1425 c0_i32_848 v1428
  let v1800 : BitVec 32 := Scalar.subi v1430 v1429
  let c256_i32_1064 : BitVec 32 := 256#32
  let v1801 : BitVec 32 := Scalar.muli v1800 c256_i32_1064
  let v1802 : BitVec 32 := v1801
  let v2111 : Index := Scalar.indexCast v1802
  ![3, 0, v2111.toNat]
def k0_off174 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v2117 : Index := Scalar.indexCast v1430
  let c6_1249 : Index := 6#32
  let c0_1250 : Index := 0#32
  let c0_1251 : Index := 0#32
  ![v2117.toNat, 6, 0, 0]
def k0_off175 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v2147 : Index := Scalar.indexCast v1430
  let c7_1264 : Index := 7#32
  let c0_1265 : Index := 0#32
  let c0_1266 : Index := 0#32
  ![v2147.toNat, 7, 0, 0]
def k0_mult19 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v2166 : BitVec 32 := Scalar.subi v1796 v1795
  let c256_i32_1276 : BitVec 32 := 256#32
  let v2167 : BitVec 32 := Scalar.muli v2166 c256_i32_1276
  v2167
def k0_mult20 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  v2169
def k0_mult21 (arg17 : BitVec 32) (arg18 : BitVec 32) : BitVec 32 :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  v2172
def k0_off176 (arg17 : BitVec 32) (arg18 : BitVec 32) : Fin 3 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let c0_i32_1279 : BitVec 32 := 0#32
  let v2174 : BitVec 1 := Scalar.cmpi .eq v2161 c0_i32_1279
  let v2175 : BitVec 32 := Scalar.extui v2174
  let v2176 : Index := Scalar.indexCast v2175
  let c0_1280 : Index := 0#32
  let c0_1281 : Index := 0#32
  ![v2176.toNat, 0, 0]
def k0_off177 (arg17 : BitVec 32) (arg18 : BitVec 32) : Fin 3 → Nat :=
  let c0_1282 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2179 : Index := Scalar.indexCast v2173
  let c0_1283 : Index := 0#32
  ![0, v2179.toNat, 0]
def k0_off178 (arg17 : BitVec 32) (arg18 : BitVec 32) : Fin 3 → Nat :=
  let c0_1284 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2182 : Index := Scalar.indexCast v2170
  let c0_1285 : Index := 0#32
  ![0, v2182.toNat, 0]
def k0_off179 (arg17 : BitVec 32) (arg18 : BitVec 32) : Fin 3 → Nat :=
  let c1_1292 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2192 : Index := Scalar.indexCast v2173
  let c0_1293 : Index := 0#32
  ![1, v2192.toNat, 0]
def k0_off180 (arg17 : BitVec 32) (arg18 : BitVec 32) : Fin 3 → Nat :=
  let c1_1294 : Index := 1#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2195 : Index := Scalar.indexCast v2170
  let c0_1295 : Index := 0#32
  ![1, v2195.toNat, 0]
def k0_off181 (arg17 : BitVec 32) (arg18 : BitVec 32) : Fin 3 → Nat :=
  let c0_1308 : Index := 0#32
  let c0_1309 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v2166 : BitVec 32 := Scalar.subi v1796 v1795
  let c256_i32_1276 : BitVec 32 := 256#32
  let v2167 : BitVec 32 := Scalar.muli v2166 c256_i32_1276
  let v2168 : BitVec 32 := v2167
  let v2219 : Index := Scalar.indexCast v2168
  ![0, 0, v2219.toNat]
def k0_off182 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2225 : Index := Scalar.indexCast v1796
  let c0_1311 : Index := 0#32
  let c0_1312 : Index := 0#32
  let c0_1313 : Index := 0#32
  ![v2225.toNat, 0, 0, 0]
def k0_off183 (arg17 : BitVec 32) (arg18 : BitVec 32) : Fin 3 → Nat :=
  let c2_1317 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2235 : Index := Scalar.indexCast v2173
  let c0_1318 : Index := 0#32
  ![2, v2235.toNat, 0]
def k0_off184 (arg17 : BitVec 32) (arg18 : BitVec 32) : Fin 3 → Nat :=
  let c2_1319 : Index := 2#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2238 : Index := Scalar.indexCast v2170
  let c0_1320 : Index := 0#32
  ![2, v2238.toNat, 0]
def k0_off185 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2268 : Index := Scalar.indexCast v1796
  let c1_1336 : Index := 1#32
  let c0_1337 : Index := 0#32
  let c0_1338 : Index := 0#32
  ![v2268.toNat, 1, 0, 0]
def k0_off186 (arg17 : BitVec 32) (arg18 : BitVec 32) : Fin 3 → Nat :=
  let c3_1342 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2278 : Index := Scalar.indexCast v2173
  let c0_1343 : Index := 0#32
  ![3, v2278.toNat, 0]
def k0_off187 (arg17 : BitVec 32) (arg18 : BitVec 32) : Fin 3 → Nat :=
  let c3_1344 : Index := 3#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2281 : Index := Scalar.indexCast v2170
  let c0_1345 : Index := 0#32
  ![3, v2281.toNat, 0]
def k0_off188 (arg17 : BitVec 32) (arg18 : BitVec 32) : Fin 3 → Nat :=
  let c1_1358 : Index := 1#32
  let c0_1359 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v2166 : BitVec 32 := Scalar.subi v1796 v1795
  let c256_i32_1276 : BitVec 32 := 256#32
  let v2167 : BitVec 32 := Scalar.muli v2166 c256_i32_1276
  let v2168 : BitVec 32 := v2167
  let v2305 : Index := Scalar.indexCast v2168
  ![1, 0, v2305.toNat]
def k0_off189 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2311 : Index := Scalar.indexCast v1796
  let c2_1361 : Index := 2#32
  let c0_1362 : Index := 0#32
  let c0_1363 : Index := 0#32
  ![v2311.toNat, 2, 0, 0]
def k0_off190 (arg17 : BitVec 32) (arg18 : BitVec 32) : Fin 3 → Nat :=
  let c4_1367 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2321 : Index := Scalar.indexCast v2173
  let c0_1368 : Index := 0#32
  ![4, v2321.toNat, 0]
def k0_off191 (arg17 : BitVec 32) (arg18 : BitVec 32) : Fin 3 → Nat :=
  let c4_1369 : Index := 4#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2324 : Index := Scalar.indexCast v2170
  let c0_1370 : Index := 0#32
  ![4, v2324.toNat, 0]
def k0_off192 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2354 : Index := Scalar.indexCast v1796
  let c3_1386 : Index := 3#32
  let c0_1387 : Index := 0#32
  let c0_1388 : Index := 0#32
  ![v2354.toNat, 3, 0, 0]
def k0_off193 (arg17 : BitVec 32) (arg18 : BitVec 32) : Fin 3 → Nat :=
  let c5_1392 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2364 : Index := Scalar.indexCast v2173
  let c0_1393 : Index := 0#32
  ![5, v2364.toNat, 0]
def k0_off194 (arg17 : BitVec 32) (arg18 : BitVec 32) : Fin 3 → Nat :=
  let c5_1394 : Index := 5#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2367 : Index := Scalar.indexCast v2170
  let c0_1395 : Index := 0#32
  ![5, v2367.toNat, 0]
def k0_off195 (arg17 : BitVec 32) (arg18 : BitVec 32) : Fin 3 → Nat :=
  let c2_1408 : Index := 2#32
  let c0_1409 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v2166 : BitVec 32 := Scalar.subi v1796 v1795
  let c256_i32_1276 : BitVec 32 := 256#32
  let v2167 : BitVec 32 := Scalar.muli v2166 c256_i32_1276
  let v2168 : BitVec 32 := v2167
  let v2391 : Index := Scalar.indexCast v2168
  ![2, 0, v2391.toNat]
def k0_off196 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2397 : Index := Scalar.indexCast v1796
  let c4_1411 : Index := 4#32
  let c0_1412 : Index := 0#32
  let c0_1413 : Index := 0#32
  ![v2397.toNat, 4, 0, 0]
def k0_off197 (arg17 : BitVec 32) (arg18 : BitVec 32) : Fin 3 → Nat :=
  let c6_1417 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2407 : Index := Scalar.indexCast v2173
  let c0_1418 : Index := 0#32
  ![6, v2407.toNat, 0]
def k0_off198 (arg17 : BitVec 32) (arg18 : BitVec 32) : Fin 3 → Nat :=
  let c6_1419 : Index := 6#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2410 : Index := Scalar.indexCast v2170
  let c0_1420 : Index := 0#32
  ![6, v2410.toNat, 0]
def k0_off199 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2440 : Index := Scalar.indexCast v1796
  let c5_1436 : Index := 5#32
  let c0_1437 : Index := 0#32
  let c0_1438 : Index := 0#32
  ![v2440.toNat, 5, 0, 0]
def k0_off200 (arg17 : BitVec 32) (arg18 : BitVec 32) : Fin 3 → Nat :=
  let c7_1442 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c0_i32_1272 : BitVec 32 := 0#32
  let c1_i32_1271 : BitVec 32 := 1#32
  let v2160 : BitVec 32 := Scalar.addi v1795 c1_i32_1271
  let v2161 : BitVec 32 := Scalar.select v2157 c0_i32_1272 v2160
  let v2171 : BitVec 32 := Scalar.subi v2162 v2161
  let c256_i32_1278 : BitVec 32 := 256#32
  let v2172 : BitVec 32 := Scalar.muli v2171 c256_i32_1278
  let v2173 : BitVec 32 := v2172
  let v2450 : Index := Scalar.indexCast v2173
  let c0_1443 : Index := 0#32
  ![7, v2450.toNat, 0]
def k0_off201 (arg17 : BitVec 32) (arg18 : BitVec 32) : Fin 3 → Nat :=
  let c7_1444 : Index := 7#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2157 : BitVec 1 := Scalar.cmpi .eq v1795 v1796
  let c1_i32_1270 : BitVec 32 := 1#32
  let v2158 : BitVec 32 := Scalar.addi v1796 c1_i32_1270
  let v2159 : BitVec 32 := Scalar.select v2157 v2158 v1796
  let c7_i32_1273 : BitVec 32 := 7#32
  let v2162 : BitVec 32 := Scalar.minsi v2159 c7_i32_1273
  let c256_i32_1277 : BitVec 32 := 256#32
  let v2169 : BitVec 32 := Scalar.muli v2162 c256_i32_1277
  let v2170 : BitVec 32 := v2169
  let v2453 : Index := Scalar.indexCast v2170
  let c0_1445 : Index := 0#32
  ![7, v2453.toNat, 0]
def k0_off202 (arg17 : BitVec 32) (arg18 : BitVec 32) : Fin 3 → Nat :=
  let c3_1458 : Index := 3#32
  let c0_1459 : Index := 0#32
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let c0_i32_1060 : BitVec 32 := 0#32
  let c1_i32_1059 : BitVec 32 := 1#32
  let v1794 : BitVec 32 := Scalar.addi v1429 c1_i32_1059
  let v1795 : BitVec 32 := Scalar.select v1791 c0_i32_1060 v1794
  let v2166 : BitVec 32 := Scalar.subi v1796 v1795
  let c256_i32_1276 : BitVec 32 := 256#32
  let v2167 : BitVec 32 := Scalar.muli v2166 c256_i32_1276
  let v2168 : BitVec 32 := v2167
  let v2477 : Index := Scalar.indexCast v2168
  ![3, 0, v2477.toNat]
def k0_off203 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2483 : Index := Scalar.indexCast v1796
  let c6_1461 : Index := 6#32
  let c0_1462 : Index := 0#32
  let c0_1463 : Index := 0#32
  ![v2483.toNat, 6, 0, 0]
def k0_off204 (arg17 : BitVec 32) (arg18 : BitVec 32) : Fin 4 → Nat :=
  let v327 : BitVec 1 := Scalar.cmpi .eq arg18 arg17
  let c0_i32_213 : BitVec 32 := 0#32
  let c1_i32_212 : BitVec 32 := 1#32
  let v330 : BitVec 32 := Scalar.addi arg18 c1_i32_212
  let v331 : BitVec 32 := Scalar.select v327 c0_i32_213 v330
  let c1_i32_211 : BitVec 32 := 1#32
  let v328 : BitVec 32 := Scalar.addi arg17 c1_i32_211
  let v329 : BitVec 32 := Scalar.select v327 v328 arg17
  let c7_i32 : BitVec 32 := 7#32
  let v332 : BitVec 32 := Scalar.minsi v329 c7_i32
  let v693 : BitVec 1 := Scalar.cmpi .eq v331 v332
  let c0_i32_424 : BitVec 32 := 0#32
  let c1_i32_423 : BitVec 32 := 1#32
  let v696 : BitVec 32 := Scalar.addi v331 c1_i32_423
  let v697 : BitVec 32 := Scalar.select v693 c0_i32_424 v696
  let c1_i32_422 : BitVec 32 := 1#32
  let v694 : BitVec 32 := Scalar.addi v332 c1_i32_422
  let v695 : BitVec 32 := Scalar.select v693 v694 v332
  let c7_i32_425 : BitVec 32 := 7#32
  let v698 : BitVec 32 := Scalar.minsi v695 c7_i32_425
  let v1059 : BitVec 1 := Scalar.cmpi .eq v697 v698
  let c0_i32_636 : BitVec 32 := 0#32
  let c1_i32_635 : BitVec 32 := 1#32
  let v1062 : BitVec 32 := Scalar.addi v697 c1_i32_635
  let v1063 : BitVec 32 := Scalar.select v1059 c0_i32_636 v1062
  let c1_i32_634 : BitVec 32 := 1#32
  let v1060 : BitVec 32 := Scalar.addi v698 c1_i32_634
  let v1061 : BitVec 32 := Scalar.select v1059 v1060 v698
  let c7_i32_637 : BitVec 32 := 7#32
  let v1064 : BitVec 32 := Scalar.minsi v1061 c7_i32_637
  let v1425 : BitVec 1 := Scalar.cmpi .eq v1063 v1064
  let c0_i32_848 : BitVec 32 := 0#32
  let c1_i32_847 : BitVec 32 := 1#32
  let v1428 : BitVec 32 := Scalar.addi v1063 c1_i32_847
  let v1429 : BitVec 32 := Scalar.select v1425 c0_i32_848 v1428
  let c1_i32_846 : BitVec 32 := 1#32
  let v1426 : BitVec 32 := Scalar.addi v1064 c1_i32_846
  let v1427 : BitVec 32 := Scalar.select v1425 v1426 v1064
  let c7_i32_849 : BitVec 32 := 7#32
  let v1430 : BitVec 32 := Scalar.minsi v1427 c7_i32_849
  let v1791 : BitVec 1 := Scalar.cmpi .eq v1429 v1430
  let c1_i32_1058 : BitVec 32 := 1#32
  let v1792 : BitVec 32 := Scalar.addi v1430 c1_i32_1058
  let v1793 : BitVec 32 := Scalar.select v1791 v1792 v1430
  let c7_i32_1061 : BitVec 32 := 7#32
  let v1796 : BitVec 32 := Scalar.minsi v1793 c7_i32_1061
  let v2513 : Index := Scalar.indexCast v1796
  let c7_1476 : Index := 7#32
  let c0_1477 : Index := 0#32
  let c0_1478 : Index := 0#32
  ![v2513.toNat, 7, 0, 0]

def k0_chk1_0 (arg17 : BitVec 32) (arg18 : BitVec 32) : Prop :=
  (256 ∣ (k0_mult4 arg17 arg18).toNat) ∧
  (256 ∣ (k0_mult5 arg17 arg18).toNat) ∧
  (256 ∣ (k0_mult6 arg17 arg18).toNat) ∧
  (∀ a, (k0_off31 arg17 arg18) a + S1x256x256.size a ≤ S2x256x256.size a) ∧
  (∀ a, (k0_off32 arg17 arg18) a + S1x256x128.size a ≤ S8x2048x128.size a) ∧
  (∀ a, (k0_off33 arg17 arg18) a + S1x256x128.size a ≤ S8x2048x128.size a) ∧
  (∀ a, (k0_off34 arg17 arg18) a + S1x256x128.size a ≤ S8x2048x128.size a) ∧
  (∀ a, (k0_off35 arg17 arg18) a + S1x256x128.size a ≤ S8x2048x128.size a) ∧
  (∀ a, (k0_off36 arg17 arg18) a + S1x144x256.size a ≤ S4x144x2048.size a) ∧
  (∀ a, (k0_off38 arg17 arg18) a + S1x256x128.size a ≤ S8x2048x128.size a) ∧
  (∀ a, (k0_off39 arg17 arg18) a + S1x256x128.size a ≤ S8x2048x128.size a) ∧
  (∀ a, (k0_off41 arg17 arg18) a + S1x256x128.size a ≤ S8x2048x128.size a) ∧
  (∀ a, (k0_off42 arg17 arg18) a + S1x256x128.size a ≤ S8x2048x128.size a) ∧
  (∀ a, (k0_off43 arg17 arg18) a + S1x144x256.size a ≤ S4x144x2048.size a) ∧
  (∀ a, (k0_off45 arg17 arg18) a + S1x256x128.size a ≤ S8x2048x128.size a) ∧
  (∀ a, (k0_off46 arg17 arg18) a + S1x256x128.size a ≤ S8x2048x128.size a) ∧
  (∀ a, (k0_off48 arg17 arg18) a + S1x256x128.size a ≤ S8x2048x128.size a) ∧
  (∀ a, (k0_off49 arg17 arg18) a + S1x256x128.size a ≤ S8x2048x128.size a) ∧
  (∀ a, (k0_off50 arg17 arg18) a + S1x144x256.size a ≤ S4x144x2048.size a) ∧
  (∀ a, (k0_off52 arg17 arg18) a + S1x256x128.size a ≤ S8x2048x128.size a) ∧
  (∀ a, (k0_off53 arg17 arg18) a + S1x256x128.size a ≤ S8x2048x128.size a) ∧
  (∀ a, (k0_off55 arg17 arg18) a + S1x256x128.size a ≤ S8x2048x128.size a) ∧
  (∀ a, (k0_off56 arg17 arg18) a + S1x256x128.size a ≤ S8x2048x128.size a) ∧
  (∀ a, (k0_off57 arg17 arg18) a + S1x144x256.size a ≤ S4x144x2048.size a) ∧
  (256 ∣ (k0_mult7 arg17 arg18).toNat) ∧
  (256 ∣ (k0_mult8 arg17 arg18).toNat) ∧
  (256 ∣ (k0_mult9 arg17 arg18).toNat) ∧
  (∀ a, (k0_off60 arg17 arg18) a + S1x256x256.size a ≤ S2x256x256.size a) ∧
  (∀ a, (k0_off61 arg17 arg18) a + S1x256x128.size a ≤ S8x2048x128.size a) ∧
  (∀ a, (k0_off62 arg17 arg18) a + S1x256x128.size a ≤ S8x2048x128.size a) ∧
  (∀ a, (k0_off63 arg17 arg18) a + S1x256x128.size a ≤ S8x2048x128.size a) ∧
  (∀ a, (k0_off64 arg17 arg18) a + S1x256x128.size a ≤ S8x2048x128.size a)
def k0_chk1_1 (arg17 : BitVec 32) (arg18 : BitVec 32) : Prop :=
  (∀ a, (k0_off65 arg17 arg18) a + S1x144x256.size a ≤ S4x144x2048.size a) ∧
  (∀ a, (k0_off66 arg17 arg18) a + S1x1x144x256.size a ≤ S8x8x144x256.size a) ∧
  (∀ a, (k0_off67 arg17 arg18) a + S1x256x128.size a ≤ S8x2048x128.size a) ∧
  (∀ a, (k0_off68 arg17 arg18) a + S1x256x128.size a ≤ S8x2048x128.size a) ∧
  (∀ a, (k0_off69 arg17 arg18) a + S1x1x144x256.size a ≤ S8x8x144x256.size a) ∧
  (∀ a, (k0_off70 arg17 arg18) a + S1x256x128.size a ≤ S8x2048x128.size a) ∧
  (∀ a, (k0_off71 arg17 arg18) a + S1x256x128.size a ≤ S8x2048x128.size a) ∧
  (∀ a, (k0_off72 arg17 arg18) a + S1x144x256.size a ≤ S4x144x2048.size a) ∧
  (∀ a, (k0_off73 arg17 arg18) a + S1x1x144x256.size a ≤ S8x8x144x256.size a) ∧
  (∀ a, (k0_off74 arg17 arg18) a + S1x256x128.size a ≤ S8x2048x128.size a) ∧
  (∀ a, (k0_off75 arg17 arg18) a + S1x256x128.size a ≤ S8x2048x128.size a) ∧
  (∀ a, (k0_off76 arg17 arg18) a + S1x1x144x256.size a ≤ S8x8x144x256.size a) ∧
  (∀ a, (k0_off77 arg17 arg18) a + S1x256x128.size a ≤ S8x2048x128.size a) ∧
  (∀ a, (k0_off78 arg17 arg18) a + S1x256x128.size a ≤ S8x2048x128.size a) ∧
  (∀ a, (k0_off79 arg17 arg18) a + S1x144x256.size a ≤ S4x144x2048.size a) ∧
  (∀ a, (k0_off80 arg17 arg18) a + S1x1x144x256.size a ≤ S8x8x144x256.size a) ∧
  (∀ a, (k0_off81 arg17 arg18) a + S1x256x128.size a ≤ S8x2048x128.size a) ∧
  (∀ a, (k0_off82 arg17 arg18) a + S1x256x128.size a ≤ S8x2048x128.size a) ∧
  (∀ a, (k0_off83 arg17 arg18) a + S1x1x144x256.size a ≤ S8x8x144x256.size a) ∧
  (∀ a, (k0_off84 arg17 arg18) a + S1x256x128.size a ≤ S8x2048x128.size a) ∧
  (∀ a, (k0_off85 arg17 arg18) a + S1x256x128.size a ≤ S8x2048x128.size a) ∧
  (∀ a, (k0_off86 arg17 arg18) a + S1x144x256.size a ≤ S4x144x2048.size a) ∧
  (∀ a, (k0_off87 arg17 arg18) a + S1x1x144x256.size a ≤ S8x8x144x256.size a) ∧
  (∀ a, (k0_off88 arg17 arg18) a + S1x1x144x256.size a ≤ S8x8x144x256.size a) ∧
  (256 ∣ (k0_mult10 arg17 arg18).toNat) ∧
  (256 ∣ (k0_mult11 arg17 arg18).toNat) ∧
  (256 ∣ (k0_mult12 arg17 arg18).toNat) ∧
  (∀ a, (k0_off89 arg17 arg18) a + S1x256x256.size a ≤ S2x256x256.size a) ∧
  (∀ a, (k0_off90 arg17 arg18) a + S1x256x128.size a ≤ S8x2048x128.size a) ∧
  (∀ a, (k0_off91 arg17 arg18) a + S1x256x128.size a ≤ S8x2048x128.size a) ∧
  (∀ a, (k0_off92 arg17 arg18) a + S1x256x128.size a ≤ S8x2048x128.size a) ∧
  (∀ a, (k0_off93 arg17 arg18) a + S1x256x128.size a ≤ S8x2048x128.size a)
def k0_chk1_2 (arg17 : BitVec 32) (arg18 : BitVec 32) : Prop :=
  (∀ a, (k0_off94 arg17 arg18) a + S1x144x256.size a ≤ S4x144x2048.size a) ∧
  (∀ a, (k0_off95 arg17 arg18) a + S1x1x144x256.size a ≤ S8x8x144x256.size a) ∧
  (∀ a, (k0_off96 arg17 arg18) a + S1x256x128.size a ≤ S8x2048x128.size a) ∧
  (∀ a, (k0_off97 arg17 arg18) a + S1x256x128.size a ≤ S8x2048x128.size a) ∧
  (∀ a, (k0_off98 arg17 arg18) a + S1x1x144x256.size a ≤ S8x8x144x256.size a) ∧
  (∀ a, (k0_off99 arg17 arg18) a + S1x256x128.size a ≤ S8x2048x128.size a) ∧
  (∀ a, (k0_off100 arg17 arg18) a + S1x256x128.size a ≤ S8x2048x128.size a) ∧
  (∀ a, (k0_off101 arg17 arg18) a + S1x144x256.size a ≤ S4x144x2048.size a) ∧
  (∀ a, (k0_off102 arg17 arg18) a + S1x1x144x256.size a ≤ S8x8x144x256.size a) ∧
  (∀ a, (k0_off103 arg17 arg18) a + S1x256x128.size a ≤ S8x2048x128.size a) ∧
  (∀ a, (k0_off104 arg17 arg18) a + S1x256x128.size a ≤ S8x2048x128.size a) ∧
  (∀ a, (k0_off105 arg17 arg18) a + S1x1x144x256.size a ≤ S8x8x144x256.size a) ∧
  (∀ a, (k0_off106 arg17 arg18) a + S1x256x128.size a ≤ S8x2048x128.size a) ∧
  (∀ a, (k0_off107 arg17 arg18) a + S1x256x128.size a ≤ S8x2048x128.size a) ∧
  (∀ a, (k0_off108 arg17 arg18) a + S1x144x256.size a ≤ S4x144x2048.size a) ∧
  (∀ a, (k0_off109 arg17 arg18) a + S1x1x144x256.size a ≤ S8x8x144x256.size a) ∧
  (∀ a, (k0_off110 arg17 arg18) a + S1x256x128.size a ≤ S8x2048x128.size a) ∧
  (∀ a, (k0_off111 arg17 arg18) a + S1x256x128.size a ≤ S8x2048x128.size a) ∧
  (∀ a, (k0_off112 arg17 arg18) a + S1x1x144x256.size a ≤ S8x8x144x256.size a) ∧
  (∀ a, (k0_off113 arg17 arg18) a + S1x256x128.size a ≤ S8x2048x128.size a) ∧
  (∀ a, (k0_off114 arg17 arg18) a + S1x256x128.size a ≤ S8x2048x128.size a) ∧
  (∀ a, (k0_off115 arg17 arg18) a + S1x144x256.size a ≤ S4x144x2048.size a) ∧
  (∀ a, (k0_off116 arg17 arg18) a + S1x1x144x256.size a ≤ S8x8x144x256.size a) ∧
  (∀ a, (k0_off117 arg17 arg18) a + S1x1x144x256.size a ≤ S8x8x144x256.size a) ∧
  (256 ∣ (k0_mult13 arg17 arg18).toNat) ∧
  (256 ∣ (k0_mult14 arg17 arg18).toNat) ∧
  (256 ∣ (k0_mult15 arg17 arg18).toNat) ∧
  (∀ a, (k0_off118 arg17 arg18) a + S1x256x256.size a ≤ S2x256x256.size a) ∧
  (∀ a, (k0_off119 arg17 arg18) a + S1x256x128.size a ≤ S8x2048x128.size a) ∧
  (∀ a, (k0_off120 arg17 arg18) a + S1x256x128.size a ≤ S8x2048x128.size a) ∧
  (∀ a, (k0_off121 arg17 arg18) a + S1x256x128.size a ≤ S8x2048x128.size a) ∧
  (∀ a, (k0_off122 arg17 arg18) a + S1x256x128.size a ≤ S8x2048x128.size a)
def k0_chk1_3 (arg17 : BitVec 32) (arg18 : BitVec 32) : Prop :=
  (∀ a, (k0_off123 arg17 arg18) a + S1x144x256.size a ≤ S4x144x2048.size a) ∧
  (∀ a, (k0_off124 arg17 arg18) a + S1x1x144x256.size a ≤ S8x8x144x256.size a) ∧
  (∀ a, (k0_off125 arg17 arg18) a + S1x256x128.size a ≤ S8x2048x128.size a) ∧
  (∀ a, (k0_off126 arg17 arg18) a + S1x256x128.size a ≤ S8x2048x128.size a) ∧
  (∀ a, (k0_off127 arg17 arg18) a + S1x1x144x256.size a ≤ S8x8x144x256.size a) ∧
  (∀ a, (k0_off128 arg17 arg18) a + S1x256x128.size a ≤ S8x2048x128.size a) ∧
  (∀ a, (k0_off129 arg17 arg18) a + S1x256x128.size a ≤ S8x2048x128.size a) ∧
  (∀ a, (k0_off130 arg17 arg18) a + S1x144x256.size a ≤ S4x144x2048.size a) ∧
  (∀ a, (k0_off131 arg17 arg18) a + S1x1x144x256.size a ≤ S8x8x144x256.size a) ∧
  (∀ a, (k0_off132 arg17 arg18) a + S1x256x128.size a ≤ S8x2048x128.size a) ∧
  (∀ a, (k0_off133 arg17 arg18) a + S1x256x128.size a ≤ S8x2048x128.size a) ∧
  (∀ a, (k0_off134 arg17 arg18) a + S1x1x144x256.size a ≤ S8x8x144x256.size a) ∧
  (∀ a, (k0_off135 arg17 arg18) a + S1x256x128.size a ≤ S8x2048x128.size a) ∧
  (∀ a, (k0_off136 arg17 arg18) a + S1x256x128.size a ≤ S8x2048x128.size a) ∧
  (∀ a, (k0_off137 arg17 arg18) a + S1x144x256.size a ≤ S4x144x2048.size a) ∧
  (∀ a, (k0_off138 arg17 arg18) a + S1x1x144x256.size a ≤ S8x8x144x256.size a) ∧
  (∀ a, (k0_off139 arg17 arg18) a + S1x256x128.size a ≤ S8x2048x128.size a) ∧
  (∀ a, (k0_off140 arg17 arg18) a + S1x256x128.size a ≤ S8x2048x128.size a) ∧
  (∀ a, (k0_off141 arg17 arg18) a + S1x1x144x256.size a ≤ S8x8x144x256.size a) ∧
  (∀ a, (k0_off142 arg17 arg18) a + S1x256x128.size a ≤ S8x2048x128.size a) ∧
  (∀ a, (k0_off143 arg17 arg18) a + S1x256x128.size a ≤ S8x2048x128.size a) ∧
  (∀ a, (k0_off144 arg17 arg18) a + S1x144x256.size a ≤ S4x144x2048.size a) ∧
  (∀ a, (k0_off145 arg17 arg18) a + S1x1x144x256.size a ≤ S8x8x144x256.size a) ∧
  (∀ a, (k0_off146 arg17 arg18) a + S1x1x144x256.size a ≤ S8x8x144x256.size a) ∧
  (256 ∣ (k0_mult16 arg17 arg18).toNat) ∧
  (256 ∣ (k0_mult17 arg17 arg18).toNat) ∧
  (256 ∣ (k0_mult18 arg17 arg18).toNat) ∧
  (∀ a, (k0_off147 arg17 arg18) a + S1x256x256.size a ≤ S2x256x256.size a) ∧
  (∀ a, (k0_off148 arg17 arg18) a + S1x256x128.size a ≤ S8x2048x128.size a) ∧
  (∀ a, (k0_off149 arg17 arg18) a + S1x256x128.size a ≤ S8x2048x128.size a) ∧
  (∀ a, (k0_off150 arg17 arg18) a + S1x256x128.size a ≤ S8x2048x128.size a) ∧
  (∀ a, (k0_off151 arg17 arg18) a + S1x256x128.size a ≤ S8x2048x128.size a)
def k0_chk1_4 (arg17 : BitVec 32) (arg18 : BitVec 32) : Prop :=
  (∀ a, (k0_off152 arg17 arg18) a + S1x144x256.size a ≤ S4x144x2048.size a) ∧
  (∀ a, (k0_off153 arg17 arg18) a + S1x1x144x256.size a ≤ S8x8x144x256.size a) ∧
  (∀ a, (k0_off154 arg17 arg18) a + S1x256x128.size a ≤ S8x2048x128.size a) ∧
  (∀ a, (k0_off155 arg17 arg18) a + S1x256x128.size a ≤ S8x2048x128.size a) ∧
  (∀ a, (k0_off156 arg17 arg18) a + S1x1x144x256.size a ≤ S8x8x144x256.size a) ∧
  (∀ a, (k0_off157 arg17 arg18) a + S1x256x128.size a ≤ S8x2048x128.size a) ∧
  (∀ a, (k0_off158 arg17 arg18) a + S1x256x128.size a ≤ S8x2048x128.size a) ∧
  (∀ a, (k0_off159 arg17 arg18) a + S1x144x256.size a ≤ S4x144x2048.size a) ∧
  (∀ a, (k0_off160 arg17 arg18) a + S1x1x144x256.size a ≤ S8x8x144x256.size a) ∧
  (∀ a, (k0_off161 arg17 arg18) a + S1x256x128.size a ≤ S8x2048x128.size a) ∧
  (∀ a, (k0_off162 arg17 arg18) a + S1x256x128.size a ≤ S8x2048x128.size a) ∧
  (∀ a, (k0_off163 arg17 arg18) a + S1x1x144x256.size a ≤ S8x8x144x256.size a) ∧
  (∀ a, (k0_off164 arg17 arg18) a + S1x256x128.size a ≤ S8x2048x128.size a) ∧
  (∀ a, (k0_off165 arg17 arg18) a + S1x256x128.size a ≤ S8x2048x128.size a) ∧
  (∀ a, (k0_off166 arg17 arg18) a + S1x144x256.size a ≤ S4x144x2048.size a) ∧
  (∀ a, (k0_off167 arg17 arg18) a + S1x1x144x256.size a ≤ S8x8x144x256.size a) ∧
  (∀ a, (k0_off168 arg17 arg18) a + S1x256x128.size a ≤ S8x2048x128.size a) ∧
  (∀ a, (k0_off169 arg17 arg18) a + S1x256x128.size a ≤ S8x2048x128.size a) ∧
  (∀ a, (k0_off170 arg17 arg18) a + S1x1x144x256.size a ≤ S8x8x144x256.size a) ∧
  (∀ a, (k0_off171 arg17 arg18) a + S1x256x128.size a ≤ S8x2048x128.size a) ∧
  (∀ a, (k0_off172 arg17 arg18) a + S1x256x128.size a ≤ S8x2048x128.size a) ∧
  (∀ a, (k0_off173 arg17 arg18) a + S1x144x256.size a ≤ S4x144x2048.size a) ∧
  (∀ a, (k0_off174 arg17 arg18) a + S1x1x144x256.size a ≤ S8x8x144x256.size a) ∧
  (∀ a, (k0_off175 arg17 arg18) a + S1x1x144x256.size a ≤ S8x8x144x256.size a) ∧
  (256 ∣ (k0_mult19 arg17 arg18).toNat) ∧
  (256 ∣ (k0_mult20 arg17 arg18).toNat) ∧
  (256 ∣ (k0_mult21 arg17 arg18).toNat) ∧
  (∀ a, (k0_off176 arg17 arg18) a + S1x256x256.size a ≤ S2x256x256.size a) ∧
  (∀ a, (k0_off177 arg17 arg18) a + S1x256x128.size a ≤ S8x2048x128.size a) ∧
  (∀ a, (k0_off178 arg17 arg18) a + S1x256x128.size a ≤ S8x2048x128.size a) ∧
  (∀ a, (k0_off179 arg17 arg18) a + S1x256x128.size a ≤ S8x2048x128.size a) ∧
  (∀ a, (k0_off180 arg17 arg18) a + S1x256x128.size a ≤ S8x2048x128.size a)
def k0_chk1_5 (arg17 : BitVec 32) (arg18 : BitVec 32) : Prop :=
  (∀ a, (k0_off181 arg17 arg18) a + S1x144x256.size a ≤ S4x144x2048.size a) ∧
  (∀ a, (k0_off182 arg17 arg18) a + S1x1x144x256.size a ≤ S8x8x144x256.size a) ∧
  (∀ a, (k0_off183 arg17 arg18) a + S1x256x128.size a ≤ S8x2048x128.size a) ∧
  (∀ a, (k0_off184 arg17 arg18) a + S1x256x128.size a ≤ S8x2048x128.size a) ∧
  (∀ a, (k0_off185 arg17 arg18) a + S1x1x144x256.size a ≤ S8x8x144x256.size a) ∧
  (∀ a, (k0_off186 arg17 arg18) a + S1x256x128.size a ≤ S8x2048x128.size a) ∧
  (∀ a, (k0_off187 arg17 arg18) a + S1x256x128.size a ≤ S8x2048x128.size a) ∧
  (∀ a, (k0_off188 arg17 arg18) a + S1x144x256.size a ≤ S4x144x2048.size a) ∧
  (∀ a, (k0_off189 arg17 arg18) a + S1x1x144x256.size a ≤ S8x8x144x256.size a) ∧
  (∀ a, (k0_off190 arg17 arg18) a + S1x256x128.size a ≤ S8x2048x128.size a) ∧
  (∀ a, (k0_off191 arg17 arg18) a + S1x256x128.size a ≤ S8x2048x128.size a) ∧
  (∀ a, (k0_off192 arg17 arg18) a + S1x1x144x256.size a ≤ S8x8x144x256.size a) ∧
  (∀ a, (k0_off193 arg17 arg18) a + S1x256x128.size a ≤ S8x2048x128.size a) ∧
  (∀ a, (k0_off194 arg17 arg18) a + S1x256x128.size a ≤ S8x2048x128.size a) ∧
  (∀ a, (k0_off195 arg17 arg18) a + S1x144x256.size a ≤ S4x144x2048.size a) ∧
  (∀ a, (k0_off196 arg17 arg18) a + S1x1x144x256.size a ≤ S8x8x144x256.size a) ∧
  (∀ a, (k0_off197 arg17 arg18) a + S1x256x128.size a ≤ S8x2048x128.size a) ∧
  (∀ a, (k0_off198 arg17 arg18) a + S1x256x128.size a ≤ S8x2048x128.size a) ∧
  (∀ a, (k0_off199 arg17 arg18) a + S1x1x144x256.size a ≤ S8x8x144x256.size a) ∧
  (∀ a, (k0_off200 arg17 arg18) a + S1x256x128.size a ≤ S8x2048x128.size a) ∧
  (∀ a, (k0_off201 arg17 arg18) a + S1x256x128.size a ≤ S8x2048x128.size a) ∧
  (∀ a, (k0_off202 arg17 arg18) a + S1x144x256.size a ≤ S4x144x2048.size a) ∧
  (∀ a, (k0_off203 arg17 arg18) a + S1x1x144x256.size a ≤ S8x8x144x256.size a) ∧
  (∀ a, (k0_off204 arg17 arg18) a + S1x1x144x256.size a ≤ S8x8x144x256.size a)
def k0_chk1 (arg17 : BitVec 32) (arg18 : BitVec 32) : Prop :=
  k0_chk1_0 arg17 arg18 ∧
  k0_chk1_1 arg17 arg18 ∧
  k0_chk1_2 arg17 arg18 ∧
  k0_chk1_3 arg17 arg18 ∧
  k0_chk1_4 arg17 arg18 ∧
  k0_chk1_5 arg17 arg18
theorem k0_mult4_dvd : ∀ (arg17 : BitVec 32) (arg18 : BitVec 32) (k0_hw1 : k0_chk1 arg17 arg18), 256 ∣ (k0_mult4 arg17 arg18).toNat := fun arg17 arg18 k0_hw1 => k0_hw1.1.1
theorem k0_mult5_dvd : ∀ (arg17 : BitVec 32) (arg18 : BitVec 32) (k0_hw1 : k0_chk1 arg17 arg18), 256 ∣ (k0_mult5 arg17 arg18).toNat := fun arg17 arg18 k0_hw1 => k0_hw1.1.2.1
theorem k0_mult6_dvd : ∀ (arg17 : BitVec 32) (arg18 : BitVec 32) (k0_hw1 : k0_chk1 arg17 arg18), 256 ∣ (k0_mult6 arg17 arg18).toNat := fun arg17 arg18 k0_hw1 => k0_hw1.1.2.2.1
theorem k0_off31_inb : ∀ (arg17 : BitVec 32) (arg18 : BitVec 32) (k0_hw1 : k0_chk1 arg17 arg18), ∀ a, (k0_off31 arg17 arg18) a + S1x256x256.size a ≤ S2x256x256.size a := fun arg17 arg18 k0_hw1 => k0_hw1.1.2.2.2.1
theorem k0_off32_inb : ∀ (arg17 : BitVec 32) (arg18 : BitVec 32) (k0_hw1 : k0_chk1 arg17 arg18), ∀ a, (k0_off32 arg17 arg18) a + S1x256x128.size a ≤ S8x2048x128.size a := fun arg17 arg18 k0_hw1 => k0_hw1.1.2.2.2.2.1
theorem k0_off33_inb : ∀ (arg17 : BitVec 32) (arg18 : BitVec 32) (k0_hw1 : k0_chk1 arg17 arg18), ∀ a, (k0_off33 arg17 arg18) a + S1x256x128.size a ≤ S8x2048x128.size a := fun arg17 arg18 k0_hw1 => k0_hw1.1.2.2.2.2.2.1
theorem k0_off34_inb : ∀ (arg17 : BitVec 32) (arg18 : BitVec 32) (k0_hw1 : k0_chk1 arg17 arg18), ∀ a, (k0_off34 arg17 arg18) a + S1x256x128.size a ≤ S8x2048x128.size a := fun arg17 arg18 k0_hw1 => k0_hw1.1.2.2.2.2.2.2.1
theorem k0_off35_inb : ∀ (arg17 : BitVec 32) (arg18 : BitVec 32) (k0_hw1 : k0_chk1 arg17 arg18), ∀ a, (k0_off35 arg17 arg18) a + S1x256x128.size a ≤ S8x2048x128.size a := fun arg17 arg18 k0_hw1 => k0_hw1.1.2.2.2.2.2.2.2.1
theorem k0_off36_inb : ∀ (arg17 : BitVec 32) (arg18 : BitVec 32) (k0_hw1 : k0_chk1 arg17 arg18), ∀ a, (k0_off36 arg17 arg18) a + S1x144x256.size a ≤ S4x144x2048.size a := fun arg17 arg18 k0_hw1 => k0_hw1.1.2.2.2.2.2.2.2.2.1
theorem k0_off38_inb : ∀ (arg17 : BitVec 32) (arg18 : BitVec 32) (k0_hw1 : k0_chk1 arg17 arg18), ∀ a, (k0_off38 arg17 arg18) a + S1x256x128.size a ≤ S8x2048x128.size a := fun arg17 arg18 k0_hw1 => k0_hw1.1.2.2.2.2.2.2.2.2.2.1
theorem k0_off39_inb : ∀ (arg17 : BitVec 32) (arg18 : BitVec 32) (k0_hw1 : k0_chk1 arg17 arg18), ∀ a, (k0_off39 arg17 arg18) a + S1x256x128.size a ≤ S8x2048x128.size a := fun arg17 arg18 k0_hw1 => k0_hw1.1.2.2.2.2.2.2.2.2.2.2.1
theorem k0_off41_inb : ∀ (arg17 : BitVec 32) (arg18 : BitVec 32) (k0_hw1 : k0_chk1 arg17 arg18), ∀ a, (k0_off41 arg17 arg18) a + S1x256x128.size a ≤ S8x2048x128.size a := fun arg17 arg18 k0_hw1 => k0_hw1.1.2.2.2.2.2.2.2.2.2.2.2.1
theorem k0_off42_inb : ∀ (arg17 : BitVec 32) (arg18 : BitVec 32) (k0_hw1 : k0_chk1 arg17 arg18), ∀ a, (k0_off42 arg17 arg18) a + S1x256x128.size a ≤ S8x2048x128.size a := fun arg17 arg18 k0_hw1 => k0_hw1.1.2.2.2.2.2.2.2.2.2.2.2.2.1
theorem k0_off43_inb : ∀ (arg17 : BitVec 32) (arg18 : BitVec 32) (k0_hw1 : k0_chk1 arg17 arg18), ∀ a, (k0_off43 arg17 arg18) a + S1x144x256.size a ≤ S4x144x2048.size a := fun arg17 arg18 k0_hw1 => k0_hw1.1.2.2.2.2.2.2.2.2.2.2.2.2.2.1
theorem k0_off45_inb : ∀ (arg17 : BitVec 32) (arg18 : BitVec 32) (k0_hw1 : k0_chk1 arg17 arg18), ∀ a, (k0_off45 arg17 arg18) a + S1x256x128.size a ≤ S8x2048x128.size a := fun arg17 arg18 k0_hw1 => k0_hw1.1.2.2.2.2.2.2.2.2.2.2.2.2.2.2.1
theorem k0_off46_inb : ∀ (arg17 : BitVec 32) (arg18 : BitVec 32) (k0_hw1 : k0_chk1 arg17 arg18), ∀ a, (k0_off46 arg17 arg18) a + S1x256x128.size a ≤ S8x2048x128.size a := fun arg17 arg18 k0_hw1 => k0_hw1.1.2.2.2.2.2.2.2.2.2.2.2.2.2.2.2.1
theorem k0_off48_inb : ∀ (arg17 : BitVec 32) (arg18 : BitVec 32) (k0_hw1 : k0_chk1 arg17 arg18), ∀ a, (k0_off48 arg17 arg18) a + S1x256x128.size a ≤ S8x2048x128.size a := fun arg17 arg18 k0_hw1 => k0_hw1.1.2.2.2.2.2.2.2.2.2.2.2.2.2.2.2.2.1
theorem k0_off49_inb : ∀ (arg17 : BitVec 32) (arg18 : BitVec 32) (k0_hw1 : k0_chk1 arg17 arg18), ∀ a, (k0_off49 arg17 arg18) a + S1x256x128.size a ≤ S8x2048x128.size a := fun arg17 arg18 k0_hw1 => k0_hw1.1.2.2.2.2.2.2.2.2.2.2.2.2.2.2.2.2.2.1
theorem k0_off50_inb : ∀ (arg17 : BitVec 32) (arg18 : BitVec 32) (k0_hw1 : k0_chk1 arg17 arg18), ∀ a, (k0_off50 arg17 arg18) a + S1x144x256.size a ≤ S4x144x2048.size a := fun arg17 arg18 k0_hw1 => k0_hw1.1.2.2.2.2.2.2.2.2.2.2.2.2.2.2.2.2.2.2.1
theorem k0_off52_inb : ∀ (arg17 : BitVec 32) (arg18 : BitVec 32) (k0_hw1 : k0_chk1 arg17 arg18), ∀ a, (k0_off52 arg17 arg18) a + S1x256x128.size a ≤ S8x2048x128.size a := fun arg17 arg18 k0_hw1 => k0_hw1.1.2.2.2.2.2.2.2.2.2.2.2.2.2.2.2.2.2.2.2.1
theorem k0_off53_inb : ∀ (arg17 : BitVec 32) (arg18 : BitVec 32) (k0_hw1 : k0_chk1 arg17 arg18), ∀ a, (k0_off53 arg17 arg18) a + S1x256x128.size a ≤ S8x2048x128.size a := fun arg17 arg18 k0_hw1 => k0_hw1.1.2.2.2.2.2.2.2.2.2.2.2.2.2.2.2.2.2.2.2.2.1
theorem k0_off55_inb : ∀ (arg17 : BitVec 32) (arg18 : BitVec 32) (k0_hw1 : k0_chk1 arg17 arg18), ∀ a, (k0_off55 arg17 arg18) a + S1x256x128.size a ≤ S8x2048x128.size a := fun arg17 arg18 k0_hw1 => k0_hw1.1.2.2.2.2.2.2.2.2.2.2.2.2.2.2.2.2.2.2.2.2.2.1
theorem k0_off56_inb : ∀ (arg17 : BitVec 32) (arg18 : BitVec 32) (k0_hw1 : k0_chk1 arg17 arg18), ∀ a, (k0_off56 arg17 arg18) a + S1x256x128.size a ≤ S8x2048x128.size a := fun arg17 arg18 k0_hw1 => k0_hw1.1.2.2.2.2.2.2.2.2.2.2.2.2.2.2.2.2.2.2.2.2.2.2.1
theorem k0_off57_inb : ∀ (arg17 : BitVec 32) (arg18 : BitVec 32) (k0_hw1 : k0_chk1 arg17 arg18), ∀ a, (k0_off57 arg17 arg18) a + S1x144x256.size a ≤ S4x144x2048.size a := fun arg17 arg18 k0_hw1 => k0_hw1.1.2.2.2.2.2.2.2.2.2.2.2.2.2.2.2.2.2.2.2.2.2.2.2.1
theorem k0_mult7_dvd : ∀ (arg17 : BitVec 32) (arg18 : BitVec 32) (k0_hw1 : k0_chk1 arg17 arg18), 256 ∣ (k0_mult7 arg17 arg18).toNat := fun arg17 arg18 k0_hw1 => k0_hw1.1.2.2.2.2.2.2.2.2.2.2.2.2.2.2.2.2.2.2.2.2.2.2.2.2.1
theorem k0_mult8_dvd : ∀ (arg17 : BitVec 32) (arg18 : BitVec 32) (k0_hw1 : k0_chk1 arg17 arg18), 256 ∣ (k0_mult8 arg17 arg18).toNat := fun arg17 arg18 k0_hw1 => k0_hw1.1.2.2.2.2.2.2.2.2.2.2.2.2.2.2.2.2.2.2.2.2.2.2.2.2.2.1
theorem k0_mult9_dvd : ∀ (arg17 : BitVec 32) (arg18 : BitVec 32) (k0_hw1 : k0_chk1 arg17 arg18), 256 ∣ (k0_mult9 arg17 arg18).toNat := fun arg17 arg18 k0_hw1 => k0_hw1.1.2.2.2.2.2.2.2.2.2.2.2.2.2.2.2.2.2.2.2.2.2.2.2.2.2.2.1
theorem k0_off60_inb : ∀ (arg17 : BitVec 32) (arg18 : BitVec 32) (k0_hw1 : k0_chk1 arg17 arg18), ∀ a, (k0_off60 arg17 arg18) a + S1x256x256.size a ≤ S2x256x256.size a := fun arg17 arg18 k0_hw1 => k0_hw1.1.2.2.2.2.2.2.2.2.2.2.2.2.2.2.2.2.2.2.2.2.2.2.2.2.2.2.2.1
theorem k0_off61_inb : ∀ (arg17 : BitVec 32) (arg18 : BitVec 32) (k0_hw1 : k0_chk1 arg17 arg18), ∀ a, (k0_off61 arg17 arg18) a + S1x256x128.size a ≤ S8x2048x128.size a := fun arg17 arg18 k0_hw1 => k0_hw1.1.2.2.2.2.2.2.2.2.2.2.2.2.2.2.2.2.2.2.2.2.2.2.2.2.2.2.2.2.1
theorem k0_off62_inb : ∀ (arg17 : BitVec 32) (arg18 : BitVec 32) (k0_hw1 : k0_chk1 arg17 arg18), ∀ a, (k0_off62 arg17 arg18) a + S1x256x128.size a ≤ S8x2048x128.size a := fun arg17 arg18 k0_hw1 => k0_hw1.1.2.2.2.2.2.2.2.2.2.2.2.2.2.2.2.2.2.2.2.2.2.2.2.2.2.2.2.2.2.1
theorem k0_off63_inb : ∀ (arg17 : BitVec 32) (arg18 : BitVec 32) (k0_hw1 : k0_chk1 arg17 arg18), ∀ a, (k0_off63 arg17 arg18) a + S1x256x128.size a ≤ S8x2048x128.size a := fun arg17 arg18 k0_hw1 => k0_hw1.1.2.2.2.2.2.2.2.2.2.2.2.2.2.2.2.2.2.2.2.2.2.2.2.2.2.2.2.2.2.2.1
theorem k0_off64_inb : ∀ (arg17 : BitVec 32) (arg18 : BitVec 32) (k0_hw1 : k0_chk1 arg17 arg18), ∀ a, (k0_off64 arg17 arg18) a + S1x256x128.size a ≤ S8x2048x128.size a := fun arg17 arg18 k0_hw1 => k0_hw1.1.2.2.2.2.2.2.2.2.2.2.2.2.2.2.2.2.2.2.2.2.2.2.2.2.2.2.2.2.2.2.2
theorem k0_off65_inb : ∀ (arg17 : BitVec 32) (arg18 : BitVec 32) (k0_hw1 : k0_chk1 arg17 arg18), ∀ a, (k0_off65 arg17 arg18) a + S1x144x256.size a ≤ S4x144x2048.size a := fun arg17 arg18 k0_hw1 => k0_hw1.2.1.1
theorem k0_off66_inb : ∀ (arg17 : BitVec 32) (arg18 : BitVec 32) (k0_hw1 : k0_chk1 arg17 arg18), ∀ a, (k0_off66 arg17 arg18) a + S1x1x144x256.size a ≤ S8x8x144x256.size a := fun arg17 arg18 k0_hw1 => k0_hw1.2.1.2.1
theorem k0_off67_inb : ∀ (arg17 : BitVec 32) (arg18 : BitVec 32) (k0_hw1 : k0_chk1 arg17 arg18), ∀ a, (k0_off67 arg17 arg18) a + S1x256x128.size a ≤ S8x2048x128.size a := fun arg17 arg18 k0_hw1 => k0_hw1.2.1.2.2.1
theorem k0_off68_inb : ∀ (arg17 : BitVec 32) (arg18 : BitVec 32) (k0_hw1 : k0_chk1 arg17 arg18), ∀ a, (k0_off68 arg17 arg18) a + S1x256x128.size a ≤ S8x2048x128.size a := fun arg17 arg18 k0_hw1 => k0_hw1.2.1.2.2.2.1
theorem k0_off69_inb : ∀ (arg17 : BitVec 32) (arg18 : BitVec 32) (k0_hw1 : k0_chk1 arg17 arg18), ∀ a, (k0_off69 arg17 arg18) a + S1x1x144x256.size a ≤ S8x8x144x256.size a := fun arg17 arg18 k0_hw1 => k0_hw1.2.1.2.2.2.2.1
theorem k0_off70_inb : ∀ (arg17 : BitVec 32) (arg18 : BitVec 32) (k0_hw1 : k0_chk1 arg17 arg18), ∀ a, (k0_off70 arg17 arg18) a + S1x256x128.size a ≤ S8x2048x128.size a := fun arg17 arg18 k0_hw1 => k0_hw1.2.1.2.2.2.2.2.1
theorem k0_off71_inb : ∀ (arg17 : BitVec 32) (arg18 : BitVec 32) (k0_hw1 : k0_chk1 arg17 arg18), ∀ a, (k0_off71 arg17 arg18) a + S1x256x128.size a ≤ S8x2048x128.size a := fun arg17 arg18 k0_hw1 => k0_hw1.2.1.2.2.2.2.2.2.1
theorem k0_off72_inb : ∀ (arg17 : BitVec 32) (arg18 : BitVec 32) (k0_hw1 : k0_chk1 arg17 arg18), ∀ a, (k0_off72 arg17 arg18) a + S1x144x256.size a ≤ S4x144x2048.size a := fun arg17 arg18 k0_hw1 => k0_hw1.2.1.2.2.2.2.2.2.2.1
theorem k0_off73_inb : ∀ (arg17 : BitVec 32) (arg18 : BitVec 32) (k0_hw1 : k0_chk1 arg17 arg18), ∀ a, (k0_off73 arg17 arg18) a + S1x1x144x256.size a ≤ S8x8x144x256.size a := fun arg17 arg18 k0_hw1 => k0_hw1.2.1.2.2.2.2.2.2.2.2.1
theorem k0_off74_inb : ∀ (arg17 : BitVec 32) (arg18 : BitVec 32) (k0_hw1 : k0_chk1 arg17 arg18), ∀ a, (k0_off74 arg17 arg18) a + S1x256x128.size a ≤ S8x2048x128.size a := fun arg17 arg18 k0_hw1 => k0_hw1.2.1.2.2.2.2.2.2.2.2.2.1
theorem k0_off75_inb : ∀ (arg17 : BitVec 32) (arg18 : BitVec 32) (k0_hw1 : k0_chk1 arg17 arg18), ∀ a, (k0_off75 arg17 arg18) a + S1x256x128.size a ≤ S8x2048x128.size a := fun arg17 arg18 k0_hw1 => k0_hw1.2.1.2.2.2.2.2.2.2.2.2.2.1
theorem k0_off76_inb : ∀ (arg17 : BitVec 32) (arg18 : BitVec 32) (k0_hw1 : k0_chk1 arg17 arg18), ∀ a, (k0_off76 arg17 arg18) a + S1x1x144x256.size a ≤ S8x8x144x256.size a := fun arg17 arg18 k0_hw1 => k0_hw1.2.1.2.2.2.2.2.2.2.2.2.2.2.1
theorem k0_off77_inb : ∀ (arg17 : BitVec 32) (arg18 : BitVec 32) (k0_hw1 : k0_chk1 arg17 arg18), ∀ a, (k0_off77 arg17 arg18) a + S1x256x128.size a ≤ S8x2048x128.size a := fun arg17 arg18 k0_hw1 => k0_hw1.2.1.2.2.2.2.2.2.2.2.2.2.2.2.1
theorem k0_off78_inb : ∀ (arg17 : BitVec 32) (arg18 : BitVec 32) (k0_hw1 : k0_chk1 arg17 arg18), ∀ a, (k0_off78 arg17 arg18) a + S1x256x128.size a ≤ S8x2048x128.size a := fun arg17 arg18 k0_hw1 => k0_hw1.2.1.2.2.2.2.2.2.2.2.2.2.2.2.2.1
theorem k0_off79_inb : ∀ (arg17 : BitVec 32) (arg18 : BitVec 32) (k0_hw1 : k0_chk1 arg17 arg18), ∀ a, (k0_off79 arg17 arg18) a + S1x144x256.size a ≤ S4x144x2048.size a := fun arg17 arg18 k0_hw1 => k0_hw1.2.1.2.2.2.2.2.2.2.2.2.2.2.2.2.2.1
theorem k0_off80_inb : ∀ (arg17 : BitVec 32) (arg18 : BitVec 32) (k0_hw1 : k0_chk1 arg17 arg18), ∀ a, (k0_off80 arg17 arg18) a + S1x1x144x256.size a ≤ S8x8x144x256.size a := fun arg17 arg18 k0_hw1 => k0_hw1.2.1.2.2.2.2.2.2.2.2.2.2.2.2.2.2.2.1
theorem k0_off81_inb : ∀ (arg17 : BitVec 32) (arg18 : BitVec 32) (k0_hw1 : k0_chk1 arg17 arg18), ∀ a, (k0_off81 arg17 arg18) a + S1x256x128.size a ≤ S8x2048x128.size a := fun arg17 arg18 k0_hw1 => k0_hw1.2.1.2.2.2.2.2.2.2.2.2.2.2.2.2.2.2.2.1
theorem k0_off82_inb : ∀ (arg17 : BitVec 32) (arg18 : BitVec 32) (k0_hw1 : k0_chk1 arg17 arg18), ∀ a, (k0_off82 arg17 arg18) a + S1x256x128.size a ≤ S8x2048x128.size a := fun arg17 arg18 k0_hw1 => k0_hw1.2.1.2.2.2.2.2.2.2.2.2.2.2.2.2.2.2.2.2.1
theorem k0_off83_inb : ∀ (arg17 : BitVec 32) (arg18 : BitVec 32) (k0_hw1 : k0_chk1 arg17 arg18), ∀ a, (k0_off83 arg17 arg18) a + S1x1x144x256.size a ≤ S8x8x144x256.size a := fun arg17 arg18 k0_hw1 => k0_hw1.2.1.2.2.2.2.2.2.2.2.2.2.2.2.2.2.2.2.2.2.1
theorem k0_off84_inb : ∀ (arg17 : BitVec 32) (arg18 : BitVec 32) (k0_hw1 : k0_chk1 arg17 arg18), ∀ a, (k0_off84 arg17 arg18) a + S1x256x128.size a ≤ S8x2048x128.size a := fun arg17 arg18 k0_hw1 => k0_hw1.2.1.2.2.2.2.2.2.2.2.2.2.2.2.2.2.2.2.2.2.2.1
theorem k0_off85_inb : ∀ (arg17 : BitVec 32) (arg18 : BitVec 32) (k0_hw1 : k0_chk1 arg17 arg18), ∀ a, (k0_off85 arg17 arg18) a + S1x256x128.size a ≤ S8x2048x128.size a := fun arg17 arg18 k0_hw1 => k0_hw1.2.1.2.2.2.2.2.2.2.2.2.2.2.2.2.2.2.2.2.2.2.2.1
theorem k0_off86_inb : ∀ (arg17 : BitVec 32) (arg18 : BitVec 32) (k0_hw1 : k0_chk1 arg17 arg18), ∀ a, (k0_off86 arg17 arg18) a + S1x144x256.size a ≤ S4x144x2048.size a := fun arg17 arg18 k0_hw1 => k0_hw1.2.1.2.2.2.2.2.2.2.2.2.2.2.2.2.2.2.2.2.2.2.2.2.1
theorem k0_off87_inb : ∀ (arg17 : BitVec 32) (arg18 : BitVec 32) (k0_hw1 : k0_chk1 arg17 arg18), ∀ a, (k0_off87 arg17 arg18) a + S1x1x144x256.size a ≤ S8x8x144x256.size a := fun arg17 arg18 k0_hw1 => k0_hw1.2.1.2.2.2.2.2.2.2.2.2.2.2.2.2.2.2.2.2.2.2.2.2.2.1
theorem k0_off88_inb : ∀ (arg17 : BitVec 32) (arg18 : BitVec 32) (k0_hw1 : k0_chk1 arg17 arg18), ∀ a, (k0_off88 arg17 arg18) a + S1x1x144x256.size a ≤ S8x8x144x256.size a := fun arg17 arg18 k0_hw1 => k0_hw1.2.1.2.2.2.2.2.2.2.2.2.2.2.2.2.2.2.2.2.2.2.2.2.2.2.1
theorem k0_mult10_dvd : ∀ (arg17 : BitVec 32) (arg18 : BitVec 32) (k0_hw1 : k0_chk1 arg17 arg18), 256 ∣ (k0_mult10 arg17 arg18).toNat := fun arg17 arg18 k0_hw1 => k0_hw1.2.1.2.2.2.2.2.2.2.2.2.2.2.2.2.2.2.2.2.2.2.2.2.2.2.2.1
theorem k0_mult11_dvd : ∀ (arg17 : BitVec 32) (arg18 : BitVec 32) (k0_hw1 : k0_chk1 arg17 arg18), 256 ∣ (k0_mult11 arg17 arg18).toNat := fun arg17 arg18 k0_hw1 => k0_hw1.2.1.2.2.2.2.2.2.2.2.2.2.2.2.2.2.2.2.2.2.2.2.2.2.2.2.2.1
theorem k0_mult12_dvd : ∀ (arg17 : BitVec 32) (arg18 : BitVec 32) (k0_hw1 : k0_chk1 arg17 arg18), 256 ∣ (k0_mult12 arg17 arg18).toNat := fun arg17 arg18 k0_hw1 => k0_hw1.2.1.2.2.2.2.2.2.2.2.2.2.2.2.2.2.2.2.2.2.2.2.2.2.2.2.2.2.1
theorem k0_off89_inb : ∀ (arg17 : BitVec 32) (arg18 : BitVec 32) (k0_hw1 : k0_chk1 arg17 arg18), ∀ a, (k0_off89 arg17 arg18) a + S1x256x256.size a ≤ S2x256x256.size a := fun arg17 arg18 k0_hw1 => k0_hw1.2.1.2.2.2.2.2.2.2.2.2.2.2.2.2.2.2.2.2.2.2.2.2.2.2.2.2.2.2.1
theorem k0_off90_inb : ∀ (arg17 : BitVec 32) (arg18 : BitVec 32) (k0_hw1 : k0_chk1 arg17 arg18), ∀ a, (k0_off90 arg17 arg18) a + S1x256x128.size a ≤ S8x2048x128.size a := fun arg17 arg18 k0_hw1 => k0_hw1.2.1.2.2.2.2.2.2.2.2.2.2.2.2.2.2.2.2.2.2.2.2.2.2.2.2.2.2.2.2.1
theorem k0_off91_inb : ∀ (arg17 : BitVec 32) (arg18 : BitVec 32) (k0_hw1 : k0_chk1 arg17 arg18), ∀ a, (k0_off91 arg17 arg18) a + S1x256x128.size a ≤ S8x2048x128.size a := fun arg17 arg18 k0_hw1 => k0_hw1.2.1.2.2.2.2.2.2.2.2.2.2.2.2.2.2.2.2.2.2.2.2.2.2.2.2.2.2.2.2.2.1
theorem k0_off92_inb : ∀ (arg17 : BitVec 32) (arg18 : BitVec 32) (k0_hw1 : k0_chk1 arg17 arg18), ∀ a, (k0_off92 arg17 arg18) a + S1x256x128.size a ≤ S8x2048x128.size a := fun arg17 arg18 k0_hw1 => k0_hw1.2.1.2.2.2.2.2.2.2.2.2.2.2.2.2.2.2.2.2.2.2.2.2.2.2.2.2.2.2.2.2.2.1
theorem k0_off93_inb : ∀ (arg17 : BitVec 32) (arg18 : BitVec 32) (k0_hw1 : k0_chk1 arg17 arg18), ∀ a, (k0_off93 arg17 arg18) a + S1x256x128.size a ≤ S8x2048x128.size a := fun arg17 arg18 k0_hw1 => k0_hw1.2.1.2.2.2.2.2.2.2.2.2.2.2.2.2.2.2.2.2.2.2.2.2.2.2.2.2.2.2.2.2.2.2
theorem k0_off94_inb : ∀ (arg17 : BitVec 32) (arg18 : BitVec 32) (k0_hw1 : k0_chk1 arg17 arg18), ∀ a, (k0_off94 arg17 arg18) a + S1x144x256.size a ≤ S4x144x2048.size a := fun arg17 arg18 k0_hw1 => k0_hw1.2.2.1.1
theorem k0_off95_inb : ∀ (arg17 : BitVec 32) (arg18 : BitVec 32) (k0_hw1 : k0_chk1 arg17 arg18), ∀ a, (k0_off95 arg17 arg18) a + S1x1x144x256.size a ≤ S8x8x144x256.size a := fun arg17 arg18 k0_hw1 => k0_hw1.2.2.1.2.1
theorem k0_off96_inb : ∀ (arg17 : BitVec 32) (arg18 : BitVec 32) (k0_hw1 : k0_chk1 arg17 arg18), ∀ a, (k0_off96 arg17 arg18) a + S1x256x128.size a ≤ S8x2048x128.size a := fun arg17 arg18 k0_hw1 => k0_hw1.2.2.1.2.2.1
theorem k0_off97_inb : ∀ (arg17 : BitVec 32) (arg18 : BitVec 32) (k0_hw1 : k0_chk1 arg17 arg18), ∀ a, (k0_off97 arg17 arg18) a + S1x256x128.size a ≤ S8x2048x128.size a := fun arg17 arg18 k0_hw1 => k0_hw1.2.2.1.2.2.2.1
theorem k0_off98_inb : ∀ (arg17 : BitVec 32) (arg18 : BitVec 32) (k0_hw1 : k0_chk1 arg17 arg18), ∀ a, (k0_off98 arg17 arg18) a + S1x1x144x256.size a ≤ S8x8x144x256.size a := fun arg17 arg18 k0_hw1 => k0_hw1.2.2.1.2.2.2.2.1
theorem k0_off99_inb : ∀ (arg17 : BitVec 32) (arg18 : BitVec 32) (k0_hw1 : k0_chk1 arg17 arg18), ∀ a, (k0_off99 arg17 arg18) a + S1x256x128.size a ≤ S8x2048x128.size a := fun arg17 arg18 k0_hw1 => k0_hw1.2.2.1.2.2.2.2.2.1
theorem k0_off100_inb : ∀ (arg17 : BitVec 32) (arg18 : BitVec 32) (k0_hw1 : k0_chk1 arg17 arg18), ∀ a, (k0_off100 arg17 arg18) a + S1x256x128.size a ≤ S8x2048x128.size a := fun arg17 arg18 k0_hw1 => k0_hw1.2.2.1.2.2.2.2.2.2.1
theorem k0_off101_inb : ∀ (arg17 : BitVec 32) (arg18 : BitVec 32) (k0_hw1 : k0_chk1 arg17 arg18), ∀ a, (k0_off101 arg17 arg18) a + S1x144x256.size a ≤ S4x144x2048.size a := fun arg17 arg18 k0_hw1 => k0_hw1.2.2.1.2.2.2.2.2.2.2.1
theorem k0_off102_inb : ∀ (arg17 : BitVec 32) (arg18 : BitVec 32) (k0_hw1 : k0_chk1 arg17 arg18), ∀ a, (k0_off102 arg17 arg18) a + S1x1x144x256.size a ≤ S8x8x144x256.size a := fun arg17 arg18 k0_hw1 => k0_hw1.2.2.1.2.2.2.2.2.2.2.2.1
theorem k0_off103_inb : ∀ (arg17 : BitVec 32) (arg18 : BitVec 32) (k0_hw1 : k0_chk1 arg17 arg18), ∀ a, (k0_off103 arg17 arg18) a + S1x256x128.size a ≤ S8x2048x128.size a := fun arg17 arg18 k0_hw1 => k0_hw1.2.2.1.2.2.2.2.2.2.2.2.2.1
theorem k0_off104_inb : ∀ (arg17 : BitVec 32) (arg18 : BitVec 32) (k0_hw1 : k0_chk1 arg17 arg18), ∀ a, (k0_off104 arg17 arg18) a + S1x256x128.size a ≤ S8x2048x128.size a := fun arg17 arg18 k0_hw1 => k0_hw1.2.2.1.2.2.2.2.2.2.2.2.2.2.1
theorem k0_off105_inb : ∀ (arg17 : BitVec 32) (arg18 : BitVec 32) (k0_hw1 : k0_chk1 arg17 arg18), ∀ a, (k0_off105 arg17 arg18) a + S1x1x144x256.size a ≤ S8x8x144x256.size a := fun arg17 arg18 k0_hw1 => k0_hw1.2.2.1.2.2.2.2.2.2.2.2.2.2.2.1
theorem k0_off106_inb : ∀ (arg17 : BitVec 32) (arg18 : BitVec 32) (k0_hw1 : k0_chk1 arg17 arg18), ∀ a, (k0_off106 arg17 arg18) a + S1x256x128.size a ≤ S8x2048x128.size a := fun arg17 arg18 k0_hw1 => k0_hw1.2.2.1.2.2.2.2.2.2.2.2.2.2.2.2.1
theorem k0_off107_inb : ∀ (arg17 : BitVec 32) (arg18 : BitVec 32) (k0_hw1 : k0_chk1 arg17 arg18), ∀ a, (k0_off107 arg17 arg18) a + S1x256x128.size a ≤ S8x2048x128.size a := fun arg17 arg18 k0_hw1 => k0_hw1.2.2.1.2.2.2.2.2.2.2.2.2.2.2.2.2.1
theorem k0_off108_inb : ∀ (arg17 : BitVec 32) (arg18 : BitVec 32) (k0_hw1 : k0_chk1 arg17 arg18), ∀ a, (k0_off108 arg17 arg18) a + S1x144x256.size a ≤ S4x144x2048.size a := fun arg17 arg18 k0_hw1 => k0_hw1.2.2.1.2.2.2.2.2.2.2.2.2.2.2.2.2.2.1
theorem k0_off109_inb : ∀ (arg17 : BitVec 32) (arg18 : BitVec 32) (k0_hw1 : k0_chk1 arg17 arg18), ∀ a, (k0_off109 arg17 arg18) a + S1x1x144x256.size a ≤ S8x8x144x256.size a := fun arg17 arg18 k0_hw1 => k0_hw1.2.2.1.2.2.2.2.2.2.2.2.2.2.2.2.2.2.2.1
theorem k0_off110_inb : ∀ (arg17 : BitVec 32) (arg18 : BitVec 32) (k0_hw1 : k0_chk1 arg17 arg18), ∀ a, (k0_off110 arg17 arg18) a + S1x256x128.size a ≤ S8x2048x128.size a := fun arg17 arg18 k0_hw1 => k0_hw1.2.2.1.2.2.2.2.2.2.2.2.2.2.2.2.2.2.2.2.1
theorem k0_off111_inb : ∀ (arg17 : BitVec 32) (arg18 : BitVec 32) (k0_hw1 : k0_chk1 arg17 arg18), ∀ a, (k0_off111 arg17 arg18) a + S1x256x128.size a ≤ S8x2048x128.size a := fun arg17 arg18 k0_hw1 => k0_hw1.2.2.1.2.2.2.2.2.2.2.2.2.2.2.2.2.2.2.2.2.1
theorem k0_off112_inb : ∀ (arg17 : BitVec 32) (arg18 : BitVec 32) (k0_hw1 : k0_chk1 arg17 arg18), ∀ a, (k0_off112 arg17 arg18) a + S1x1x144x256.size a ≤ S8x8x144x256.size a := fun arg17 arg18 k0_hw1 => k0_hw1.2.2.1.2.2.2.2.2.2.2.2.2.2.2.2.2.2.2.2.2.2.1
theorem k0_off113_inb : ∀ (arg17 : BitVec 32) (arg18 : BitVec 32) (k0_hw1 : k0_chk1 arg17 arg18), ∀ a, (k0_off113 arg17 arg18) a + S1x256x128.size a ≤ S8x2048x128.size a := fun arg17 arg18 k0_hw1 => k0_hw1.2.2.1.2.2.2.2.2.2.2.2.2.2.2.2.2.2.2.2.2.2.2.1
theorem k0_off114_inb : ∀ (arg17 : BitVec 32) (arg18 : BitVec 32) (k0_hw1 : k0_chk1 arg17 arg18), ∀ a, (k0_off114 arg17 arg18) a + S1x256x128.size a ≤ S8x2048x128.size a := fun arg17 arg18 k0_hw1 => k0_hw1.2.2.1.2.2.2.2.2.2.2.2.2.2.2.2.2.2.2.2.2.2.2.2.1
theorem k0_off115_inb : ∀ (arg17 : BitVec 32) (arg18 : BitVec 32) (k0_hw1 : k0_chk1 arg17 arg18), ∀ a, (k0_off115 arg17 arg18) a + S1x144x256.size a ≤ S4x144x2048.size a := fun arg17 arg18 k0_hw1 => k0_hw1.2.2.1.2.2.2.2.2.2.2.2.2.2.2.2.2.2.2.2.2.2.2.2.2.1
theorem k0_off116_inb : ∀ (arg17 : BitVec 32) (arg18 : BitVec 32) (k0_hw1 : k0_chk1 arg17 arg18), ∀ a, (k0_off116 arg17 arg18) a + S1x1x144x256.size a ≤ S8x8x144x256.size a := fun arg17 arg18 k0_hw1 => k0_hw1.2.2.1.2.2.2.2.2.2.2.2.2.2.2.2.2.2.2.2.2.2.2.2.2.2.1
theorem k0_off117_inb : ∀ (arg17 : BitVec 32) (arg18 : BitVec 32) (k0_hw1 : k0_chk1 arg17 arg18), ∀ a, (k0_off117 arg17 arg18) a + S1x1x144x256.size a ≤ S8x8x144x256.size a := fun arg17 arg18 k0_hw1 => k0_hw1.2.2.1.2.2.2.2.2.2.2.2.2.2.2.2.2.2.2.2.2.2.2.2.2.2.2.1
theorem k0_mult13_dvd : ∀ (arg17 : BitVec 32) (arg18 : BitVec 32) (k0_hw1 : k0_chk1 arg17 arg18), 256 ∣ (k0_mult13 arg17 arg18).toNat := fun arg17 arg18 k0_hw1 => k0_hw1.2.2.1.2.2.2.2.2.2.2.2.2.2.2.2.2.2.2.2.2.2.2.2.2.2.2.2.1
theorem k0_mult14_dvd : ∀ (arg17 : BitVec 32) (arg18 : BitVec 32) (k0_hw1 : k0_chk1 arg17 arg18), 256 ∣ (k0_mult14 arg17 arg18).toNat := fun arg17 arg18 k0_hw1 => k0_hw1.2.2.1.2.2.2.2.2.2.2.2.2.2.2.2.2.2.2.2.2.2.2.2.2.2.2.2.2.1
theorem k0_mult15_dvd : ∀ (arg17 : BitVec 32) (arg18 : BitVec 32) (k0_hw1 : k0_chk1 arg17 arg18), 256 ∣ (k0_mult15 arg17 arg18).toNat := fun arg17 arg18 k0_hw1 => k0_hw1.2.2.1.2.2.2.2.2.2.2.2.2.2.2.2.2.2.2.2.2.2.2.2.2.2.2.2.2.2.1
theorem k0_off118_inb : ∀ (arg17 : BitVec 32) (arg18 : BitVec 32) (k0_hw1 : k0_chk1 arg17 arg18), ∀ a, (k0_off118 arg17 arg18) a + S1x256x256.size a ≤ S2x256x256.size a := fun arg17 arg18 k0_hw1 => k0_hw1.2.2.1.2.2.2.2.2.2.2.2.2.2.2.2.2.2.2.2.2.2.2.2.2.2.2.2.2.2.2.1
theorem k0_off119_inb : ∀ (arg17 : BitVec 32) (arg18 : BitVec 32) (k0_hw1 : k0_chk1 arg17 arg18), ∀ a, (k0_off119 arg17 arg18) a + S1x256x128.size a ≤ S8x2048x128.size a := fun arg17 arg18 k0_hw1 => k0_hw1.2.2.1.2.2.2.2.2.2.2.2.2.2.2.2.2.2.2.2.2.2.2.2.2.2.2.2.2.2.2.2.1
theorem k0_off120_inb : ∀ (arg17 : BitVec 32) (arg18 : BitVec 32) (k0_hw1 : k0_chk1 arg17 arg18), ∀ a, (k0_off120 arg17 arg18) a + S1x256x128.size a ≤ S8x2048x128.size a := fun arg17 arg18 k0_hw1 => k0_hw1.2.2.1.2.2.2.2.2.2.2.2.2.2.2.2.2.2.2.2.2.2.2.2.2.2.2.2.2.2.2.2.2.1
theorem k0_off121_inb : ∀ (arg17 : BitVec 32) (arg18 : BitVec 32) (k0_hw1 : k0_chk1 arg17 arg18), ∀ a, (k0_off121 arg17 arg18) a + S1x256x128.size a ≤ S8x2048x128.size a := fun arg17 arg18 k0_hw1 => k0_hw1.2.2.1.2.2.2.2.2.2.2.2.2.2.2.2.2.2.2.2.2.2.2.2.2.2.2.2.2.2.2.2.2.2.1
theorem k0_off122_inb : ∀ (arg17 : BitVec 32) (arg18 : BitVec 32) (k0_hw1 : k0_chk1 arg17 arg18), ∀ a, (k0_off122 arg17 arg18) a + S1x256x128.size a ≤ S8x2048x128.size a := fun arg17 arg18 k0_hw1 => k0_hw1.2.2.1.2.2.2.2.2.2.2.2.2.2.2.2.2.2.2.2.2.2.2.2.2.2.2.2.2.2.2.2.2.2.2
theorem k0_off123_inb : ∀ (arg17 : BitVec 32) (arg18 : BitVec 32) (k0_hw1 : k0_chk1 arg17 arg18), ∀ a, (k0_off123 arg17 arg18) a + S1x144x256.size a ≤ S4x144x2048.size a := fun arg17 arg18 k0_hw1 => k0_hw1.2.2.2.1.1
theorem k0_off124_inb : ∀ (arg17 : BitVec 32) (arg18 : BitVec 32) (k0_hw1 : k0_chk1 arg17 arg18), ∀ a, (k0_off124 arg17 arg18) a + S1x1x144x256.size a ≤ S8x8x144x256.size a := fun arg17 arg18 k0_hw1 => k0_hw1.2.2.2.1.2.1
theorem k0_off125_inb : ∀ (arg17 : BitVec 32) (arg18 : BitVec 32) (k0_hw1 : k0_chk1 arg17 arg18), ∀ a, (k0_off125 arg17 arg18) a + S1x256x128.size a ≤ S8x2048x128.size a := fun arg17 arg18 k0_hw1 => k0_hw1.2.2.2.1.2.2.1
theorem k0_off126_inb : ∀ (arg17 : BitVec 32) (arg18 : BitVec 32) (k0_hw1 : k0_chk1 arg17 arg18), ∀ a, (k0_off126 arg17 arg18) a + S1x256x128.size a ≤ S8x2048x128.size a := fun arg17 arg18 k0_hw1 => k0_hw1.2.2.2.1.2.2.2.1
theorem k0_off127_inb : ∀ (arg17 : BitVec 32) (arg18 : BitVec 32) (k0_hw1 : k0_chk1 arg17 arg18), ∀ a, (k0_off127 arg17 arg18) a + S1x1x144x256.size a ≤ S8x8x144x256.size a := fun arg17 arg18 k0_hw1 => k0_hw1.2.2.2.1.2.2.2.2.1
theorem k0_off128_inb : ∀ (arg17 : BitVec 32) (arg18 : BitVec 32) (k0_hw1 : k0_chk1 arg17 arg18), ∀ a, (k0_off128 arg17 arg18) a + S1x256x128.size a ≤ S8x2048x128.size a := fun arg17 arg18 k0_hw1 => k0_hw1.2.2.2.1.2.2.2.2.2.1
theorem k0_off129_inb : ∀ (arg17 : BitVec 32) (arg18 : BitVec 32) (k0_hw1 : k0_chk1 arg17 arg18), ∀ a, (k0_off129 arg17 arg18) a + S1x256x128.size a ≤ S8x2048x128.size a := fun arg17 arg18 k0_hw1 => k0_hw1.2.2.2.1.2.2.2.2.2.2.1
theorem k0_off130_inb : ∀ (arg17 : BitVec 32) (arg18 : BitVec 32) (k0_hw1 : k0_chk1 arg17 arg18), ∀ a, (k0_off130 arg17 arg18) a + S1x144x256.size a ≤ S4x144x2048.size a := fun arg17 arg18 k0_hw1 => k0_hw1.2.2.2.1.2.2.2.2.2.2.2.1
theorem k0_off131_inb : ∀ (arg17 : BitVec 32) (arg18 : BitVec 32) (k0_hw1 : k0_chk1 arg17 arg18), ∀ a, (k0_off131 arg17 arg18) a + S1x1x144x256.size a ≤ S8x8x144x256.size a := fun arg17 arg18 k0_hw1 => k0_hw1.2.2.2.1.2.2.2.2.2.2.2.2.1
theorem k0_off132_inb : ∀ (arg17 : BitVec 32) (arg18 : BitVec 32) (k0_hw1 : k0_chk1 arg17 arg18), ∀ a, (k0_off132 arg17 arg18) a + S1x256x128.size a ≤ S8x2048x128.size a := fun arg17 arg18 k0_hw1 => k0_hw1.2.2.2.1.2.2.2.2.2.2.2.2.2.1
theorem k0_off133_inb : ∀ (arg17 : BitVec 32) (arg18 : BitVec 32) (k0_hw1 : k0_chk1 arg17 arg18), ∀ a, (k0_off133 arg17 arg18) a + S1x256x128.size a ≤ S8x2048x128.size a := fun arg17 arg18 k0_hw1 => k0_hw1.2.2.2.1.2.2.2.2.2.2.2.2.2.2.1
theorem k0_off134_inb : ∀ (arg17 : BitVec 32) (arg18 : BitVec 32) (k0_hw1 : k0_chk1 arg17 arg18), ∀ a, (k0_off134 arg17 arg18) a + S1x1x144x256.size a ≤ S8x8x144x256.size a := fun arg17 arg18 k0_hw1 => k0_hw1.2.2.2.1.2.2.2.2.2.2.2.2.2.2.2.1
theorem k0_off135_inb : ∀ (arg17 : BitVec 32) (arg18 : BitVec 32) (k0_hw1 : k0_chk1 arg17 arg18), ∀ a, (k0_off135 arg17 arg18) a + S1x256x128.size a ≤ S8x2048x128.size a := fun arg17 arg18 k0_hw1 => k0_hw1.2.2.2.1.2.2.2.2.2.2.2.2.2.2.2.2.1
theorem k0_off136_inb : ∀ (arg17 : BitVec 32) (arg18 : BitVec 32) (k0_hw1 : k0_chk1 arg17 arg18), ∀ a, (k0_off136 arg17 arg18) a + S1x256x128.size a ≤ S8x2048x128.size a := fun arg17 arg18 k0_hw1 => k0_hw1.2.2.2.1.2.2.2.2.2.2.2.2.2.2.2.2.2.1
theorem k0_off137_inb : ∀ (arg17 : BitVec 32) (arg18 : BitVec 32) (k0_hw1 : k0_chk1 arg17 arg18), ∀ a, (k0_off137 arg17 arg18) a + S1x144x256.size a ≤ S4x144x2048.size a := fun arg17 arg18 k0_hw1 => k0_hw1.2.2.2.1.2.2.2.2.2.2.2.2.2.2.2.2.2.2.1
theorem k0_off138_inb : ∀ (arg17 : BitVec 32) (arg18 : BitVec 32) (k0_hw1 : k0_chk1 arg17 arg18), ∀ a, (k0_off138 arg17 arg18) a + S1x1x144x256.size a ≤ S8x8x144x256.size a := fun arg17 arg18 k0_hw1 => k0_hw1.2.2.2.1.2.2.2.2.2.2.2.2.2.2.2.2.2.2.2.1
theorem k0_off139_inb : ∀ (arg17 : BitVec 32) (arg18 : BitVec 32) (k0_hw1 : k0_chk1 arg17 arg18), ∀ a, (k0_off139 arg17 arg18) a + S1x256x128.size a ≤ S8x2048x128.size a := fun arg17 arg18 k0_hw1 => k0_hw1.2.2.2.1.2.2.2.2.2.2.2.2.2.2.2.2.2.2.2.2.1
theorem k0_off140_inb : ∀ (arg17 : BitVec 32) (arg18 : BitVec 32) (k0_hw1 : k0_chk1 arg17 arg18), ∀ a, (k0_off140 arg17 arg18) a + S1x256x128.size a ≤ S8x2048x128.size a := fun arg17 arg18 k0_hw1 => k0_hw1.2.2.2.1.2.2.2.2.2.2.2.2.2.2.2.2.2.2.2.2.2.1
theorem k0_off141_inb : ∀ (arg17 : BitVec 32) (arg18 : BitVec 32) (k0_hw1 : k0_chk1 arg17 arg18), ∀ a, (k0_off141 arg17 arg18) a + S1x1x144x256.size a ≤ S8x8x144x256.size a := fun arg17 arg18 k0_hw1 => k0_hw1.2.2.2.1.2.2.2.2.2.2.2.2.2.2.2.2.2.2.2.2.2.2.1
theorem k0_off142_inb : ∀ (arg17 : BitVec 32) (arg18 : BitVec 32) (k0_hw1 : k0_chk1 arg17 arg18), ∀ a, (k0_off142 arg17 arg18) a + S1x256x128.size a ≤ S8x2048x128.size a := fun arg17 arg18 k0_hw1 => k0_hw1.2.2.2.1.2.2.2.2.2.2.2.2.2.2.2.2.2.2.2.2.2.2.2.1
theorem k0_off143_inb : ∀ (arg17 : BitVec 32) (arg18 : BitVec 32) (k0_hw1 : k0_chk1 arg17 arg18), ∀ a, (k0_off143 arg17 arg18) a + S1x256x128.size a ≤ S8x2048x128.size a := fun arg17 arg18 k0_hw1 => k0_hw1.2.2.2.1.2.2.2.2.2.2.2.2.2.2.2.2.2.2.2.2.2.2.2.2.1
theorem k0_off144_inb : ∀ (arg17 : BitVec 32) (arg18 : BitVec 32) (k0_hw1 : k0_chk1 arg17 arg18), ∀ a, (k0_off144 arg17 arg18) a + S1x144x256.size a ≤ S4x144x2048.size a := fun arg17 arg18 k0_hw1 => k0_hw1.2.2.2.1.2.2.2.2.2.2.2.2.2.2.2.2.2.2.2.2.2.2.2.2.2.1
theorem k0_off145_inb : ∀ (arg17 : BitVec 32) (arg18 : BitVec 32) (k0_hw1 : k0_chk1 arg17 arg18), ∀ a, (k0_off145 arg17 arg18) a + S1x1x144x256.size a ≤ S8x8x144x256.size a := fun arg17 arg18 k0_hw1 => k0_hw1.2.2.2.1.2.2.2.2.2.2.2.2.2.2.2.2.2.2.2.2.2.2.2.2.2.2.1
theorem k0_off146_inb : ∀ (arg17 : BitVec 32) (arg18 : BitVec 32) (k0_hw1 : k0_chk1 arg17 arg18), ∀ a, (k0_off146 arg17 arg18) a + S1x1x144x256.size a ≤ S8x8x144x256.size a := fun arg17 arg18 k0_hw1 => k0_hw1.2.2.2.1.2.2.2.2.2.2.2.2.2.2.2.2.2.2.2.2.2.2.2.2.2.2.2.1
theorem k0_mult16_dvd : ∀ (arg17 : BitVec 32) (arg18 : BitVec 32) (k0_hw1 : k0_chk1 arg17 arg18), 256 ∣ (k0_mult16 arg17 arg18).toNat := fun arg17 arg18 k0_hw1 => k0_hw1.2.2.2.1.2.2.2.2.2.2.2.2.2.2.2.2.2.2.2.2.2.2.2.2.2.2.2.2.1
theorem k0_mult17_dvd : ∀ (arg17 : BitVec 32) (arg18 : BitVec 32) (k0_hw1 : k0_chk1 arg17 arg18), 256 ∣ (k0_mult17 arg17 arg18).toNat := fun arg17 arg18 k0_hw1 => k0_hw1.2.2.2.1.2.2.2.2.2.2.2.2.2.2.2.2.2.2.2.2.2.2.2.2.2.2.2.2.2.1
theorem k0_mult18_dvd : ∀ (arg17 : BitVec 32) (arg18 : BitVec 32) (k0_hw1 : k0_chk1 arg17 arg18), 256 ∣ (k0_mult18 arg17 arg18).toNat := fun arg17 arg18 k0_hw1 => k0_hw1.2.2.2.1.2.2.2.2.2.2.2.2.2.2.2.2.2.2.2.2.2.2.2.2.2.2.2.2.2.2.1
theorem k0_off147_inb : ∀ (arg17 : BitVec 32) (arg18 : BitVec 32) (k0_hw1 : k0_chk1 arg17 arg18), ∀ a, (k0_off147 arg17 arg18) a + S1x256x256.size a ≤ S2x256x256.size a := fun arg17 arg18 k0_hw1 => k0_hw1.2.2.2.1.2.2.2.2.2.2.2.2.2.2.2.2.2.2.2.2.2.2.2.2.2.2.2.2.2.2.2.1
theorem k0_off148_inb : ∀ (arg17 : BitVec 32) (arg18 : BitVec 32) (k0_hw1 : k0_chk1 arg17 arg18), ∀ a, (k0_off148 arg17 arg18) a + S1x256x128.size a ≤ S8x2048x128.size a := fun arg17 arg18 k0_hw1 => k0_hw1.2.2.2.1.2.2.2.2.2.2.2.2.2.2.2.2.2.2.2.2.2.2.2.2.2.2.2.2.2.2.2.2.1
theorem k0_off149_inb : ∀ (arg17 : BitVec 32) (arg18 : BitVec 32) (k0_hw1 : k0_chk1 arg17 arg18), ∀ a, (k0_off149 arg17 arg18) a + S1x256x128.size a ≤ S8x2048x128.size a := fun arg17 arg18 k0_hw1 => k0_hw1.2.2.2.1.2.2.2.2.2.2.2.2.2.2.2.2.2.2.2.2.2.2.2.2.2.2.2.2.2.2.2.2.2.1
theorem k0_off150_inb : ∀ (arg17 : BitVec 32) (arg18 : BitVec 32) (k0_hw1 : k0_chk1 arg17 arg18), ∀ a, (k0_off150 arg17 arg18) a + S1x256x128.size a ≤ S8x2048x128.size a := fun arg17 arg18 k0_hw1 => k0_hw1.2.2.2.1.2.2.2.2.2.2.2.2.2.2.2.2.2.2.2.2.2.2.2.2.2.2.2.2.2.2.2.2.2.2.1
theorem k0_off151_inb : ∀ (arg17 : BitVec 32) (arg18 : BitVec 32) (k0_hw1 : k0_chk1 arg17 arg18), ∀ a, (k0_off151 arg17 arg18) a + S1x256x128.size a ≤ S8x2048x128.size a := fun arg17 arg18 k0_hw1 => k0_hw1.2.2.2.1.2.2.2.2.2.2.2.2.2.2.2.2.2.2.2.2.2.2.2.2.2.2.2.2.2.2.2.2.2.2.2
theorem k0_off152_inb : ∀ (arg17 : BitVec 32) (arg18 : BitVec 32) (k0_hw1 : k0_chk1 arg17 arg18), ∀ a, (k0_off152 arg17 arg18) a + S1x144x256.size a ≤ S4x144x2048.size a := fun arg17 arg18 k0_hw1 => k0_hw1.2.2.2.2.1.1
theorem k0_off153_inb : ∀ (arg17 : BitVec 32) (arg18 : BitVec 32) (k0_hw1 : k0_chk1 arg17 arg18), ∀ a, (k0_off153 arg17 arg18) a + S1x1x144x256.size a ≤ S8x8x144x256.size a := fun arg17 arg18 k0_hw1 => k0_hw1.2.2.2.2.1.2.1
theorem k0_off154_inb : ∀ (arg17 : BitVec 32) (arg18 : BitVec 32) (k0_hw1 : k0_chk1 arg17 arg18), ∀ a, (k0_off154 arg17 arg18) a + S1x256x128.size a ≤ S8x2048x128.size a := fun arg17 arg18 k0_hw1 => k0_hw1.2.2.2.2.1.2.2.1
theorem k0_off155_inb : ∀ (arg17 : BitVec 32) (arg18 : BitVec 32) (k0_hw1 : k0_chk1 arg17 arg18), ∀ a, (k0_off155 arg17 arg18) a + S1x256x128.size a ≤ S8x2048x128.size a := fun arg17 arg18 k0_hw1 => k0_hw1.2.2.2.2.1.2.2.2.1
theorem k0_off156_inb : ∀ (arg17 : BitVec 32) (arg18 : BitVec 32) (k0_hw1 : k0_chk1 arg17 arg18), ∀ a, (k0_off156 arg17 arg18) a + S1x1x144x256.size a ≤ S8x8x144x256.size a := fun arg17 arg18 k0_hw1 => k0_hw1.2.2.2.2.1.2.2.2.2.1
theorem k0_off157_inb : ∀ (arg17 : BitVec 32) (arg18 : BitVec 32) (k0_hw1 : k0_chk1 arg17 arg18), ∀ a, (k0_off157 arg17 arg18) a + S1x256x128.size a ≤ S8x2048x128.size a := fun arg17 arg18 k0_hw1 => k0_hw1.2.2.2.2.1.2.2.2.2.2.1
theorem k0_off158_inb : ∀ (arg17 : BitVec 32) (arg18 : BitVec 32) (k0_hw1 : k0_chk1 arg17 arg18), ∀ a, (k0_off158 arg17 arg18) a + S1x256x128.size a ≤ S8x2048x128.size a := fun arg17 arg18 k0_hw1 => k0_hw1.2.2.2.2.1.2.2.2.2.2.2.1
theorem k0_off159_inb : ∀ (arg17 : BitVec 32) (arg18 : BitVec 32) (k0_hw1 : k0_chk1 arg17 arg18), ∀ a, (k0_off159 arg17 arg18) a + S1x144x256.size a ≤ S4x144x2048.size a := fun arg17 arg18 k0_hw1 => k0_hw1.2.2.2.2.1.2.2.2.2.2.2.2.1
theorem k0_off160_inb : ∀ (arg17 : BitVec 32) (arg18 : BitVec 32) (k0_hw1 : k0_chk1 arg17 arg18), ∀ a, (k0_off160 arg17 arg18) a + S1x1x144x256.size a ≤ S8x8x144x256.size a := fun arg17 arg18 k0_hw1 => k0_hw1.2.2.2.2.1.2.2.2.2.2.2.2.2.1
theorem k0_off161_inb : ∀ (arg17 : BitVec 32) (arg18 : BitVec 32) (k0_hw1 : k0_chk1 arg17 arg18), ∀ a, (k0_off161 arg17 arg18) a + S1x256x128.size a ≤ S8x2048x128.size a := fun arg17 arg18 k0_hw1 => k0_hw1.2.2.2.2.1.2.2.2.2.2.2.2.2.2.1
theorem k0_off162_inb : ∀ (arg17 : BitVec 32) (arg18 : BitVec 32) (k0_hw1 : k0_chk1 arg17 arg18), ∀ a, (k0_off162 arg17 arg18) a + S1x256x128.size a ≤ S8x2048x128.size a := fun arg17 arg18 k0_hw1 => k0_hw1.2.2.2.2.1.2.2.2.2.2.2.2.2.2.2.1
theorem k0_off163_inb : ∀ (arg17 : BitVec 32) (arg18 : BitVec 32) (k0_hw1 : k0_chk1 arg17 arg18), ∀ a, (k0_off163 arg17 arg18) a + S1x1x144x256.size a ≤ S8x8x144x256.size a := fun arg17 arg18 k0_hw1 => k0_hw1.2.2.2.2.1.2.2.2.2.2.2.2.2.2.2.2.1
theorem k0_off164_inb : ∀ (arg17 : BitVec 32) (arg18 : BitVec 32) (k0_hw1 : k0_chk1 arg17 arg18), ∀ a, (k0_off164 arg17 arg18) a + S1x256x128.size a ≤ S8x2048x128.size a := fun arg17 arg18 k0_hw1 => k0_hw1.2.2.2.2.1.2.2.2.2.2.2.2.2.2.2.2.2.1
theorem k0_off165_inb : ∀ (arg17 : BitVec 32) (arg18 : BitVec 32) (k0_hw1 : k0_chk1 arg17 arg18), ∀ a, (k0_off165 arg17 arg18) a + S1x256x128.size a ≤ S8x2048x128.size a := fun arg17 arg18 k0_hw1 => k0_hw1.2.2.2.2.1.2.2.2.2.2.2.2.2.2.2.2.2.2.1
theorem k0_off166_inb : ∀ (arg17 : BitVec 32) (arg18 : BitVec 32) (k0_hw1 : k0_chk1 arg17 arg18), ∀ a, (k0_off166 arg17 arg18) a + S1x144x256.size a ≤ S4x144x2048.size a := fun arg17 arg18 k0_hw1 => k0_hw1.2.2.2.2.1.2.2.2.2.2.2.2.2.2.2.2.2.2.2.1
theorem k0_off167_inb : ∀ (arg17 : BitVec 32) (arg18 : BitVec 32) (k0_hw1 : k0_chk1 arg17 arg18), ∀ a, (k0_off167 arg17 arg18) a + S1x1x144x256.size a ≤ S8x8x144x256.size a := fun arg17 arg18 k0_hw1 => k0_hw1.2.2.2.2.1.2.2.2.2.2.2.2.2.2.2.2.2.2.2.2.1
theorem k0_off168_inb : ∀ (arg17 : BitVec 32) (arg18 : BitVec 32) (k0_hw1 : k0_chk1 arg17 arg18), ∀ a, (k0_off168 arg17 arg18) a + S1x256x128.size a ≤ S8x2048x128.size a := fun arg17 arg18 k0_hw1 => k0_hw1.2.2.2.2.1.2.2.2.2.2.2.2.2.2.2.2.2.2.2.2.2.1
theorem k0_off169_inb : ∀ (arg17 : BitVec 32) (arg18 : BitVec 32) (k0_hw1 : k0_chk1 arg17 arg18), ∀ a, (k0_off169 arg17 arg18) a + S1x256x128.size a ≤ S8x2048x128.size a := fun arg17 arg18 k0_hw1 => k0_hw1.2.2.2.2.1.2.2.2.2.2.2.2.2.2.2.2.2.2.2.2.2.2.1
theorem k0_off170_inb : ∀ (arg17 : BitVec 32) (arg18 : BitVec 32) (k0_hw1 : k0_chk1 arg17 arg18), ∀ a, (k0_off170 arg17 arg18) a + S1x1x144x256.size a ≤ S8x8x144x256.size a := fun arg17 arg18 k0_hw1 => k0_hw1.2.2.2.2.1.2.2.2.2.2.2.2.2.2.2.2.2.2.2.2.2.2.2.1
theorem k0_off171_inb : ∀ (arg17 : BitVec 32) (arg18 : BitVec 32) (k0_hw1 : k0_chk1 arg17 arg18), ∀ a, (k0_off171 arg17 arg18) a + S1x256x128.size a ≤ S8x2048x128.size a := fun arg17 arg18 k0_hw1 => k0_hw1.2.2.2.2.1.2.2.2.2.2.2.2.2.2.2.2.2.2.2.2.2.2.2.2.1
theorem k0_off172_inb : ∀ (arg17 : BitVec 32) (arg18 : BitVec 32) (k0_hw1 : k0_chk1 arg17 arg18), ∀ a, (k0_off172 arg17 arg18) a + S1x256x128.size a ≤ S8x2048x128.size a := fun arg17 arg18 k0_hw1 => k0_hw1.2.2.2.2.1.2.2.2.2.2.2.2.2.2.2.2.2.2.2.2.2.2.2.2.2.1
theorem k0_off173_inb : ∀ (arg17 : BitVec 32) (arg18 : BitVec 32) (k0_hw1 : k0_chk1 arg17 arg18), ∀ a, (k0_off173 arg17 arg18) a + S1x144x256.size a ≤ S4x144x2048.size a := fun arg17 arg18 k0_hw1 => k0_hw1.2.2.2.2.1.2.2.2.2.2.2.2.2.2.2.2.2.2.2.2.2.2.2.2.2.2.1
theorem k0_off174_inb : ∀ (arg17 : BitVec 32) (arg18 : BitVec 32) (k0_hw1 : k0_chk1 arg17 arg18), ∀ a, (k0_off174 arg17 arg18) a + S1x1x144x256.size a ≤ S8x8x144x256.size a := fun arg17 arg18 k0_hw1 => k0_hw1.2.2.2.2.1.2.2.2.2.2.2.2.2.2.2.2.2.2.2.2.2.2.2.2.2.2.2.1
theorem k0_off175_inb : ∀ (arg17 : BitVec 32) (arg18 : BitVec 32) (k0_hw1 : k0_chk1 arg17 arg18), ∀ a, (k0_off175 arg17 arg18) a + S1x1x144x256.size a ≤ S8x8x144x256.size a := fun arg17 arg18 k0_hw1 => k0_hw1.2.2.2.2.1.2.2.2.2.2.2.2.2.2.2.2.2.2.2.2.2.2.2.2.2.2.2.2.1
theorem k0_mult19_dvd : ∀ (arg17 : BitVec 32) (arg18 : BitVec 32) (k0_hw1 : k0_chk1 arg17 arg18), 256 ∣ (k0_mult19 arg17 arg18).toNat := fun arg17 arg18 k0_hw1 => k0_hw1.2.2.2.2.1.2.2.2.2.2.2.2.2.2.2.2.2.2.2.2.2.2.2.2.2.2.2.2.2.1
theorem k0_mult20_dvd : ∀ (arg17 : BitVec 32) (arg18 : BitVec 32) (k0_hw1 : k0_chk1 arg17 arg18), 256 ∣ (k0_mult20 arg17 arg18).toNat := fun arg17 arg18 k0_hw1 => k0_hw1.2.2.2.2.1.2.2.2.2.2.2.2.2.2.2.2.2.2.2.2.2.2.2.2.2.2.2.2.2.2.1
theorem k0_mult21_dvd : ∀ (arg17 : BitVec 32) (arg18 : BitVec 32) (k0_hw1 : k0_chk1 arg17 arg18), 256 ∣ (k0_mult21 arg17 arg18).toNat := fun arg17 arg18 k0_hw1 => k0_hw1.2.2.2.2.1.2.2.2.2.2.2.2.2.2.2.2.2.2.2.2.2.2.2.2.2.2.2.2.2.2.2.1
theorem k0_off176_inb : ∀ (arg17 : BitVec 32) (arg18 : BitVec 32) (k0_hw1 : k0_chk1 arg17 arg18), ∀ a, (k0_off176 arg17 arg18) a + S1x256x256.size a ≤ S2x256x256.size a := fun arg17 arg18 k0_hw1 => k0_hw1.2.2.2.2.1.2.2.2.2.2.2.2.2.2.2.2.2.2.2.2.2.2.2.2.2.2.2.2.2.2.2.2.1
theorem k0_off177_inb : ∀ (arg17 : BitVec 32) (arg18 : BitVec 32) (k0_hw1 : k0_chk1 arg17 arg18), ∀ a, (k0_off177 arg17 arg18) a + S1x256x128.size a ≤ S8x2048x128.size a := fun arg17 arg18 k0_hw1 => k0_hw1.2.2.2.2.1.2.2.2.2.2.2.2.2.2.2.2.2.2.2.2.2.2.2.2.2.2.2.2.2.2.2.2.2.1
theorem k0_off178_inb : ∀ (arg17 : BitVec 32) (arg18 : BitVec 32) (k0_hw1 : k0_chk1 arg17 arg18), ∀ a, (k0_off178 arg17 arg18) a + S1x256x128.size a ≤ S8x2048x128.size a := fun arg17 arg18 k0_hw1 => k0_hw1.2.2.2.2.1.2.2.2.2.2.2.2.2.2.2.2.2.2.2.2.2.2.2.2.2.2.2.2.2.2.2.2.2.2.1
theorem k0_off179_inb : ∀ (arg17 : BitVec 32) (arg18 : BitVec 32) (k0_hw1 : k0_chk1 arg17 arg18), ∀ a, (k0_off179 arg17 arg18) a + S1x256x128.size a ≤ S8x2048x128.size a := fun arg17 arg18 k0_hw1 => k0_hw1.2.2.2.2.1.2.2.2.2.2.2.2.2.2.2.2.2.2.2.2.2.2.2.2.2.2.2.2.2.2.2.2.2.2.2.1
theorem k0_off180_inb : ∀ (arg17 : BitVec 32) (arg18 : BitVec 32) (k0_hw1 : k0_chk1 arg17 arg18), ∀ a, (k0_off180 arg17 arg18) a + S1x256x128.size a ≤ S8x2048x128.size a := fun arg17 arg18 k0_hw1 => k0_hw1.2.2.2.2.1.2.2.2.2.2.2.2.2.2.2.2.2.2.2.2.2.2.2.2.2.2.2.2.2.2.2.2.2.2.2.2
theorem k0_off181_inb : ∀ (arg17 : BitVec 32) (arg18 : BitVec 32) (k0_hw1 : k0_chk1 arg17 arg18), ∀ a, (k0_off181 arg17 arg18) a + S1x144x256.size a ≤ S4x144x2048.size a := fun arg17 arg18 k0_hw1 => k0_hw1.2.2.2.2.2.1
theorem k0_off182_inb : ∀ (arg17 : BitVec 32) (arg18 : BitVec 32) (k0_hw1 : k0_chk1 arg17 arg18), ∀ a, (k0_off182 arg17 arg18) a + S1x1x144x256.size a ≤ S8x8x144x256.size a := fun arg17 arg18 k0_hw1 => k0_hw1.2.2.2.2.2.2.1
theorem k0_off183_inb : ∀ (arg17 : BitVec 32) (arg18 : BitVec 32) (k0_hw1 : k0_chk1 arg17 arg18), ∀ a, (k0_off183 arg17 arg18) a + S1x256x128.size a ≤ S8x2048x128.size a := fun arg17 arg18 k0_hw1 => k0_hw1.2.2.2.2.2.2.2.1
theorem k0_off184_inb : ∀ (arg17 : BitVec 32) (arg18 : BitVec 32) (k0_hw1 : k0_chk1 arg17 arg18), ∀ a, (k0_off184 arg17 arg18) a + S1x256x128.size a ≤ S8x2048x128.size a := fun arg17 arg18 k0_hw1 => k0_hw1.2.2.2.2.2.2.2.2.1
theorem k0_off185_inb : ∀ (arg17 : BitVec 32) (arg18 : BitVec 32) (k0_hw1 : k0_chk1 arg17 arg18), ∀ a, (k0_off185 arg17 arg18) a + S1x1x144x256.size a ≤ S8x8x144x256.size a := fun arg17 arg18 k0_hw1 => k0_hw1.2.2.2.2.2.2.2.2.2.1
theorem k0_off186_inb : ∀ (arg17 : BitVec 32) (arg18 : BitVec 32) (k0_hw1 : k0_chk1 arg17 arg18), ∀ a, (k0_off186 arg17 arg18) a + S1x256x128.size a ≤ S8x2048x128.size a := fun arg17 arg18 k0_hw1 => k0_hw1.2.2.2.2.2.2.2.2.2.2.1
theorem k0_off187_inb : ∀ (arg17 : BitVec 32) (arg18 : BitVec 32) (k0_hw1 : k0_chk1 arg17 arg18), ∀ a, (k0_off187 arg17 arg18) a + S1x256x128.size a ≤ S8x2048x128.size a := fun arg17 arg18 k0_hw1 => k0_hw1.2.2.2.2.2.2.2.2.2.2.2.1
theorem k0_off188_inb : ∀ (arg17 : BitVec 32) (arg18 : BitVec 32) (k0_hw1 : k0_chk1 arg17 arg18), ∀ a, (k0_off188 arg17 arg18) a + S1x144x256.size a ≤ S4x144x2048.size a := fun arg17 arg18 k0_hw1 => k0_hw1.2.2.2.2.2.2.2.2.2.2.2.2.1
theorem k0_off189_inb : ∀ (arg17 : BitVec 32) (arg18 : BitVec 32) (k0_hw1 : k0_chk1 arg17 arg18), ∀ a, (k0_off189 arg17 arg18) a + S1x1x144x256.size a ≤ S8x8x144x256.size a := fun arg17 arg18 k0_hw1 => k0_hw1.2.2.2.2.2.2.2.2.2.2.2.2.2.1
theorem k0_off190_inb : ∀ (arg17 : BitVec 32) (arg18 : BitVec 32) (k0_hw1 : k0_chk1 arg17 arg18), ∀ a, (k0_off190 arg17 arg18) a + S1x256x128.size a ≤ S8x2048x128.size a := fun arg17 arg18 k0_hw1 => k0_hw1.2.2.2.2.2.2.2.2.2.2.2.2.2.2.1
theorem k0_off191_inb : ∀ (arg17 : BitVec 32) (arg18 : BitVec 32) (k0_hw1 : k0_chk1 arg17 arg18), ∀ a, (k0_off191 arg17 arg18) a + S1x256x128.size a ≤ S8x2048x128.size a := fun arg17 arg18 k0_hw1 => k0_hw1.2.2.2.2.2.2.2.2.2.2.2.2.2.2.2.1
theorem k0_off192_inb : ∀ (arg17 : BitVec 32) (arg18 : BitVec 32) (k0_hw1 : k0_chk1 arg17 arg18), ∀ a, (k0_off192 arg17 arg18) a + S1x1x144x256.size a ≤ S8x8x144x256.size a := fun arg17 arg18 k0_hw1 => k0_hw1.2.2.2.2.2.2.2.2.2.2.2.2.2.2.2.2.1
theorem k0_off193_inb : ∀ (arg17 : BitVec 32) (arg18 : BitVec 32) (k0_hw1 : k0_chk1 arg17 arg18), ∀ a, (k0_off193 arg17 arg18) a + S1x256x128.size a ≤ S8x2048x128.size a := fun arg17 arg18 k0_hw1 => k0_hw1.2.2.2.2.2.2.2.2.2.2.2.2.2.2.2.2.2.1
theorem k0_off194_inb : ∀ (arg17 : BitVec 32) (arg18 : BitVec 32) (k0_hw1 : k0_chk1 arg17 arg18), ∀ a, (k0_off194 arg17 arg18) a + S1x256x128.size a ≤ S8x2048x128.size a := fun arg17 arg18 k0_hw1 => k0_hw1.2.2.2.2.2.2.2.2.2.2.2.2.2.2.2.2.2.2.1
theorem k0_off195_inb : ∀ (arg17 : BitVec 32) (arg18 : BitVec 32) (k0_hw1 : k0_chk1 arg17 arg18), ∀ a, (k0_off195 arg17 arg18) a + S1x144x256.size a ≤ S4x144x2048.size a := fun arg17 arg18 k0_hw1 => k0_hw1.2.2.2.2.2.2.2.2.2.2.2.2.2.2.2.2.2.2.2.1
theorem k0_off196_inb : ∀ (arg17 : BitVec 32) (arg18 : BitVec 32) (k0_hw1 : k0_chk1 arg17 arg18), ∀ a, (k0_off196 arg17 arg18) a + S1x1x144x256.size a ≤ S8x8x144x256.size a := fun arg17 arg18 k0_hw1 => k0_hw1.2.2.2.2.2.2.2.2.2.2.2.2.2.2.2.2.2.2.2.2.1
theorem k0_off197_inb : ∀ (arg17 : BitVec 32) (arg18 : BitVec 32) (k0_hw1 : k0_chk1 arg17 arg18), ∀ a, (k0_off197 arg17 arg18) a + S1x256x128.size a ≤ S8x2048x128.size a := fun arg17 arg18 k0_hw1 => k0_hw1.2.2.2.2.2.2.2.2.2.2.2.2.2.2.2.2.2.2.2.2.2.1
theorem k0_off198_inb : ∀ (arg17 : BitVec 32) (arg18 : BitVec 32) (k0_hw1 : k0_chk1 arg17 arg18), ∀ a, (k0_off198 arg17 arg18) a + S1x256x128.size a ≤ S8x2048x128.size a := fun arg17 arg18 k0_hw1 => k0_hw1.2.2.2.2.2.2.2.2.2.2.2.2.2.2.2.2.2.2.2.2.2.2.1
theorem k0_off199_inb : ∀ (arg17 : BitVec 32) (arg18 : BitVec 32) (k0_hw1 : k0_chk1 arg17 arg18), ∀ a, (k0_off199 arg17 arg18) a + S1x1x144x256.size a ≤ S8x8x144x256.size a := fun arg17 arg18 k0_hw1 => k0_hw1.2.2.2.2.2.2.2.2.2.2.2.2.2.2.2.2.2.2.2.2.2.2.2.1
theorem k0_off200_inb : ∀ (arg17 : BitVec 32) (arg18 : BitVec 32) (k0_hw1 : k0_chk1 arg17 arg18), ∀ a, (k0_off200 arg17 arg18) a + S1x256x128.size a ≤ S8x2048x128.size a := fun arg17 arg18 k0_hw1 => k0_hw1.2.2.2.2.2.2.2.2.2.2.2.2.2.2.2.2.2.2.2.2.2.2.2.2.1
theorem k0_off201_inb : ∀ (arg17 : BitVec 32) (arg18 : BitVec 32) (k0_hw1 : k0_chk1 arg17 arg18), ∀ a, (k0_off201 arg17 arg18) a + S1x256x128.size a ≤ S8x2048x128.size a := fun arg17 arg18 k0_hw1 => k0_hw1.2.2.2.2.2.2.2.2.2.2.2.2.2.2.2.2.2.2.2.2.2.2.2.2.2.1
theorem k0_off202_inb : ∀ (arg17 : BitVec 32) (arg18 : BitVec 32) (k0_hw1 : k0_chk1 arg17 arg18), ∀ a, (k0_off202 arg17 arg18) a + S1x144x256.size a ≤ S4x144x2048.size a := fun arg17 arg18 k0_hw1 => k0_hw1.2.2.2.2.2.2.2.2.2.2.2.2.2.2.2.2.2.2.2.2.2.2.2.2.2.2.1
theorem k0_off203_inb : ∀ (arg17 : BitVec 32) (arg18 : BitVec 32) (k0_hw1 : k0_chk1 arg17 arg18), ∀ a, (k0_off203 arg17 arg18) a + S1x1x144x256.size a ≤ S8x8x144x256.size a := fun arg17 arg18 k0_hw1 => k0_hw1.2.2.2.2.2.2.2.2.2.2.2.2.2.2.2.2.2.2.2.2.2.2.2.2.2.2.2.1
theorem k0_off204_inb : ∀ (arg17 : BitVec 32) (arg18 : BitVec 32) (k0_hw1 : k0_chk1 arg17 arg18), ∀ a, (k0_off204 arg17 arg18) a + S1x1x144x256.size a ≤ S8x8x144x256.size a := fun arg17 arg18 k0_hw1 => k0_hw1.2.2.2.2.2.2.2.2.2.2.2.2.2.2.2.2.2.2.2.2.2.2.2.2.2.2.2.2

@[reducible] def k0_t4_loop : Scf.Loop 32 :=
  let c0_i32_207 : BitVec 32 := 0#32
  let c8_i32_208 : BitVec 32 := 8#32
  let v326 : BitVec 32 := Scalar.addi c0_i32_207 c8_i32_208
  let c1_i32_209 : BitVec 32 := 1#32
  ⟨c0_i32_207, v326, c1_i32_209⟩
def k0_mult22 (k0_t4 : Fin k0_t4_loop.trips) : BitVec 32 :=
  let c0_i32_207 : BitVec 32 := 0#32
  let c1_i32_209 : BitVec 32 := 1#32
  let arg16 : BitVec 32 := Scf.iv c0_i32_207 c1_i32_209 k0_t4
  let c256_i32_211 : BitVec 32 := 256#32
  let v327 : BitVec 32 := Scalar.muli arg16 c256_i32_211
  v327
def k0_off205 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v329 : Index := Scalar.indexCast arg16
  let c0_212 : Index := 0#32
  let c0_213 : Index := 0#32
  let c0_214 : Index := 0#32
  ![v329.toNat, 0, 0, 0]
def k0_off206 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v332 : Index := Scalar.indexCast arg16
  let c1_215 : Index := 1#32
  let c0_216 : Index := 0#32
  let c0_217 : Index := 0#32
  ![v332.toNat, 1, 0, 0]
def k0_off207 (k0_t4 : Fin k0_t4_loop.trips) : Fin 3 → Nat :=
  let c0_226 : Index := 0#32
  let c0_i32_207 : BitVec 32 := 0#32
  let c1_i32_209 : BitVec 32 := 1#32
  let arg16 : BitVec 32 := Scf.iv c0_i32_207 c1_i32_209 k0_t4
  let c256_i32_211 : BitVec 32 := 256#32
  let v327 : BitVec 32 := Scalar.muli arg16 c256_i32_211
  let v328 : BitVec 32 := v327
  let v368 : Index := Scalar.indexCast v328
  let c0_227 : Index := 0#32
  ![0, v368.toNat, 0]
def k0_off208 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v372 : Index := Scalar.indexCast arg16
  let c2_228 : Index := 2#32
  let c0_229 : Index := 0#32
  let c0_230 : Index := 0#32
  ![v372.toNat, 2, 0, 0]
def k0_off209 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v375 : Index := Scalar.indexCast arg16
  let c3_231 : Index := 3#32
  let c0_232 : Index := 0#32
  let c0_233 : Index := 0#32
  ![v375.toNat, 3, 0, 0]
def k0_off210 (k0_t4 : Fin k0_t4_loop.trips) : Fin 3 → Nat :=
  let c0_242 : Index := 0#32
  let c0_i32_207 : BitVec 32 := 0#32
  let c1_i32_209 : BitVec 32 := 1#32
  let arg16 : BitVec 32 := Scf.iv c0_i32_207 c1_i32_209 k0_t4
  let c256_i32_211 : BitVec 32 := 256#32
  let v327 : BitVec 32 := Scalar.muli arg16 c256_i32_211
  let v328 : BitVec 32 := v327
  let v411 : Index := Scalar.indexCast v328
  let c128_243 : Index := 128#32
  ![0, v411.toNat, 128]
def k0_off211 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v415 : Index := Scalar.indexCast arg16
  let c4_244 : Index := 4#32
  let c0_245 : Index := 0#32
  let c0_246 : Index := 0#32
  ![v415.toNat, 4, 0, 0]
def k0_off212 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v418 : Index := Scalar.indexCast arg16
  let c5_247 : Index := 5#32
  let c0_248 : Index := 0#32
  let c0_249 : Index := 0#32
  ![v418.toNat, 5, 0, 0]
def k0_off213 (k0_t4 : Fin k0_t4_loop.trips) : Fin 3 → Nat :=
  let c0_258 : Index := 0#32
  let c0_i32_207 : BitVec 32 := 0#32
  let c1_i32_209 : BitVec 32 := 1#32
  let arg16 : BitVec 32 := Scf.iv c0_i32_207 c1_i32_209 k0_t4
  let c256_i32_211 : BitVec 32 := 256#32
  let v327 : BitVec 32 := Scalar.muli arg16 c256_i32_211
  let v328 : BitVec 32 := v327
  let v454 : Index := Scalar.indexCast v328
  let c256_259 : Index := 256#32
  ![0, v454.toNat, 256]
def k0_off214 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v458 : Index := Scalar.indexCast arg16
  let c6_260 : Index := 6#32
  let c0_261 : Index := 0#32
  let c0_262 : Index := 0#32
  ![v458.toNat, 6, 0, 0]
def k0_off215 (k0_t4 : Fin k0_t4_loop.trips) : Fin 4 → Nat :=
  let c0_i32_207 : BitVec 32 := 0#32
  let c1_i32_209 : BitVec 32 := 1#32
  let arg16 : BitVec 32 := Scf.iv c0_i32_207 c1_i32_209 k0_t4
  let v461 : Index := Scalar.indexCast arg16
  let c7_263 : Index := 7#32
  let c0_264 : Index := 0#32
  let c0_265 : Index := 0#32
  ![v461.toNat, 7, 0, 0]
def k0_off216 (k0_t4 : Fin k0_t4_loop.trips) : Fin 3 → Nat :=
  let c0_274 : Index := 0#32
  let c0_i32_207 : BitVec 32 := 0#32
  let c1_i32_209 : BitVec 32 := 1#32
  let arg16 : BitVec 32 := Scf.iv c0_i32_207 c1_i32_209 k0_t4
  let c256_i32_211 : BitVec 32 := 256#32
  let v327 : BitVec 32 := Scalar.muli arg16 c256_i32_211
  let v328 : BitVec 32 := v327
  let v497 : Index := Scalar.indexCast v328
  let c384_275 : Index := 384#32
  ![0, v497.toNat, 384]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x2048x512 : Shape := ⟨3, ![16, 2048, 512]⟩
abbrev S1x64 : Shape := ⟨2, ![1, 64]⟩
abbrev S128 : Shape := ⟨1, ![128]⟩
abbrev S16x2048x4x2x64 : Shape := ⟨5, ![16, 2048, 4, 2, 64]⟩
abbrev S16x2048x4x128 : Shape := ⟨4, ![16, 2048, 4, 128]⟩
abbrev S_ : Shape := ⟨0, ![]⟩
abbrev S1 : Shape := ⟨1, ![1]⟩
abbrev S4 : Shape := ⟨1, ![4]⟩
abbrev S16x4x2x2048x2048 : Shape := ⟨5, ![16, 4, 2, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4x1x2048x2048 : Shape := ⟨5, ![1, 4, 1, 2048, 2048]⟩
abbrev S1x1x1x2048x2048 : Shape := ⟨5, ![1, 1, 1, 2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S128, .f32⟩
  | .hbm, ⟨8, _⟩ => ⟨S16x2048x4x2x64, .f32⟩
  | .hbm, ⟨9, _⟩ => ⟨S16x2048x4x2x64, .f32⟩
  | .hbm, ⟨10, _⟩ => ⟨S16x2048x4x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S4, .f32⟩
  | .hbm, ⟨20, _⟩ => ⟨S1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16x4x2x2048x2048, .f32⟩
  | .hbm, ⟨32, _⟩ => ⟨S_, .f32⟩
  | .hbm, ⟨33, _⟩ => ⟨S16x4x2x2048x2048, .f32⟩
  | .hbm, ⟨34, _⟩ => ⟨S16x4x2x2048x2048, .f32⟩
  | .hbm, ⟨35, _⟩ => ⟨S2048, .i32⟩
  | .hbm, ⟨36, _⟩ => ⟨S2048x1, .i32⟩
  | .hbm, ⟨37, _⟩ => ⟨S1x2048, .i32⟩
  | .hbm, ⟨38, _⟩ => ⟨S2048x2048, .i32⟩
  | .hbm, ⟨39, _⟩ => ⟨S2048x2048, .i32⟩
  | .hbm, ⟨40, _⟩ => ⟨S2048x2048, .i32⟩
  | .hbm, ⟨41, _⟩ => ⟨S4x1x1, .f32⟩
  | .hbm, ⟨42, _⟩ => ⟨S4x1x1, .f32⟩
  | .hbm, ⟨43, _⟩ => ⟨S2048x2048, .f32⟩
  | .hbm, ⟨44, _⟩ => ⟨S1x2048x2048, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S1x4x1x2048x2048, .f32⟩
  | .hbm, ⟨49, _⟩ => ⟨S16x4x2x2048x2048, .f32⟩
  | .hbm, ⟨50, _⟩ => ⟨S16x4x2x2048x2048, .f32⟩
  | .hbm, ⟨51, _⟩ => ⟨S_, .i32⟩
  | .hbm, ⟨52, _⟩ => ⟨S2048x2048, .i32⟩
  | .hbm, ⟨53, _⟩ => ⟨S2048x2048, .i1⟩
  | .hbm, ⟨54, _⟩ => ⟨S1x1x1x2048x2048, .i1⟩
  | .hbm, ⟨55, _⟩ => ⟨S_, .f32⟩
  | .hbm, ⟨56, _⟩ => ⟨S_, .f32⟩
  | .hbm, ⟨57, _⟩ => ⟨S16x4x2x2048x2048, .i1⟩
  | .hbm, ⟨58, _⟩ => ⟨S16x4x2x2048x2048, .f32⟩
  | .hbm, ⟨59, _⟩ => ⟨S16x4x2x2048x2048, .f32⟩
  | .hbm, ⟨60, _⟩ => ⟨S_, .f32⟩
  | .hbm, ⟨61, _⟩ => ⟨S16x4x2x2048, .f32⟩
  | .hbm, ⟨62, _⟩ => ⟨S_, .f32⟩
  | .hbm, ⟨63, _⟩ => ⟨S16x4x2x2048, .f32⟩
  | .hbm, ⟨64, _⟩ => ⟨S16x4x2x2048, .f32⟩
  | .hbm, ⟨65, _⟩ => ⟨S16x4x2x2048x1, .f32⟩
  | .hbm, ⟨66, _⟩ => ⟨S16x4x2x2048x2048, .f32⟩
  | .hbm, ⟨67, _⟩ => ⟨S16x4x2x2048x2048, .f32⟩
  | .hbm, ⟨68, _⟩ => ⟨S16x4x2x2048x2048, .f32⟩
  | .hbm, ⟨69, _⟩ => ⟨S_, .f32⟩
  | .hbm, ⟨70, _⟩ => ⟨S16x4x2x2048, .f32⟩
  | .hbm, ⟨71, _⟩ => ⟨S16x4x2x2048x1, .f32⟩
  | .hbm, ⟨72, _⟩ => ⟨S16x4x2x2048x2048, .f32⟩
  | .hbm, ⟨73, _⟩ => ⟨S16x4x2x2048x2048, .f32⟩
  | .hbm, ⟨74, _⟩ => ⟨S16x4x1x2048x2048, .f32⟩
  | .hbm, ⟨75, _⟩ => ⟨S16x4x2048x2048, .f32⟩
  | .hbm, ⟨76, _⟩ => ⟨S16x4x1x2048x2048, .f32⟩
  | .hbm, ⟨77, _⟩ => ⟨S16x4x2048x2048, .f32⟩
  | .hbm, ⟨78, _⟩ => ⟨S16x4x2048x2048, .f32⟩
  | .hbm, ⟨79, _⟩ => ⟨S16x4x2048x2048, .f32⟩
  | .hbm, ⟨80, _⟩ => ⟨S16x4x2048x2048, .f32⟩
  | .hbm, ⟨81, _⟩ => ⟨S16x4x128x2048, .f32⟩
  | .hbm, ⟨82, _⟩ => ⟨S16x2048x4x128, .f32⟩
  | .hbm, ⟨83, _⟩ => ⟨S16x2048x4x128, .f32⟩
  | .hbm, ⟨84, _⟩ => ⟨S_, .f32⟩
  | .hbm, ⟨85, _⟩ => ⟨S16x2048x4, .f32⟩
  | .hbm, ⟨86, _⟩ => ⟨S16x2048x4x1, .f32⟩
  | .hbm, ⟨87, _⟩ => ⟨S_, .f32⟩
  | .hbm, ⟨88, _⟩ => ⟨S16x2048x4x1, .f32⟩
  | .hbm, ⟨89, _⟩ => ⟨S16x2048x4x1, .f32⟩
  | .hbm, ⟨90, _⟩ => ⟨S_, .f32⟩
  | .hbm, ⟨91, _⟩ => ⟨S16x2048x4x1, .f32⟩
  | .hbm, ⟨92, _⟩ => ⟨S16x2048x4x1, .f32⟩
  | .hbm, ⟨93, _⟩ => ⟨S16x2048x4x1, .f32⟩
  | .hbm, ⟨94, _⟩ => ⟨S16x2048x4x128, .f32⟩
  | .hbm, ⟨95, _⟩ => ⟨S16x2048x4x128, .f32⟩
  | .hbm, ⟨96, _⟩ => ⟨S1x1x1x128, .f32⟩
  | .hbm, ⟨97, _⟩ => ⟨S16x2048x4x128, .f32⟩
  | .hbm, ⟨98, _⟩ => ⟨S16x2048x4x128, .f32⟩
  | .hbm, ⟨99, _⟩ => ⟨S_, .f32⟩
  | .hbm, ⟨100, _⟩ => ⟨S16x2048x4x128, .f32⟩
  | .hbm, ⟨101, _⟩ => ⟨S16x2048x4x128, .f32⟩
  | .hbm, ⟨102, _⟩ => ⟨S16x2048x512, .f32⟩
  | .hbm, ⟨103, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Kernel2.lean ====
abbrev S16x2048x512 : Shape := ⟨3, ![16, 2048, 512]⟩
abbrev S16x2048x1024 : Shape := ⟨3, ![16, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S32768x512 : Shape := ⟨2, ![32768, 512]⟩
abbrev S32768x1024 : Shape := ⟨2, ![32768, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 32
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S32768x512, .f32⟩
  | .hbm, ⟨13, _⟩ => ⟨S32768x512, .bf16⟩
  | .hbm, ⟨14, _⟩ => ⟨S32768x512, .f32⟩
  | .hbm, ⟨15, _⟩ => ⟨S32768x512, .bf16⟩
  | .hbm, ⟨16, _⟩ => ⟨S32768x1024, .f32⟩
  | .hbm, ⟨17, _⟩ => ⟨S512x1024, .bf16⟩
  | .hbm, ⟨18, _⟩ => ⟨S512x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024x2816, .f32⟩
  | .hbm, ⟨24, _⟩ => ⟨S1024x2816, .bf16⟩
  | .hbm, ⟨25, _⟩ => ⟨S1024x2816, .f32⟩
  | .hbm, ⟨26, _⟩ => ⟨S1024x2816, .bf16⟩
  | .hbm, ⟨27, _⟩ => ⟨S2816x1024, .f32⟩
  | .hbm, ⟨28, _⟩ => ⟨S2816x1024, .bf16⟩
  | .hbm, ⟨29, _⟩ => ⟨S1024, .f32⟩
  | .hbm, ⟨30, _⟩ => ⟨S1x1024, .f32⟩
  | .hbm, ⟨31, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16x2048x512 : Shape := ⟨3, ![16, 2048, 512]⟩
abbrev S16x2048x1024 : Shape := ⟨3, ![16, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S16x2048x1024, .f32⟩
  | .hbm, ⟨11, _⟩ => ⟨S1024x1024, .f32⟩
  | .hbm, ⟨12, _⟩ => ⟨S16x2048x1024, .f32⟩
  | .hbm, ⟨13, _⟩ => ⟨S1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1024, .f32⟩
  | .hbm, ⟨32, _⟩ => ⟨S16x2048x1024, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S1x1x1024, .f32⟩
  | .hbm, ⟨46, _⟩ => ⟨S16x2048x1024, .f32⟩
  | .hbm, ⟨47, _⟩ => ⟨S16x2048x1024, .f32⟩
  | .hbm, ⟨48, _⟩ => ⟨S1024x2816, .f32⟩
  | .hbm, ⟨49, _⟩ => ⟨S1024x2816, .f32⟩
  | .hbm, ⟨50, _⟩ => ⟨S2816x1024, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x1024, .f32⟩
  | .hbm, ⟨64, _⟩ => ⟨S1024, .f32⟩
  | .hbm, ⟨65, _⟩ => ⟨S16x2048x1024, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | .hbm, ⟨81, _⟩ => ⟨S_, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S32768x1024, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3072 : Shape := ⟨3, ![1, 1024, 3072]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1024x3072 : Shape := ⟨2, ![1024, 3072]⟩
abbrev S16x512x2048 : Shape := ⟨3, ![16, 512, 2048]⟩
abbrev S32768x1536 : Shape := ⟨2, ![32768, 1536]⟩
abbrev S512x1024 : Shape := ⟨2, ![512, 1024]⟩
abbrev S1x512x512 : Shape := ⟨3, ![1, 512, 512]⟩
abbrev S512x1536 : Shape := ⟨2, ![512, 1536]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S256x3072 : Shape := ⟨2, ![256, 3072]⟩
abbrev S256x512 : Shape := ⟨2, ![256, 512]⟩
abbrev S512x256 : Shape := ⟨2, ![512, 256]⟩
abbrev S1x512x256 : Shape := ⟨3, ![1, 512, 256]⟩
abbrev S256x1536 : Shape := ⟨2, ![256, 1536]⟩

abbrev nBuf : Space → Nat
  | .hbm => 27
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1x1024x3072, .f32⟩
  | .hbm, ⟨8, _⟩ => ⟨S32768x1024, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2816, .bf16⟩
  | .hbm, ⟨15, _⟩ => ⟨S2816x1024, .f32⟩
  | .hbm, ⟨16, _⟩ => ⟨S2816x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x3072, .f32⟩
  | .hbm, ⟨22, _⟩ => ⟨S1024x3072, .bf16⟩
  | .hbm, ⟨23, _⟩ => ⟨S32768x1024, .f32⟩
  | .hbm, ⟨24, _⟩ => ⟨S32768x1024, .bf16⟩
  | .hbm, ⟨25, _⟩ => ⟨S16x512x2048, .bf16⟩
  | .hbm, ⟨26, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1024x3072, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x512x512, .bf16⟩
  | .local _ .vmem, ⟨14, _⟩ => ⟨S1x512x512, .bf16⟩
  | .local _ .vmem, ⟨15, _⟩ => ⟨S512x1536, .f32⟩
  | .local _ .vmem, ⟨16, _⟩ => ⟨S512x1536, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16x2048x1024 : Shape := ⟨3, ![16, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3072 : Shape := ⟨3, ![1, 1024, 3072]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S16x2048x2816 : Shape := ⟨3, ![16, 2048, 2816]⟩
abbrev S1024x3072 : Shape := ⟨2, ![1024, 3072]⟩
abbrev S16x2048x3072 : Shape := ⟨3, ![16, 2048, 3072]⟩
abbrev S32768x1024 : Shape := ⟨2, ![32768, 1024]⟩
abbrev S16x2048x512 : Shape := ⟨3, ![16, 2048, 512]⟩
abbrev S16x512x2048 : Shape := ⟨3, ![16, 512, 2048]⟩
abbrev S16x2048x1536 : Shape := ⟨3, ![16, 2048, 1536]⟩
abbrev S32768x1536 : Shape := ⟨2, ![32768, 1536]⟩

abbrev nBuf : Space → Nat
  | .hbm => 90
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024, .f32⟩
  | .hbm, ⟨7, _⟩ => ⟨S1x1024x3072, .f32⟩
  | .hbm, ⟨8, _⟩ => ⟨S1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S1024x2816, .f32⟩
  | .hbm, ⟨26, _⟩ => ⟨S1024x2816, .f32⟩
  | .hbm, ⟨27, _⟩ => ⟨S2816x1024, .f32⟩
  | .hbm, ⟨28, _⟩ => ⟨S16x2048x2816, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S_, .f32⟩
  | .hbm, ⟨35, _⟩ => ⟨S16x2048x2816, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S16x2048x1024, .f32⟩
  | .hbm, ⟨41, _⟩ => ⟨S1024, .f32⟩
  | .hbm, ⟨42, _⟩ => ⟨S16x2048x1024, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S1024, .f32⟩
  | .hbm, ⟨63, _⟩ => ⟨S16x2048x1024, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S1024x3072, .f32⟩
  | .hbm, ⟨80, _⟩ => ⟨S16x2048x3072, .f32⟩
  | .hbm, ⟨81, _⟩ => ⟨S16x2048x1024, .f32⟩
  | .hbm, ⟨82, _⟩ => ⟨S32768x1024, .f32⟩
  | .hbm, ⟨83, _⟩ => ⟨S32768x1024, .bf16⟩
  | .hbm, ⟨84, _⟩ => ⟨S16x2048x512, .f32⟩
  | .hbm, ⟨85, _⟩ => ⟨S16x512x2048, .f32⟩
  | .hbm, ⟨86, _⟩ => ⟨S16x512x2048, .bf16⟩
  | .hbm, ⟨87, _⟩ => ⟨S16x2048x1536, .f32⟩
  | .hbm, ⟨88, _⟩ => ⟨S32768x1536, .f32⟩
  | .hbm, ⟨89, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel4.lean ====
abbrev S16x2048x512 : Shape := ⟨3, ![16, 2048, 512]⟩
abbrev S8 : Shape := ⟨1, ![8]⟩
abbrev S_ : Shape := ⟨0, ![]⟩
abbrev S16x2048x1536 : Shape := ⟨3, ![16, 2048, 1536]⟩
abbrev S1x2048x128 : Shape := ⟨3, ![1, 2048, 128]⟩
abbrev S2048x128 : Shape := ⟨2, ![2048, 128]⟩
abbrev S3x2048x128 : Shape := ⟨3, ![3, 2048, 128]⟩
abbrev S3x128x2176 : Shape := ⟨3, ![3, 128, 2176]⟩
abbrev S3x2176x128 : Shape := ⟨3, ![3, 2176, 128]⟩
abbrev S8x128x256 : Shape := ⟨3, ![8, 128, 256]⟩
abbrev S4x2048x128 : Shape := ⟨3, ![4, 2048, 128]⟩
abbrev S1x128 : Shape := ⟨2, ![1, 128]⟩
abbrev S128x128 : Shape := ⟨2, ![128, 128]⟩
abbrev S1x128x128 : Shape := ⟨3, ![1, 128, 128]⟩
abbrev S128x256 : Shape := ⟨2, ![128, 256]⟩
abbrev S1 : Shape := ⟨1, ![1]⟩
abbrev S1x128x256 : Shape := ⟨3, ![1, 128, 256]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩
abbrev S1x64x128 : Shape := ⟨3, ![1, 64, 128]⟩
abbrev S64x128 : Shape := ⟨2, ![64, 128]⟩

abbrev nBuf : Space → Nat
  | .hbm => 9
  | .vmem => 20
  | .smem => 1
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S8, .f32⟩
  | .hbm, ⟨4, _⟩ => ⟨S_, .f32⟩
  | .hbm, ⟨5, _⟩ => ⟨S16x2048x512, .f32⟩
  | .hbm, ⟨6, _⟩ => ⟨S16x2048x512, .f32⟩
  | .hbm, ⟨7, _⟩ => ⟨S16x2048x1536, .f32⟩
  | .hbm, ⟨8, _⟩ => ⟨S16x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .bf16⟩
  | .local _ .vmem, ⟨7, _⟩ => ⟨S1x2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S3x2048x128, .bf16⟩
  | .local _ .vmem, ⟨12, _⟩ => ⟨S3x128x2176, .bf16⟩
  | .local _ .vmem, ⟨13, _⟩ => ⟨S3x2176x128, .bf16⟩
  | .local _ .vmem, ⟨14, _⟩ => ⟨S8x128x256, .f32⟩
  | .local _ .vmem, ⟨15, _⟩ => ⟨S3x2048x128, .f32⟩
  | .local _ .vmem, ⟨16, _⟩ => ⟨S3x2048x128, .f32⟩
  | .local _ .vmem, ⟨17, _⟩ => ⟨S3x2048x128, .f32⟩
  | .local _ .vmem, ⟨18, _⟩ => ⟨S3x2048x128, .f32⟩
  | .local _ .vmem, ⟨19, _⟩ => ⟨S4x2048x128, .f32⟩
  | .local _ .smem, ⟨0, _⟩ => ⟨S8, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_off1 (i : grid0.Coords) (c0_i32_7 : BitVec 32) : Fin 1 → Nat :=
  let c2_i32 : BitVec 32 := 2#32
  let arg1 : BitVec 32 := BitVec.ofNat 32 (i 1).val
  let v22 : BitVec 32 := Scalar.muli c2_i32 arg1
  let v23 : BitVec 32 := Scalar.addi v22 c0_i32_7
  let v24 : Index := Scalar.indexCast v23
  ![v24.toNat]
@[reducible] def k0_t1_loop : Scf.Loop 32 :=
  let c0_i32_2719 : BitVec 32 := 0#32
  let c8_i32 : BitVec 32 := 8#32
  let v4770 : BitVec 32 := Scalar.addi c0_i32_2719 c8_i32
  let c1_i32_2720 : BitVec 32 := 1#32
  ⟨c0_i32_2719, v4770, c1_i32_2720⟩
def k0_mult1 (k0_t1 : Fin k0_t1_loop.trips) : BitVec 32 :=
  let c0_i32_2719 : BitVec 32 := 0#32
  let c1_i32_2720 : BitVec 32 := 1#32
  let arg19 : BitVec 32 := Scf.iv c0_i32_2719 c1_i32_2720 k0_t1
  let c256_i32 : BitVec 32 := 256#32
  let v4771 : BitVec 32 := Scalar.muli arg19 c256_i32
  v4771
def k0_mult2 (k0_t1 : Fin k0_t1_loop.trips) : BitVec 32 :=
  let c0_i32_2723 : BitVec 32 := 0#32
  let c0_i32_2719 : BitVec 32 := 0#32
  let c1_i32_2720 : BitVec 32 := 1#32
  let arg19 : BitVec 32 := Scf.iv c0_i32_2719 c1_i32_2720 k0_t1
  let c64_i32_2722 : BitVec 32 := 64#32
  let v4773 : BitVec 32 := Scalar.muli arg19 c64_i32_2722
  let v4774 : BitVec 32 := Scalar.addi c0_i32_2723 v4773
  v4774
def k0_off2 (k0_t1 : Fin k0_t1_loop.trips) (c0_i32_2723 : BitVec 32) : Fin 3 → Nat :=
  let c0_2726 : Index := 0#32
  let c0_i32_2719 : BitVec 32 := 0#32
  let c1_i32_2720 : BitVec 32 := 1#32
  let arg19 : BitVec 32 := Scf.iv c0_i32_2719 c1_i32_2720 k0_t1
  let c64_i32_2722 : BitVec 32 := 64#32
  let v4773 : BitVec 32 := Scalar.muli arg19 c64_i32_2722
  let v4774 : BitVec 32 := Scalar.addi c0_i32_2723 v4773
  let v4775 : BitVec 32 := v4774
  let v4778 : Index := Scalar.indexCast v4775
  let c0_2727 : Index := 0#32
  ![0, v4778.toNat, 0]
def k0_off3 (k0_t1 : Fin k0_t1_loop.trips) (c0_i32_2725 : BitVec 32) : Fin 3 → Nat :=
  let c2_2728 : Index := 2#32
  let c0_i32_2719 : BitVec 32 := 0#32
  let c1_i32_2720 : BitVec 32 := 1#32
  let arg19 : BitVec 32 := Scf.iv c0_i32_2719 c1_i32_2720 k0_t1
  let c256_i32_2724 : BitVec 32 := 256#32
  let v4776 : BitVec 32 := Scalar.muli arg19 c256_i32_2724
  let v4777 : BitVec 32 := Scalar.addi v4776 c0_i32_2725
  let v4781 : Index := Scalar.indexCast v4777
  let c0_2729 : Index := 0#32
  ![2, v4781.toNat, 0]
def k0_off4 (k0_t1 : Fin k0_t1_loop.trips) (c0_i32_2723 : BitVec 32) : Fin 3 → Nat :=
  let c1_2730 : Index := 1#32
  let c0_i32_2719 : BitVec 32 := 0#32
  let c1_i32_2720 : BitVec 32 := 1#32
  let arg19 : BitVec 32 := Scf.iv c0_i32_2719 c1_i32_2720 k0_t1
  let c64_i32_2722 : BitVec 32 := 64#32
  let v4773 : BitVec 32 := Scalar.muli arg19 c64_i32_2722
  let v4774 : BitVec 32 := Scalar.addi c0_i32_2723 v4773
  let v4775 : BitVec 32 := v4774
  let v4785 : Index := Scalar.indexCast v4775
  let c0_2731 : Index := 0#32
  ![1, v4785.toNat, 0]
def k0_off5 (k0_t1 : Fin k0_t1_loop.trips) (c0_i32_2723 : BitVec 32) : Fin 3 → Nat :=
  let c2_2734 : Index := 2#32
  let c0_i32_2719 : BitVec 32 := 0#32
  let c1_i32_2720 : BitVec 32 := 1#32
  let arg19 : BitVec 32 := Scf.iv c0_i32_2719 c1_i32_2720 k0_t1
  let c64_i32_2722 : BitVec 32 := 64#32
  let v4773 : BitVec 32 := Scalar.muli arg19 c64_i32_2722
  let v4774 : BitVec 32 := Scalar.addi c0_i32_2723 v4773
  let v4775 : BitVec 32 := v4774
  let v4792 : Index := Scalar.indexCast v4775
  let c0_2735 : Index := 0#32
  ![2, v4792.toNat, 0]
def k0_off6 (k0_t1 : Fin k0_t1_loop.trips) (c0_i32_2723 : BitVec 32) : Fin 3 → Nat :=
  let c3_2738 : Index := 3#32
  let c0_i32_2719 : BitVec 32 := 0#32
  let c1_i32_2720 : BitVec 32 := 1#32
  let arg19 : BitVec 32 := Scf.iv c0_i32_2719 c1_i32_2720 k0_t1
  let c64_i32_2722 : BitVec 32 := 64#32
  let v4773 : BitVec 32 := Scalar.muli arg19 c64_i32_2722
  let v4774 : BitVec 32 := Scalar.addi c0_i32_2723 v4773
  let v4775 : BitVec 32 := v4774
  let v4799 : Index := Scalar.indexCast v4775
  let c0_2739 : Index := 0#32
  ![3, v4799.toNat, 0]
def k0_mult3 (k0_t1 : Fin k0_t1_loop.trips) : BitVec 32 :=
  let c512_i32 : BitVec 32 := 512#32
  let c0_i32_2719 : BitVec 32 := 0#32
  let c1_i32_2720 : BitVec 32 := 1#32
  let arg19 : BitVec 32 := Scf.iv c0_i32_2719 c1_i32_2720 k0_t1
  let c64_i32_2742 : BitVec 32 := 64#32
  let v4806 : BitVec 32 := Scalar.muli arg19 c64_i32_2742
  let v4807 : BitVec 32 := Scalar.addi c512_i32 v4806
  v4807
def k0_mult4 (k0_t1 : Fin k0_t1_loop.trips) : BitVec 32 :=
  let c1024_i32 : BitVec 32 := 1024#32
  let c0_i32_2719 : BitVec 32 := 0#32
  let c1_i32_2720 : BitVec 32 := 1#32
  let arg19 : BitVec 32 := Scf.iv c0_i32_2719 c1_i32_2720 k0_t1
  let c64_i32_2761 : BitVec 32 := 64#32
  let v4839 : BitVec 32 := Scalar.muli arg19 c64_i32_2761
  let v4840 : BitVec 32 := Scalar.addi c1024_i32 v4839
  v4840
def k0_mult5 (k0_t1 : Fin k0_t1_loop.trips) : BitVec 32 :=
  let c1536_i32 : BitVec 32 := 1536#32
  let c0_i32_2719 : BitVec 32 := 0#32
  let c1_i32_2720 : BitVec 32 := 1#32
  let arg19 : BitVec 32 := Scf.iv c0_i32_2719 c1_i32_2720 k0_t1
  let c64_i32_2780 : BitVec 32 := 64#32
  let v4872 : BitVec 32 := Scalar.muli arg19 c64_i32_2780
  let v4873 : BitVec 32 := Scalar.addi c1536_i32 v4872
  v4873
def k0_off7 (k0_t1 : Fin k0_t1_loop.trips) : Fin 3 → Nat :=
  let c0_2798 : Index := 0#32
  let c0_i32_2719 : BitVec 32 := 0#32
  let c1_i32_2720 : BitVec 32 := 1#32
  let arg19 : BitVec 32 := Scf.iv c0_i32_2719 c1_i32_2720 k0_t1
  let c256_i32 : BitVec 32 := 256#32
  let v4771 : BitVec 32 := Scalar.muli arg19 c256_i32
  let v4772 : BitVec 32 := v4771
  let v4905 : Index := Scalar.indexCast v4772
  let c0_2799 : Index := 0#32
  ![0, v4905.toNat, 0]
def k0_off8 (k0_t1 : Fin k0_t1_loop.trips) : Fin 3 → Nat :=
  let c1_2800 : Index := 1#32
  let c0_i32_2719 : BitVec 32 := 0#32
  let c1_i32_2720 : BitVec 32 := 1#32
  let arg19 : BitVec 32 := Scf.iv c0_i32_2719 c1_i32_2720 k0_t1
  let c256_i32 : BitVec 32 := 256#32
  let v4771 : BitVec 32 := Scalar.muli arg19 c256_i32
  let v4772 : BitVec 32 := v4771
  let v4908 : Index := Scalar.indexCast v4772
  let c0_2801 : Index := 0#32
  ![1, v4908.toNat, 0]
def k0_off9 (k0_t1 : Fin k0_t1_loop.trips) : Fin 3 → Nat :=
  let c2_2802 : Index := 2#32
  let c0_i32_2719 : BitVec 32 := 0#32
  let c1_i32_2720 : BitVec 32 := 1#32
  let arg19 : BitVec 32 := Scf.iv c0_i32_2719 c1_i32_2720 k0_t1
  let c256_i32 : BitVec 32 := 256#32
  let v4771 : BitVec 32 := Scalar.muli arg19 c256_i32
  let v4772 : BitVec 32 := v4771
  let v4911 : Index := Scalar.indexCast v4772
  let c0_2803 : Index := 0#32
  ![2, v4911.toNat, 0]
def k0_off10 (k0_t1 : Fin k0_t1_loop.trips) : Fin 3 → Nat :=
  let c0_2824 : Index := 0#32
  let c0_i32_2719 : BitVec 32 := 0#32
  let c1_i32_2720 : BitVec 32 := 1#32
  let arg19 : BitVec 32 := Scf.iv c0_i32_2719 c1_i32_2720 k0_t1
  let c256_i32 : BitVec 32 := 256#32
  let v4771 : BitVec 32 := Scalar.muli arg19 c256_i32
  let v4772 : BitVec 32 := v4771
  let v4972 : Index := Scalar.indexCast v4772
  let c0_2825 : Index := 0#32
  ![0, v4972.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S16x2048x512 : Shape := ⟨3, ![16, 2048, 512]⟩
abbrev S8 : Shape := ⟨1, ![8]⟩
abbrev S16x2048x8x64 : Shape := ⟨4, ![16, 2048, 8, 64]⟩
abbrev S16x2048x1x8x64 : Shape := ⟨5, ![16, 2048, 1, 8, 64]⟩
abbrev S16x1x2048x8x64 : Shape := ⟨5, ![16, 1, 2048, 8, 64]⟩
abbrev S16x1x16x128x8x64 : Shape := ⟨6, ![16, 1, 16, 128, 8, 64]⟩
abbrev S_ : Shape := ⟨0, ![]⟩
abbrev S16x1x17x128x8x64 : Shape := ⟨6, ![16, 1, 17, 128, 8, 64]⟩
abbrev S16x1x16x256x8x64 : Shape := ⟨6, ![16, 1, 16, 256, 8, 64]⟩
abbrev S16x1x16x8x128x256 : Shape := ⟨6, ![16, 1, 16, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S8x1x1 : Shape := ⟨3, ![8, 1, 1]⟩
abbrev S8x128x256 : Shape := ⟨3, ![8, 128, 256]⟩
abbrev S1x1x1x8x128x256 : Shape := ⟨6, ![1, 1, 1, 8, 128, 256]⟩
abbrev S1x1x16x1x128x256 : Shape := ⟨6, ![1, 1, 16, 1, 128, 256]⟩
abbrev S16x1x16x8x128 : Shape := ⟨5, ![16, 1, 16, 8, 128]⟩
abbrev S16x1x16x8x128x1 : Shape := ⟨6, ![16, 1, 16, 8, 128, 1]⟩
abbrev S16x1x16x8x64x128 : Shape := ⟨6, ![16, 1, 16, 8, 64, 128]⟩
abbrev S16x1x16x128x8 : Shape := ⟨5, ![16, 1, 16, 128, 8]⟩
abbrev S16x1x2048x8 : Shape := ⟨4, ![16, 1, 2048, 8]⟩
abbrev S16x2048x1x8 : Shape := ⟨4, ![16, 2048, 1, 8]⟩
abbrev S16x2048x8 : Shape := ⟨3, ![16, 2048, 8]⟩
abbrev S16x512x4x8x64 : Shape := ⟨5, ![16, 512, 4, 8, 64]⟩
abbrev S16x4x512x8x64 : Shape := ⟨5, ![16, 4, 512, 8, 64]⟩
abbrev S16x4x4x128x8x64 : Shape := ⟨6, ![16, 4, 4, 128, 8, 64]⟩
abbrev S16x4x5x128x8x64 : Shape := ⟨6, ![16, 4, 5, 128, 8, 64]⟩
abbrev S16x4x4x256x8x64 : Shape := ⟨6, ![16, 4, 4, 256, 8, 64]⟩
abbrev S16x4x4x8x128x256 : Shape := ⟨6, ![16, 4, 4, 8, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S1x1x4x1x128x256 : Shape := ⟨6, ![1, 1, 4, 1, 128, 256]⟩
abbrev S16x4x4x8x128 : Shape := ⟨5, ![16, 4, 4, 8, 128]⟩
abbrev S16x4x4x8x128x1 : Shape := ⟨6, ![16, 4, 4, 8, 128, 1]⟩
abbrev S16x4x4x8x64x128 : Shape := ⟨6, ![16, 4, 4, 8, 64, 128]⟩
abbrev S16x4x4x128x8 : Shape := ⟨5, ![16, 4, 4, 128, 8]⟩
abbrev S16x4x512x8 : Shape := ⟨4, ![16, 4, 512, 8]⟩
abbrev S16x512x4x8 : Shape := ⟨4, ![16, 512, 4, 8]⟩
abbrev S16x128x16x8x64 : Shape := ⟨5, ![16, 128, 16, 8, 64]⟩
abbrev S16x16x128x8x64 : Shape := ⟨5, ![16, 16, 128, 8, 64]⟩
abbrev S16x16x1x128x8x64 : Shape := ⟨6, ![16, 16, 1, 128, 8, 64]⟩
abbrev S16x16x2x128x8x64 : Shape := ⟨6, ![16, 16, 2, 128, 8, 64]⟩
abbrev S16x16x1x256x8x64 : Shape := ⟨6, ![16, 16, 1, 256, 8, 64]⟩
abbrev S16x16x1x8x128x256 : Shape := ⟨6, ![16, 16, 1, 8, 128, 256]⟩
abbrev S1 : Shape := ⟨1, ![1]⟩
abbrev S1x1x1 : Shape := ⟨3, ![1, 1, 1]⟩
abbrev S1x1x1x1x128x256 : Shape := ⟨6, ![1, 1, 1, 1, 128, 256]⟩
abbrev S16x16x1x8x128 : Shape := ⟨5, ![16, 16, 1, 8, 128]⟩
abbrev S16x16x1x8x128x1 : Shape := ⟨6, ![16, 16, 1, 8, 128, 1]⟩
abbrev S16x16x1x8x64x128 : Shape := ⟨6, ![16, 16, 1, 8, 64, 128]⟩
abbrev S16x16x1x128x8 : Shape := ⟨5, ![16, 16, 1, 128, 8]⟩
abbrev S16x16x128x8 : Shape := ⟨4, ![16, 16, 128, 8]⟩
abbrev S16x128x16x8 : Shape := ⟨4, ![16, 128, 16, 8]⟩
abbrev S1x16x2048x8 : Shape := ⟨4, ![1, 16, 2048, 8]⟩
abbrev S3x16x2048x8 : Shape := ⟨4, ![3, 16, 2048, 8]⟩
abbrev S16x2048x8x1 : Shape := ⟨4, ![16, 2048, 8, 1]⟩

abbrev nBuf : Space → Nat
  | .hbm => 351
  | .vmem => 0
  | .smem => 0
  | _ => 0

abbrev hbmTy0_0 (i : Nat) : BufTy := match i % 128 with
  | 0 => ⟨S16x2048x512, .f32⟩
  | 1 => ⟨S16x2048x512, .f32⟩
  | 2 => ⟨S16x2048x512, .f32⟩
  | 3 => ⟨S8, .f32⟩
  | 4 => ⟨S16x2048x8x64, .f32⟩
  | 5 => ⟨S16x2048x8x64, .f32⟩
  | 6 => ⟨S16x2048x8x64, .f32⟩
  | 7 => ⟨S16x2048x1x8x64, .f32⟩
  | 8 => ⟨S16x1x2048x8x64, .f32⟩
  | 9 => ⟨S16x1x16x128x8x64, .f32⟩
  | 10 => ⟨S16x2048x1x8x64, .f32⟩
  | 11 => ⟨S16x1x2048x8x64, .f32⟩
  | 12 => ⟨S16x1x16x128x8x64, .f32⟩
  | 13 => ⟨S_, .i32⟩
  | 14 => ⟨S_, .f32⟩
  | 15 => ⟨S16x1x17x128x8x64, .f32⟩
  | 16 => ⟨S16x1x16x128x8x64, .f32⟩
  | 17 => ⟨S16x1x16x256x8x64, .f32⟩
  | 18 => ⟨S16x2048x1x8x64, .f32⟩
  | 19 => ⟨S16x1x2048x8x64, .f32⟩
  | 20 => ⟨S16x1x16x128x8x64, .f32⟩
  | 21 => ⟨S_, .i32⟩
  | 22 => ⟨S_, .f32⟩
  | 23 => ⟨S16x1x17x128x8x64, .f32⟩
  | 24 => ⟨S16x1x16x128x8x64, .f32⟩
  | 25 => ⟨S16x1x16x256x8x64, .f32⟩
  | 26 => ⟨S16x1x16x8x128x256, .f32⟩
  | 27 => ⟨S_, .f32⟩
  | 28 => ⟨S16x1x16x8x128x256, .f32⟩
  | 29 => ⟨S16x1x16x8x128x256, .f32⟩
  | 30 => ⟨S128, .i32⟩
  | 31 => ⟨S256, .i32⟩
  | 32 => ⟨S_, .i32⟩
  | 33 => ⟨S128, .i32⟩
  | 34 => ⟨S128, .i32⟩
  | 35 => ⟨S128x1, .i32⟩
  | 36 => ⟨S1x256, .i32⟩
  | 37 => ⟨S128x256, .i32⟩
  | 38 => ⟨S128x256, .i32⟩
  | 39 => ⟨S128x256, .i32⟩
  | 40 => ⟨S16, .i32⟩
  | 41 => ⟨S16x1x1, .i32⟩
  | 42 => ⟨S_, .i32⟩
  | 43 => ⟨S16x1x1, .i32⟩
  | 44 => ⟨S16x1x1, .i32⟩
  | 45 => ⟨S_, .i32⟩
  | 46 => ⟨S16x1x1, .i32⟩
  | 47 => ⟨S16x1x1, .i32⟩
  | 48 => ⟨S1x1x256, .i32⟩
  | 49 => ⟨S16x1x256, .i32⟩
  | 50 => ⟨S16x1x256, .i32⟩
  | 51 => ⟨S16x1x256, .i32⟩
  | 52 => ⟨S_, .i32⟩
  | 53 => ⟨S128x256, .i32⟩
  | 54 => ⟨S128x256, .i1⟩
  | 55 => ⟨S1x128x256, .i1⟩
  | 56 => ⟨S_, .i32⟩
  | 57 => ⟨S128x256, .i32⟩
  | 58 => ⟨S128x256, .i1⟩
  | 59 => ⟨S1x128x256, .i1⟩
  | 60 => ⟨S1x128x256, .i1⟩
  | 61 => ⟨S_, .i32⟩
  | 62 => ⟨S16x1x256, .i32⟩
  | 63 => ⟨S16x1x256, .i1⟩
  | 64 => ⟨S16x128x256, .i1⟩
  | 65 => ⟨S16x128x256, .i1⟩
  | 66 => ⟨S16x128x256, .i1⟩
  | 67 => ⟨S8x1x1, .f32⟩
  | 68 => ⟨S8x1x1, .f32⟩
  | 69 => ⟨S_, .i32⟩
  | 70 => ⟨S128x256, .i32⟩
  | 71 => ⟨S128x256, .i32⟩
  | 72 => ⟨S128x256, .f32⟩
  | 73 => ⟨S1x128x256, .f32⟩
  | 74 => ⟨S8x128x256, .f32⟩
  | 75 => ⟨S8x128x256, .f32⟩
  | 76 => ⟨S8x128x256, .f32⟩
  | 77 => ⟨S1x1x1x8x128x256, .f32⟩
  | 78 => ⟨S16x1x16x8x128x256, .f32⟩
  | 79 => ⟨S16x1x16x8x128x256, .f32⟩
  | 80 => ⟨S1x1x16x1x128x256, .i1⟩
  | 81 => ⟨S_, .f32⟩
  | 82 => ⟨S_, .f32⟩
  | 83 => ⟨S16x1x16x8x128x256, .i1⟩
  | 84 => ⟨S16x1x16x8x128x256, .f32⟩
  | 85 => ⟨S16x1x16x8x128x256, .f32⟩
  | 86 => ⟨S_, .f32⟩
  | 87 => ⟨S16x1x16x8x128, .f32⟩
  | 88 => ⟨S16x1x16x8x128x1, .f32⟩
  | 89 => ⟨S16x1x16x8x128x256, .f32⟩
  | 90 => ⟨S16x1x16x8x128x256, .f32⟩
  | 91 => ⟨S16x1x16x8x128x256, .f32⟩
  | 92 => ⟨S_, .f32⟩
  | 93 => ⟨S16x1x16x8x128, .f32⟩
  | 94 => ⟨S16x1x16x8x128x1, .f32⟩
  | 95 => ⟨S16x1x16x8x128x256, .f32⟩
  | 96 => ⟨S16x1x16x8x128x256, .f32⟩
  | 97 => ⟨S16x1x16x8x64x128, .f32⟩
  | 98 => ⟨S16x1x16x128x8x64, .f32⟩
  | 99 => ⟨S16x1x16x8x128x1, .f32⟩
  | 100 => ⟨S16x1x16x8x128x1, .f32⟩
  | 101 => ⟨S16x1x16x8x128, .f32⟩
  | 102 => ⟨S16x1x2048x8x64, .f32⟩
  | 103 => ⟨S16x2048x1x8x64, .f32⟩
  | 104 => ⟨S16x2048x8x64, .f32⟩
  | 105 => ⟨S16x1x16x128x8, .f32⟩
  | 106 => ⟨S16x1x2048x8, .f32⟩
  | 107 => ⟨S16x2048x1x8, .f32⟩
  | 108 => ⟨S16x2048x8, .f32⟩
  | 109 => ⟨S16x512x4x8x64, .f32⟩
  | 110 => ⟨S16x4x512x8x64, .f32⟩
  | 111 => ⟨S16x4x4x128x8x64, .f32⟩
  | 112 => ⟨S16x512x4x8x64, .f32⟩
  | 113 => ⟨S16x4x512x8x64, .f32⟩
  | 114 => ⟨S16x4x4x128x8x64, .f32⟩
  | 115 => ⟨S_, .i32⟩
  | 116 => ⟨S_, .f32⟩
  | 117 => ⟨S16x4x5x128x8x64, .f32⟩
  | 118 => ⟨S16x4x4x128x8x64, .f32⟩
  | 119 => ⟨S16x4x4x256x8x64, .f32⟩
  | 120 => ⟨S16x512x4x8x64, .f32⟩
  | 121 => ⟨S16x4x512x8x64, .f32⟩
  | 122 => ⟨S16x4x4x128x8x64, .f32⟩
  | 123 => ⟨S_, .i32⟩
  | 124 => ⟨S_, .f32⟩
  | 125 => ⟨S16x4x5x128x8x64, .f32⟩
  | 126 => ⟨S16x4x4x128x8x64, .f32⟩
  | 127 => ⟨S16x4x4x256x8x64, .f32⟩
  | _ => ⟨S16x2048x512, .f32⟩

abbrev hbmTy0_1 (i : Nat) : BufTy := match i % 128 with
  | 0 => ⟨S16x4x4x8x128x256, .f32⟩
  | 1 => ⟨S_, .f32⟩
  | 2 => ⟨S16x4x4x8x128x256, .f32⟩
  | 3 => ⟨S16x4x4x8x128x256, .f32⟩
  | 4 => ⟨S128, .i32⟩
  | 5 => ⟨S256, .i32⟩
  | 6 => ⟨S_, .i32⟩
  | 7 => ⟨S128, .i32⟩
  | 8 => ⟨S128, .i32⟩
  | 9 => ⟨S128x1, .i32⟩
  | 10 => ⟨S1x256, .i32⟩
  | 11 => ⟨S128x256, .i32⟩
  | 12 => ⟨S128x256, .i32⟩
  | 13 => ⟨S128x256, .i32⟩
  | 14 => ⟨S4, .i32⟩
  | 15 => ⟨S4x1x1, .i32⟩
  | 16 => ⟨S_, .i32⟩
  | 17 => ⟨S4x1x1, .i32⟩
  | 18 => ⟨S4x1x1, .i32⟩
  | 19 => ⟨S_, .i32⟩
  | 20 => ⟨S4x1x1, .i32⟩
  | 21 => ⟨S4x1x1, .i32⟩
  | 22 => ⟨S1x1x256, .i32⟩
  | 23 => ⟨S4x1x256, .i32⟩
  | 24 => ⟨S4x1x256, .i32⟩
  | 25 => ⟨S4x1x256, .i32⟩
  | 26 => ⟨S_, .i32⟩
  | 27 => ⟨S128x256, .i32⟩
  | 28 => ⟨S128x256, .i1⟩
  | 29 => ⟨S1x128x256, .i1⟩
  | 30 => ⟨S_, .i32⟩
  | 31 => ⟨S128x256, .i32⟩
  | 32 => ⟨S128x256, .i1⟩
  | 33 => ⟨S1x128x256, .i1⟩
  | 34 => ⟨S1x128x256, .i1⟩
  | 35 => ⟨S_, .i32⟩
  | 36 => ⟨S4x1x256, .i32⟩
  | 37 => ⟨S4x1x256, .i1⟩
  | 38 => ⟨S4x128x256, .i1⟩
  | 39 => ⟨S4x128x256, .i1⟩
  | 40 => ⟨S4x128x256, .i1⟩
  | 41 => ⟨S8x1x1, .f32⟩
  | 42 => ⟨S8x1x1, .f32⟩
  | 43 => ⟨S_, .i32⟩
  | 44 => ⟨S128x256, .i32⟩
  | 45 => ⟨S128x256, .i32⟩
  | 46 => ⟨S128x256, .f32⟩
  | 47 => ⟨S1x128x256, .f32⟩
  | 48 => ⟨S8x128x256, .f32⟩
  | 49 => ⟨S8x128x256, .f32⟩
  | 50 => ⟨S8x128x256, .f32⟩
  | 51 => ⟨S1x1x1x8x128x256, .f32⟩
  | 52 => ⟨S16x4x4x8x128x256, .f32⟩
  | 53 => ⟨S16x4x4x8x128x256, .f32⟩
  | 54 => ⟨S1x1x4x1x128x256, .i1⟩
  | 55 => ⟨S_, .f32⟩
  | 56 => ⟨S_, .f32⟩
  | 57 => ⟨S16x4x4x8x128x256, .i1⟩
  | 58 => ⟨S16x4x4x8x128x256, .f32⟩
  | 59 => ⟨S16x4x4x8x128x256, .f32⟩
  | 60 => ⟨S_, .f32⟩
  | 61 => ⟨S16x4x4x8x128, .f32⟩
  | 62 => ⟨S16x4x4x8x128x1, .f32⟩
  | 63 => ⟨S16x4x4x8x128x256, .f32⟩
  | 64 => ⟨S16x4x4x8x128x256, .f32⟩
  | 65 => ⟨S16x4x4x8x128x256, .f32⟩
  | 66 => ⟨S_, .f32⟩
  | 67 => ⟨S16x4x4x8x128, .f32⟩
  | 68 => ⟨S16x4x4x8x128x1, .f32⟩
  | 69 => ⟨S16x4x4x8x128x256, .f32⟩
  | 70 => ⟨S16x4x4x8x128x256, .f32⟩
  | 71 => ⟨S16x4x4x8x64x128, .f32⟩
  | 72 => ⟨S16x4x4x128x8x64, .f32⟩
  | 73 => ⟨S16x4x4x8x128x1, .f32⟩
  | 74 => ⟨S16x4x4x8x128x1, .f32⟩
  | 75 => ⟨S16x4x4x8x128, .f32⟩
  | 76 => ⟨S16x4x512x8x64, .f32⟩
  | 77 => ⟨S16x512x4x8x64, .f32⟩
  | 78 => ⟨S16x2048x8x64, .f32⟩
  | 79 => ⟨S16x4x4x128x8, .f32⟩
  | 80 => ⟨S16x4x512x8, .f32⟩
  | 81 => ⟨S16x512x4x8, .f32⟩
  | 82 => ⟨S16x2048x8, .f32⟩
  | 83 => ⟨S16x128x16x8x64, .f32⟩
  | 84 => ⟨S16x16x128x8x64, .f32⟩
  | 85 => ⟨S16x16x1x128x8x64, .f32⟩
  | 86 => ⟨S16x128x16x8x64, .f32⟩
  | 87 => ⟨S16x16x128x8x64, .f32⟩
  | 88 => ⟨S16x16x1x128x8x64, .f32⟩
  | 89 => ⟨S_, .i32⟩
  | 90 => ⟨S_, .f32⟩
  | 91 => ⟨S16x16x2x128x8x64, .f32⟩
  | 92 => ⟨S16x16x1x128x8x64, .f32⟩
  | 93 => ⟨S16x16x1x256x8x64, .f32⟩
  | 94 => ⟨S16x128x16x8x64, .f32⟩
  | 95 => ⟨S16x16x128x8x64, .f32⟩
  | 96 => ⟨S16x16x1x128x8x64, .f32⟩
  | 97 => ⟨S_, .i32⟩
  | 98 => ⟨S_, .f32⟩
  | 99 => ⟨S16x16x2x128x8x64, .f32⟩
  | 100 => ⟨S16x16x1x128x8x64, .f32⟩
  | 101 => ⟨S16x16x1x256x8x64, .f32⟩
  | 102 => ⟨S16x16x1x8x128x256, .f32⟩
  | 103 => ⟨S_, .f32⟩
  | 104 => ⟨S16x16x1x8x128x256, .f32⟩
  | 105 => ⟨S16x16x1x8x128x256, .f32⟩
  | 106 => ⟨S128, .i32⟩
  | 107 => ⟨S256, .i32⟩
  | 108 => ⟨S_, .i32⟩
  | 109 => ⟨S128, .i32⟩
  | 110 => ⟨S128, .i32⟩
  | 111 => ⟨S128x1, .i32⟩
  | 112 => ⟨S1x256, .i32⟩
  | 113 => ⟨S128x256, .i32⟩
  | 114 => ⟨S128x256, .i32⟩
  | 115 => ⟨S128x256, .i32⟩
  | 116 => ⟨S1, .i32⟩
  | 117 => ⟨S1x1x1, .i32⟩
  | 118 => ⟨S_, .i32⟩
  | 119 => ⟨S1x1x1, .i32⟩
  | 120 => ⟨S1x1x1, .i32⟩
  | 121 => ⟨S_, .i32⟩
  | 122 => ⟨S1x1x1, .i32⟩
  | 123 => ⟨S1x1x1, .i32⟩
  | 124 => ⟨S1x1x256, .i32⟩
  | 125 => ⟨S1x1x256, .i32⟩
  | 126 => ⟨S1x1x256, .i32⟩
  | 127 => ⟨S_, .i32⟩
  | _ => ⟨S16x2048x512, .f32⟩

abbrev hbmTy0_2 (i : Nat) : BufTy := match i % 128 with
  | 0 => ⟨S128x256, .i32⟩
  | 1 => ⟨S128x256, .i1⟩
  | 2 => ⟨S1x128x256, .i1⟩
  | 3 => ⟨S_, .i32⟩
  | 4 => ⟨S128x256, .i32⟩
  | 5 => ⟨S128x256, .i1⟩
  | 6 => ⟨S1x128x256, .i1⟩
  | 7 => ⟨S1x128x256, .i1⟩
  | 8 => ⟨S_, .i32⟩
  | 9 => ⟨S1x1x256, .i32⟩
  | 10 => ⟨S1x1x256, .i1⟩
  | 11 => ⟨S1x128x256, .i1⟩
  | 12 => ⟨S1x128x256, .i1⟩
  | 13 => ⟨S8x1x1, .f32⟩
  | 14 => ⟨S8x1x1, .f32⟩
  | 15 => ⟨S_, .i32⟩
  | 16 => ⟨S128x256, .i32⟩
  | 17 => ⟨S128x256, .i32⟩
  | 18 => ⟨S128x256, .f32⟩
  | 19 => ⟨S1x128x256, .f32⟩
  | 20 => ⟨S8x128x256, .f32⟩
  | 21 => ⟨S8x128x256, .f32⟩
  | 22 => ⟨S8x128x256, .f32⟩
  | 23 => ⟨S1x1x1x8x128x256, .f32⟩
  | 24 => ⟨S16x16x1x8x128x256, .f32⟩
  | 25 => ⟨S16x16x1x8x128x256, .f32⟩
  | 26 => ⟨S1x1x1x1x128x256, .i1⟩
  | 27 => ⟨S_, .f32⟩
  | 28 => ⟨S_, .f32⟩
  | 29 => ⟨S16x16x1x8x128x256, .i1⟩
  | 30 => ⟨S16x16x1x8x128x256, .f32⟩
  | 31 => ⟨S16x16x1x8x128x256, .f32⟩
  | 32 => ⟨S_, .f32⟩
  | 33 => ⟨S16x16x1x8x128, .f32⟩
  | 34 => ⟨S16x16x1x8x128x1, .f32⟩
  | 35 => ⟨S16x16x1x8x128x256, .f32⟩
  | 36 => ⟨S16x16x1x8x128x256, .f32⟩
  | 37 => ⟨S16x16x1x8x128x256, .f32⟩
  | 38 => ⟨S_, .f32⟩
  | 39 => ⟨S16x16x1x8x128, .f32⟩
  | 40 => ⟨S16x16x1x8x128x1, .f32⟩
  | 41 => ⟨S16x16x1x8x128x256, .f32⟩
  | 42 => ⟨S16x16x1x8x128x256, .f32⟩
  | 43 => ⟨S16x16x1x8x64x128, .f32⟩
  | 44 => ⟨S16x16x1x128x8x64, .f32⟩
  | 45 => ⟨S16x16x1x8x128x1, .f32⟩
  | 46 => ⟨S16x16x1x8x128x1, .f32⟩
  | 47 => ⟨S16x16x1x8x128, .f32⟩
  | 48 => ⟨S16x16x128x8x64, .f32⟩
  | 49 => ⟨S16x128x16x8x64, .f32⟩
  | 50 => ⟨S16x2048x8x64, .f32⟩
  | 51 => ⟨S16x16x1x128x8, .f32⟩
  | 52 => ⟨S16x16x128x8, .f32⟩
  | 53 => ⟨S16x128x16x8, .f32⟩
  | 54 => ⟨S16x2048x8, .f32⟩
  | 55 => ⟨S1x16x2048x8, .f32⟩
  | 56 => ⟨S1x16x2048x8, .f32⟩
  | 57 => ⟨S1x16x2048x8, .f32⟩
  | 58 => ⟨S3x16x2048x8, .f32⟩
  | 59 => ⟨S_, .f32⟩
  | 60 => ⟨S16x2048x8, .f32⟩
  | 61 => ⟨S_, .f32⟩
  | 62 => ⟨S16x2048x8, .f32⟩
  | 63 => ⟨S16x2048x8, .f32⟩
  | 64 => ⟨S1x16x2048x8, .f32⟩
  | 65 => ⟨S3x16x2048x8, .f32⟩
  | 66 => ⟨S3x16x2048x8, .f32⟩
  | 67 => ⟨S3x16x2048x8, .f32⟩
  | 68 => ⟨S_, .f32⟩
  | 69 => ⟨S16x2048x8, .f32⟩
  | 70 => ⟨S1x16x2048x8, .f32⟩
  | 71 => ⟨S3x16x2048x8, .f32⟩
  | 72 => ⟨S3x16x2048x8, .f32⟩
  | 73 => ⟨S1x16x2048x8, .f32⟩
  | 74 => ⟨S16x2048x8, .f32⟩
  | 75 => ⟨S16x2048x8x1, .f32⟩
  | 76 => ⟨S16x2048x8x64, .f32⟩
  | 77 => ⟨S16x2048x8x64, .f32⟩
  | 78 => ⟨S_, .f32⟩
  | 79 => ⟨S16x2048x8x64, .f32⟩
  | 80 => ⟨S16x2048x8x64, .f32⟩
  | 81 => ⟨S1x16x2048x8, .f32⟩
  | 82 => ⟨S16x2048x8, .f32⟩
  | 83 => ⟨S16x2048x8x1, .f32⟩
  | 84 => ⟨S16x2048x8x64, .f32⟩
  | 85 => ⟨S16x2048x8x64, .f32⟩
  | 86 => ⟨S16x2048x8x64, .f32⟩
  | 87 => ⟨S1x16x2048x8, .f32⟩
  | 88 => ⟨S16x2048x8, .f32⟩
  | 89 => ⟨S16x2048x8x1, .f32⟩
  | 90 => ⟨S16x2048x8x64, .f32⟩
  | 91 => ⟨S16x2048x8x64, .f32⟩
  | 92 => ⟨S16x2048x8x64, .f32⟩
  | 93 => ⟨S16x2048x8x64, .bf16⟩
  | 94 => ⟨S16x2048x512, .bf16⟩
  | _ => ⟨S16x2048x512, .f32⟩

abbrev hbmTy (i : Nat) : BufTy := match i / 128 with
  | 0 => hbmTy0_0 i
  | 1 => hbmTy0_1 i
  | 2 => hbmTy0_2 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_c_12 : Ref sig .tc := ⟨.hbm, 115, rfl⟩
abbrev main_call3_v0 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c_13 : Ref sig .tc := ⟨.hbm, 123, rfl⟩
abbrev main_call4_v0 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_14 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_c_15 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_c_16 : Ref sig .tc := ⟨.hbm, 144, rfl⟩
abbrev main_v116 : Ref sig .tc := ⟨.hbm, 145, rfl⟩
abbrev main_v117 : Ref sig .tc := ⟨.hbm, 146, rfl⟩
abbrev main_c_17 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_c_18 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_c_19 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_c_20 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_c_21 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_22 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_v149 : Ref sig .tc := ⟨.hbm, 187, rfl⟩
abbrev main_cst_23 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_24 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_c_25 : Ref sig .tc := ⟨.hbm, 217, rfl⟩
abbrev main_call6_v0 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_c_26 : Ref sig .tc := ⟨.hbm, 225, rfl⟩
abbrev main_call7_v0 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_cst_27 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_c_28 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_c_29 : Ref sig .tc := ⟨.hbm, 246, rfl⟩
abbrev main_v200 : Ref sig .tc := ⟨.hbm, 247, rfl⟩
abbrev main_v201 : Ref sig .tc := ⟨.hbm, 248, rfl⟩
abbrev main_c_30 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_c_31 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_c_32 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_c_33 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_c_34 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_cst_35 : Ref sig .tc := ⟨.hbm, 283, rfl⟩
abbrev main_call8_v0 : Ref sig .tc := ⟨.hbm, 284, rfl⟩
abbrev main_call8_v1 : Ref sig .tc := ⟨.hbm, 285, rfl⟩
abbrev main_call8_v2 : Ref sig .tc := ⟨.hbm, 286, rfl⟩
abbrev main_v231 : Ref sig .tc := ⟨.hbm, 287, rfl⟩
abbrev main_cst_36 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_cst_37 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_cst_38 : Ref sig .tc := ⟨.hbm, 315, rfl⟩
abbrev main_v257 : Ref sig .tc := ⟨.hbm, 316, rfl⟩
abbrev main_cst_39 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_cst_40 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_cst_41 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩

abbrev nD : Nat := 1
abbrev τ : Topo := Topo.v7x

variable {F : FTy → Type} [FloatOps F]
-- ==== Proof.Interp.lean ====
/- Programs that only load, store and check side conditions, read as state transformers on the buffers of one core. -/
module

public import Idealize.ShloMosaic.Lib.Pipeline.FrameBody

@[expose] public section

noncomputable section

namespace Cert.Interp

open Idealize.ShloMosaic Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type} {Λ : Labels}

/-- The contents of every buffer that the core's body names. -/
abbrev St (τ : Topo) (sig : RefSig) (Val : EltTy → Type) (c : Dev nD) : Type := (b : Ref sig .tc) → Buf Val ((c.tc : Thread nD τ).loc b)

/-- One effect as a predicate transformer: a load reads the state, a store updates it, a check must hold. -/
def stepW (c : Dev nD) (B : Finset (Ref sig .tc)) : {β : Type} → TpuEff nD τ sig Val Λ (.tc : Proc τ) β → (β → St τ sig Val c → Prop) → St τ sig Val c → Prop
  | _, .load m r _, K, s => m.view.ref ∈ B ∧ K (m.view.readAt Val r (s m.view.ref)) s
  | _, .store m r w M _ _, K, s => m.view.ref ∈ B ∧ K ⟨⟩ (Function.update s m.view.ref ((m.access r).write Val (s m.view.ref) w M))
  | _, .assume P _, K, s => ∃ h : P, K ⟨h⟩ s
  | _, _, _, _ => False

/-- From state `s` the program runs to an end with `Q`. -/
def W (c : Dev nD) (B : Finset (Ref sig .tc)) {α : Type} (p : Prog (TpuEff nD τ sig Val Λ (.tc : Proc τ)) α) (Q : α → St τ sig Val c → Prop) :
    St τ sig Val c → Prop :=
  match p with
  | .ret a => Q a
  | .op e k => stepW c B e fun x => W c B (k x) Q

/-- Whatever the loads read, the program runs to an end with `Q`, writing only buffers of `O`. -/
def stepSafe (B O : Finset (Ref sig .tc)) : {β : Type} → TpuEff nD τ sig Val Λ (.tc : Proc τ) β → (β → Prop) → Prop
  | _, .load m _ _, K => m.view.ref ∈ B ∧ ∀ x, K x
  | _, .store m _ _ _ _ _, K => m.view.ref ∈ B ∧ m.view.ref ∈ O ∧ K ⟨⟩
  | _, .assume P _, K => ∃ h : P, K ⟨h⟩
  | _, _, _ => False

/-- Whatever the loads read, the program runs to an end with `Q`, writing only buffers of `O`. -/
def Safe (B O : Finset (Ref sig .tc)) {α : Type} (p : Prog (TpuEff nD τ sig Val Λ (.tc : Proc τ)) α) (Q : α → Prop) : Prop :=
  match p with
  | .ret a => Q a
  | .op e k => stepSafe B O e fun x => Safe B O (k x) Q

section Rules

variable {c : Dev nD} {B O : Finset (Ref sig .tc)} {α β : Type}

theorem stepW_mono {e : TpuEff nD τ sig Val Λ (.tc : Proc τ) β} {K K' : β → St τ sig Val c → Prop} (h : ∀ x s, K x s → K' x s) {s : St τ sig Val c}
    (hs : stepW c B e K s) : stepW c B e K' s := by
  cases e <;> first | exact ⟨hs.1, h _ _ hs.2⟩ | exact ⟨hs.choose, h _ _ hs.choose_spec⟩ | exact hs.elim

theorem W_mono {p : Prog (TpuEff nD τ sig Val Λ (.tc : Proc τ)) α} {Q Q' : α → St τ sig Val c → Prop} (h : ∀ a s, Q a s → Q' a s) :
    ∀ {s : St τ sig Val c}, W c B p Q s → W c B p Q' s := by
  induction p with
  | ret a => exact fun hs => h _ _ hs
  | op e k ih => exact fun hs => stepW_mono (fun x s hx => ih x hx) hs

theorem W_bind (p : Prog (TpuEff nD τ sig Val Λ (.tc : Proc τ)) α) (f : α → Prog (TpuEff nD τ sig Val Λ (.tc : Proc τ)) β)
    (Q : β → St τ sig Val c → Prop) : W c B (p >>= f) Q = W c B p fun a => W c B (f a) Q := by
  induction p with
  | ret a => rfl
  | op e k ih => exact congrArg (stepW c B e) (funext fun x => ih x)

theorem Safe_bind (p : Prog (TpuEff nD τ sig Val Λ (.tc : Proc τ)) α) (f : α → Prog (TpuEff nD τ sig Val Λ (.tc : Proc τ)) β)
    (Q : β → Prop) : Safe B O (p >>= f) Q = Safe B O p fun a => Safe B O (f a) Q := by
  induction p with
  | ret a => rfl
  | op e k ih => exact congrArg (stepSafe B O e) (funext fun x => ih x)

theorem stepSafe_mono {e : TpuEff nD τ sig Val Λ (.tc : Proc τ) β} {K K' : β → Prop} (h : ∀ x, K x → K' x)
    (hs : stepSafe B O e K) : stepSafe B O e K' := by
  cases e <;> first | exact ⟨hs.1, fun x => h _ (hs.2 x)⟩ | exact ⟨hs.1, hs.2.1, h _ hs.2.2⟩ | exact ⟨hs.choose, h _ hs.choose_spec⟩ | exact hs.elim

theorem Safe_mono {p : Prog (TpuEff nD τ sig Val Λ (.tc : Proc τ)) α} {Q Q' : α → Prop} (h : ∀ a, Q a → Q' a) :
    Safe B O p Q → Safe B O p Q' := by
  induction p with
  | ret a => exact h _
  | op e k ih => exact stepSafe_mono fun x hx => ih x hx

/-- A safe program runs from every state, leaving the buffers outside `O` alone. -/
theorem Safe.toW {p : Prog (TpuEff nD τ sig Val Λ (.tc : Proc τ)) α} {Q : α → Prop} (h : Safe B O p Q) :
    ∀ s : St τ sig Val c, W c B p (fun a s' => Q a ∧ ∀ b, b ∉ O → s' b = s b) s := by
  induction p with
  | ret a => exact fun s => ⟨h, fun _ _ => rfl⟩
  | op e k ih =>
    intro s
    cases e <;> first
      | exact ⟨h.1, ih _ (h.2 _) s⟩
      | exact ⟨h.1, W_mono (fun a s' hs => ⟨hs.1, fun b hb => (hs.2 b hb).trans (Function.update_of_ne (fun e => hb (by rw [e]; exact h.2.1)) _ _)⟩) (ih _ h.2.2 _)⟩
      | exact ⟨h.choose, ih _ h.choose_spec s⟩
      | exact h.elim

/-- A counted loop by an invariant of its trips. -/
theorem Safe_for {σ : Type} (l : Scf.Loop 32) (hok : Scf.OK l.lb l.ub l.st) (init : σ) (body : Fin l.trips → σ → Prog (TpuEff nD τ sig Val Λ (.tc : Proc τ)) σ)
    (I : Nat → σ → Prop) (h0 : I 0 init) (hbody : ∀ (k : Fin l.trips) acc, I k.val acc → Safe B O (body k acc) (I (k.val + 1))) :
    Safe B O (Scf.Loop.for l hok init body) (I l.trips) := by
  have main : ∀ (n : Nat) (hn : n ≤ l.trips) (acc : σ), I (l.trips - n) acc →
      Safe B O (Scf.forFrom body ((List.finRange l.trips).drop (l.trips - n)) acc) (I l.trips) := by
    intro n
    induction n with
    | zero =>
      intro _ acc h
      rw [List.drop_of_length_le (by simp)]
      exact h
    | succ n ih =>
      intro hn acc h
      have hlt : l.trips - (n + 1) < l.trips := by omega
      rw [List.drop_eq_getElem_cons (by simpa using hlt), List.getElem_finRange, Fin.cast_mk, Scf.forFrom_cons, Safe_bind]
      refine Safe_mono (fun acc' h' => ?_) (hbody ⟨_, hlt⟩ acc h)
      have e : l.trips - (n + 1) + 1 = l.trips - n := by omega
      rw [e]
      exact ih (by omega) acc' (by rw [← e]; exact h')
  have := main l.trips le_rfl init (by simpa using h0)
  rw [Nat.sub_self, List.drop_zero] at this
  show Safe B O (Scf.for l.lb l.ub l.st hok init body) _
  rw [Scf.for_eq]
  exact this

/-- A counted loop by an invariant of its trips and the state. -/
theorem W_for {σ : Type} (l : Scf.Loop 32) (hok : Scf.OK l.lb l.ub l.st) (init : σ) (body : Fin l.trips → σ → Prog (TpuEff nD τ sig Val Λ (.tc : Proc τ)) σ)
    (I : Nat → σ → St τ sig Val c → Prop) (hbody : ∀ (k : Fin l.trips) acc s, I k.val acc s → W c B (body k acc) (I (k.val + 1)) s)
    {s : St τ sig Val c} (h0 : I 0 init s) : W c B (Scf.Loop.for l hok init body) (I l.trips) s := by
  have main : ∀ (n : Nat) (hn : n ≤ l.trips) (acc : σ) (s : St τ sig Val c), I (l.trips - n) acc s →
      W c B (Scf.forFrom body ((List.finRange l.trips).drop (l.trips - n)) acc) (I l.trips) s := by
    intro n
    induction n with
    | zero =>
      intro _ acc s h
      rw [List.drop_of_length_le (by simp)]
      exact h
    | succ n ih =>
      intro hn acc s h
      have hlt : l.trips - (n + 1) < l.trips := by omega
      rw [List.drop_eq_getElem_cons (by simpa using hlt), List.getElem_finRange, Fin.cast_mk, Scf.forFrom_cons, W_bind]
      refine W_mono (fun acc' s' h' => ?_) (hbody ⟨_, hlt⟩ acc s h)
      have e : l.trips - (n + 1) + 1 = l.trips - n := by omega
      rw [e]
      exact ih (by omega) acc' s' (by rw [← e]; exact h')
  have := main l.trips le_rfl init s (by simpa using h0)
  rw [Nat.sub_self, List.drop_zero] at this
  show W c B (Scf.for l.lb l.ub l.st hok init body) _ s
  rw [Scf.for_eq]
  exact this

theorem Safe_load {cs : CoreSpace} {sh : Shape} {e : EltTy} {m : Memref sig (.tc : Proc τ).kind cs sh e} {r : LoadRect sh} {hl : m.view.LoadsAt r}
    {k : (r.shape.Idx → Val e) → Prog (TpuEff nD τ sig Val Λ (.tc : Proc τ)) α} {Q : α → Prop} (hm : m.view.ref ∈ B)
    (h : ∀ x, Safe B O (k x) Q) : Safe B O (.op (.load m r hl) k) Q := ⟨hm, h⟩

theorem Safe_store {cs : CoreSpace} {sh : Shape} {e : EltTy} {m : Memref sig (.tc : Proc τ).kind cs sh e} {r : Rect sh} {w : r.shape.Idx → Val e}
    {M : Finset r.shape.Idx} {hx : (m.access r).Stores M} {hk : M = Finset.univ ∨ ∀ a, r.stride a = 1}
    {k : PUnit → Prog (TpuEff nD τ sig Val Λ (.tc : Proc τ)) α} {Q : α → Prop} (hm : m.view.ref ∈ B) (ho : m.view.ref ∈ O)
    (h : Safe B O (k ⟨⟩) Q) : Safe B O (.op (.store m r w M hx hk) k) Q := ⟨hm, ho, h⟩

theorem Safe_assume {P : Prop} {d : Decidable P} {k : PLift P → Prog (TpuEff nD τ sig Val Λ (.tc : Proc τ)) α} {Q : α → Prop} (hP : P)
    (h : Safe B O (k ⟨hP⟩) Q) : Safe B O (.op (.assume P d) k) Q := ⟨hP, h⟩

theorem Safe_ret {a : α} {Q : α → Prop} (h : Q a) : Safe B O (.ret a : Prog (TpuEff nD τ sig Val Λ (.tc : Proc τ)) α) Q := h

theorem Safe_seq {p : Prog (TpuEff nD τ sig Val Λ (.tc : Proc τ)) α} {f : α → Prog (TpuEff nD τ sig Val Λ (.tc : Proc τ)) β} {Q : β → Prop} (I : α → Prop)
    (hp : Safe B O p I) (hf : ∀ a, I a → Safe B O (f a) Q) : Safe B O (p >>= f) Q := by
  rw [Safe_bind]
  exact Safe_mono hf hp

end Rules

section Sound

variable {Ix : Type} [DecidableEq Ix] {Name : Type} [DecidableEq Name] {U : Type} [URA U] {Lvl : Type} [Preorder Lvl]

local notation "𝕄" => MT nD τ sig Ix Val Name U Lvl

/-- The buffers of `B`, each whole at the state's contents. -/
abbrev held (c : Dev nD) (B : Finset (Ref sig .tc)) (s : St τ sig Val c) : sProp 𝕄 :=
  bigSep B fun b => ((c.tc : Thread nD τ).loc b) ↦{fullShare} s b

theorem held_erase (c : Dev nD) {B : Finset (Ref sig .tc)} {b : Ref sig .tc} (hb : b ∈ B) (s : St τ sig Val c) :
    (held c B s : sProp 𝕄)
      = iprop((((c.tc : Thread nD τ).loc b) ↦{fullShare} s b) ∗ bigSep (B.erase b) fun b => ((c.tc : Thread nD τ).loc b) ↦{fullShare} s b) :=
  bigSep_erase hb

theorem held_update (c : Dev nD) {B : Finset (Ref sig .tc)} {b : Ref sig .tc} (hb : b ∈ B) (s : St τ sig Val c) (f : Buf Val ((c.tc : Thread nD τ).loc b)) :
    (held c B (Function.update s b f) : sProp 𝕄)
      = iprop((((c.tc : Thread nD τ).loc b) ↦{fullShare} f) ∗ bigSep (B.erase b) fun b => ((c.tc : Thread nD τ).loc b) ↦{fullShare} s b) := by
  unfold held
  rw [bigSep_erase hb, Function.update_self]
  congr 1
  exact bigSep_congr fun i hi => by rw [Function.update_of_ne (Finset.ne_of_mem_erase hi)]

/-- A run of the state reading is a run of the program. -/
theorem W.sound {defs : Defs nD τ sig Val Λ} (𝒱 : Variants) (c : Dev nD) (bd : Option 𝒱.V) (E : Set Name) {B : Finset (Ref sig .tc)}
    {α : Type} {p : Prog (TpuEff nD τ sig Val Λ (.tc : Proc τ)) α} {Q : α → St τ sig Val c → Prop} :
    ∀ {s : St τ sig Val c}, W c B p Q s →
      (held c B s : sProp 𝕄) ⊢ wp frame (wpE defs 𝒱 (c.tc : Thread nD τ) bd) E p fun a => iprop(∃ s', ⌜Q a s'⌝ ∗ held c B s') := by
  induction p with
  | ret a =>
    intro s h
    rw [wp_ret]
    iintro H
    imodintro
    iexists s
    isplitr
    · ipureintro; exact h
    iexact H
  | op e k ih =>
    intro s h
    cases e with
    | load m r hl =>
      obtain ⟨hm, hk⟩ := h
      rw [held_erase c hm]
      iintro ⟨H, Hr⟩
      iapply (wp_load 𝒱 (c.tc : Thread nD τ) bd E (S := Finset.univ) (Finset.subset_univ _)) $$ H
      iintro H
      iapply (ih _ hk)
      rw [held_erase c hm]
      isplitl [H]
      · iexact H
      iexact Hr
    | store m r w M hx hmk =>
      obtain ⟨hm, hk⟩ := h
      rw [held_erase c hm]
      iintro ⟨H, Hr⟩
      have hst := wp_store (defs := defs) (Γ := .empty) (Ix := Ix) (Name := Name) (U := U) (Lvl := Lvl) 𝒱 (c.tc : Thread nD τ) bd E (m := m) (r := r) (w := w) (Mk := M) (hx := hx) (hm := hmk) (k := k)
        (Q := fun a => iprop(∃ s', ⌜Q a s'⌝ ∗ held c B s')) (S := Finset.univ) (f := s m.view.ref) (Finset.subset_univ _)
      iapply hst $$ H
      iintro H
      iapply (ih _ hk)
      rw [held_update c hm]
      isplitl [H]
      · iexact H
      iexact Hr
    | assume P d =>
      obtain ⟨hP, hk⟩ := h
      exact (ih _ hk).trans (wp_assume 𝒱 (c.tc : Thread nD τ) bd E hP)
    | _ => exact h.elim

/-- A list of buffers at contents: each whole. -/
def own (c : Dev nD) : List ((b : Ref sig .tc) × Buf Val ((c.tc : Thread nD τ).loc b)) → sProp 𝕄
  | [] => iprop(emp)
  | x :: l => iprop((((c.tc : Thread nD τ).loc x.1) ↦{fullShare} x.2) ∗ own c l)

/-- A state holding a list's contents. -/
def stateOf (c : Dev nD) (s0 : St τ sig Val c) : List ((b : Ref sig .tc) × Buf Val ((c.tc : Thread nD τ).loc b)) → St τ sig Val c
  | [] => s0
  | x :: l => Function.update (stateOf c s0 l) x.1 x.2

theorem stateOf_mem (c : Dev nD) (s0 : St τ sig Val c) {l : List ((b : Ref sig .tc) × Buf Val ((c.tc : Thread nD τ).loc b))}
    (hl : (l.map Sigma.fst).Nodup) {x : (b : Ref sig .tc) × Buf Val ((c.tc : Thread nD τ).loc b)} (hx : x ∈ l) : stateOf c s0 l x.1 = x.2 := by
  induction l with
  | nil => cases hx
  | cons y l ih =>
    rw [List.map_cons, List.nodup_cons] at hl
    rcases List.mem_cons.1 hx with rfl | hx'
    · exact Function.update_self ..
    · refine (Function.update_of_ne (fun e => hl.1 ?_) ..).trans (ih hl.2 hx')
      rw [← e]
      exact List.mem_map_of_mem hx'

theorem held_congr (c : Dev nD) {B : Finset (Ref sig .tc)} {s s' : St τ sig Val c} (h : ∀ b ∈ B, s b = s' b) : (held c B s : sProp 𝕄) = held c B s' :=
  bigSep_congr fun b hb => by rw [h b hb]

theorem own_eq_held (c : Dev nD) {l : List ((b : Ref sig .tc) × Buf Val ((c.tc : Thread nD τ).loc b))} (hl : (l.map Sigma.fst).Nodup)
    {s : St τ sig Val c} (hs : ∀ x ∈ l, s x.1 = x.2) : (own c l : sProp 𝕄) = held c (l.map Sigma.fst).toFinset s := by
  induction l with
  | nil => exact bigSep_empty.symm
  | cons y l ih =>
    rw [List.map_cons, List.nodup_cons] at hl
    have hm : y.1 ∉ (l.map Sigma.fst).toFinset := by simpa using hl.1
    rw [List.map_cons, List.toFinset_cons]
    refine Eq.trans ?_ (bigSep_insert hm).symm
    rw [hs y (List.mem_cons_self ..)]
    exact congrArg _ (ih hl.2 fun x hx => hs x (List.mem_cons_of_mem _ hx))

/-- A run of the state reading from a list of buffers: it ends with the same buffers at the end state's contents. -/
theorem W.sound_list {defs : Defs nD τ sig Val Λ} (𝒱 : Variants) (c : Dev nD) (bd : Option 𝒱.V) (E : Set Name)
    {l : List ((b : Ref sig .tc) × Buf Val ((c.tc : Thread nD τ).loc b))} (hl : (l.map Sigma.fst).Nodup) (s0 : St τ sig Val c)
    {α : Type} {p : Prog (TpuEff nD τ sig Val Λ (.tc : Proc τ)) α} {Q : α → St τ sig Val c → Prop}
    (h : W c (l.map Sigma.fst).toFinset p Q (stateOf c s0 l)) :
    (own c l : sProp 𝕄) ⊢ wp frame (wpE defs 𝒱 (c.tc : Thread nD τ) bd) E p fun a =>
      iprop(∃ s' : St τ sig Val c, ⌜Q a s'⌝ ∗ own c (l.map fun x => ⟨x.1, s' x.1⟩)) := by
  rw [own_eq_held c hl fun x hx => stateOf_mem c s0 hl hx]
  have e : ∀ s' : St τ sig Val c, (own c (l.map fun x => ⟨x.1, s' x.1⟩) : sProp 𝕄) = held c (l.map Sigma.fst).toFinset s' := fun s' => by
    have e1 : (l.map fun x => (⟨x.1, s' x.1⟩ : (b : Ref sig .tc) × Buf Val ((c.tc : Thread nD τ).loc b))).map Sigma.fst = l.map Sigma.fst := by
      rw [List.map_map]; rfl
    rw [← e1]
    refine own_eq_held c (by rw [e1]; exact hl) fun x hx => ?_
    obtain ⟨y, -, rfl⟩ := List.mem_map.1 hx
    rfl
  simp only [e]
  exact W.sound 𝒱 c bd E h

end Sound

end Cert.Interp

end
-- ==== Proof.KISafe1.lean ====
/- The windows of the attention's body: whatever its loads read, each runs to its end, writing only the result's buffer and the scratches. -/
module

public import proofs.«01_k».proof.Proof.Interp
public import proofs.«01_k».proof.Proof.Gen.KernelIdeal.Skeleton

@[expose] public section

set_option maxRecDepth 65536

noncomputable section

namespace Cert.KernelIdeal.Safety

open Idealize.ShloMosaic Idealize.SL.Sem Cert.Interp Cert.KernelIdeal Cert.KernelIdeal.Gen

variable {F : FTy → Type} [FloatOps F] [Named F]

/-- The fifteen buffers are among those held, the result's and the scratches among those written. -/
structure Mem (B O : Finset (Ref sig .tc)) (arg1 : Memref sig .tc .vmem S1x2048x512 .bf16) (arg2 : Memref sig .tc .vmem S1x2048x512 .bf16) (arg3 : Memref sig .tc .vmem S1x512x2048 .bf16) (arg4 : Memref sig .tc .vmem S1x64 .f32) (arg5 : Memref sig .tc .vmem S1x64 .f32) (arg6 : Memref sig .tc .vmem S1x64 .f32) (arg7 : Memref sig .tc .vmem S1x64 .f32) (arg8 : Memref sig .tc .vmem S128x1 .f32) (arg9 : Memref sig .tc .vmem S1x2048x512 .bf16) (arg10 : Memref sig .tc .vmem S8x2048x128 .bf16) (arg11 : Memref sig .tc .vmem S8x2048x128 .bf16) (arg12 : Memref sig .tc .vmem S4x144x2048 .bf16) (arg13 : Memref sig .tc .vmem S2x256x256 .f32) (arg14 : Memref sig .tc .vmem S2x8x256x256 .f32) (arg15 : Memref sig .tc .vmem S8x8x144x256 .f32) : Prop where
  b1 : arg1.view.ref ∈ B
  b2 : arg2.view.ref ∈ B
  b3 : arg3.view.ref ∈ B
  b4 : arg4.view.ref ∈ B
  b5 : arg5.view.ref ∈ B
  b6 : arg6.view.ref ∈ B
  b7 : arg7.view.ref ∈ B
  b8 : arg8.view.ref ∈ B
  b9 : arg9.view.ref ∈ B
  b10 : arg10.view.ref ∈ B
  b11 : arg11.view.ref ∈ B
  b12 : arg12.view.ref ∈ B
  b13 : arg13.view.ref ∈ B
  b14 : arg14.view.ref ∈ B
  b15 : arg15.view.ref ∈ B
  o9 : arg9.view.ref ∈ O
  o10 : arg10.view.ref ∈ O
  o11 : arg11.view.ref ∈ O
  o12 : arg12.view.ref ∈ O
  o13 : arg13.view.ref ∈ O
  o14 : arg14.view.ref ∈ O
  o15 : arg15.view.ref ∈ O

/-- The next tile's row block and distance. -/
def step (w : BitVec 32 × BitVec 32) : BitVec 32 × BitVec 32 :=
  (Scalar.minsi (Scalar.select (Scalar.cmpi .eq w.2 w.1) (Scalar.addi w.1 1#32) w.1) 7#32, Scalar.select (Scalar.cmpi .eq w.2 w.1) 0#32 (Scalar.addi w.2 1#32))

variable {B O : Finset (Ref sig .tc)} {i : grid0.Coords} {arg1 : Memref sig .tc .vmem S1x2048x512 .bf16} {harg1 : arg1.IsWhole} {arg2 : Memref sig .tc .vmem S1x2048x512 .bf16} {harg2 : arg2.IsWhole} {arg3 : Memref sig .tc .vmem S1x512x2048 .bf16} {harg3 : arg3.IsWhole} {arg4 : Memref sig .tc .vmem S1x64 .f32} {harg4 : arg4.IsWhole} {arg5 : Memref sig .tc .vmem S1x64 .f32} {harg5 : arg5.IsWhole} {arg6 : Memref sig .tc .vmem S1x64 .f32} {harg6 : arg6.IsWhole} {arg7 : Memref sig .tc .vmem S1x64 .f32} {harg7 : arg7.IsWhole} {arg8 : Memref sig .tc .vmem S128x1 .f32} {harg8 : arg8.IsWhole} {arg9 : Memref sig .tc .vmem S1x2048x512 .bf16} {harg9 : arg9.IsWhole} {arg10 : Memref sig .tc .vmem S8x2048x128 .bf16} {harg10 : arg10.IsWhole} {arg11 : Memref sig .tc .vmem S8x2048x128 .bf16} {harg11 : arg11.IsWhole} {arg12 : Memref sig .tc .vmem S4x144x2048 .bf16} {harg12 : arg12.IsWhole} {arg13 : Memref sig .tc .vmem S2x256x256 .f32} {harg13 : arg13.IsWhole} {arg14 : Memref sig .tc .vmem S2x8x256x256 .f32} {harg14 : arg14.IsWhole} {arg15 : Memref sig .tc .vmem S8x8x144x256 .f32} {harg15 : arg15.IsWhole}

theorem part1 {v17 v31 v45 v141 v148 c0_i32_63 c1_i32_64 k0_t1} (H : Mem B O arg1 arg2 arg3 arg4 arg5 arg6 arg7 arg8 arg9 arg10 arg11 arg12 arg13 arg14 arg15) :
    Safe B O (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v17 v31 v45 v141 v148 c0_i32_63 c1_i32_64 k0_t1) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_store (by assumption) (by assumption) ?_
  refine Safe_load (by assumption) fun _ => ?_
  refine Safe_load (by assumption) fun _ => ?_
  refine Safe_store (by assumption) (by assumption) ?_
  refine Safe_load (by assumption) fun _ => ?_
  refine Safe_store (by assumption) (by assumption) ?_
  exact Safe_ret trivial

theorem part2 {v17 v59 v73 v141 v148 k0_t1 v328} (H : Mem B O arg1 arg2 arg3 arg4 arg5 arg6 arg7 arg8 arg9 arg10 arg11 arg12 arg13 arg14 arg15) :
    Safe B O (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v17 v59 v73 v141 v148 k0_t1 v328) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_store (by assumption) (by assumption) ?_
  refine Safe_load (by assumption) fun _ => ?_
  refine Safe_load (by assumption) fun _ => ?_
  refine Safe_store (by assumption) (by assumption) ?_
  refine Safe_load (by assumption) fun _ => ?_
  refine Safe_store (by assumption) (by assumption) ?_
  refine Safe_load (by assumption) fun _ => ?_
  exact Safe_ret trivial

theorem part3 {v17 v87 v101 v141 v148 k0_t1 v328 v407 v410} (H : Mem B O arg1 arg2 arg3 arg4 arg5 arg6 arg7 arg8 arg9 arg10 arg11 arg12 arg13 arg14 arg15) :
    Safe B O (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v17 v87 v101 v141 v148 k0_t1 v328 v407 v410) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_store (by assumption) (by assumption) ?_
  refine Safe_load (by assumption) fun _ => ?_
  refine Safe_load (by assumption) fun _ => ?_
  refine Safe_store (by assumption) (by assumption) ?_
  refine Safe_load (by assumption) fun _ => ?_
  refine Safe_store (by assumption) (by assumption) ?_
  refine Safe_load (by assumption) fun _ => ?_
  refine Safe_load (by assumption) fun _ => ?_
  exact Safe_ret trivial

theorem part4 {c0_i32_205 c1_i32_206 k0_t3 arg17 arg18} (H : Mem B O arg1 arg2 arg3 arg4 arg5 arg6 arg7 arg8 arg9 arg10 arg11 arg12 arg13 arg14 arg15) (h2 : k0_chk2 arg17) (h1 : k0_chk1 arg17 arg18) :
    Safe B O (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_205 c1_i32_206 k0_t3 arg17 arg18) (fun a => a.2.2.1 = Scalar.select (Scalar.cmpi .eq arg18 arg17) (0#32) (Scalar.addi arg18 (1#32)) ∧ a.2.2.2.1 = Scalar.minsi (Scalar.select (Scalar.cmpi .eq arg18 arg17) (Scalar.addi arg17 (1#32)) arg17) (7#32)) := by
  have H' := H
  obtain ⟨b1, b2, b3, b4, b5, b6, b7, b8, b9, b10, b11, b12, b13, b14, b15, o9, o10, o11, o12, o13, o14, o15⟩ := H'
  refine Safe_assume (by assumption) ?_
  refine Safe_assume (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret ⟨rfl, rfl⟩

theorem part5 {arg17 arg18 arg19 arg27 k0_hw2 k0_hw1 v333 v335 v338 v340 v343 v348 v360} (H : Mem B O arg1 arg2 arg3 arg4 arg5 arg6 arg7 arg8 arg9 arg10 arg11 arg12 arg13 arg14 arg15) :
    Safe B O (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg27 k0_hw2 k0_hw1 v333 v335 v338 v340 v343 v348 v360) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part6 {arg17 arg18 arg20 arg28 k0_hw2 k0_hw1 v333 v335 v338 v340 v343 v348 v392 v394 v397} (H : Mem B O arg1 arg2 arg3 arg4 arg5 arg6 arg7 arg8 arg9 arg10 arg11 arg12 arg13 arg14 arg15) :
    Safe B O (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg20 arg28 k0_hw2 k0_hw1 v333 v335 v338 v340 v343 v348 v392 v394 v397) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part7 {arg17 arg18 arg21 arg29 k0_hw2 k0_hw1 v333 v335 v340 v343 v348 v420 v423 v431 v434} (H : Mem B O arg1 arg2 arg3 arg4 arg5 arg6 arg7 arg8 arg9 arg10 arg11 arg12 arg13 arg14 arg15) :
    Safe B O (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg21 arg29 k0_hw2 k0_hw1 v333 v335 v340 v343 v348 v420 v423 v431 v434) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part8 {arg17 arg18 arg30 k0_hw2 k0_hw1 v333 v335 v338 v340 v343 v348 v463 v466 v468 v469} (H : Mem B O arg1 arg2 arg3 arg4 arg5 arg6 arg7 arg8 arg9 arg10 arg11 arg12 arg13 arg14 arg15) :
    Safe B O (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg30 k0_hw2 k0_hw1 v333 v335 v338 v340 v343 v348 v463 v466 v468 v469) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part9 {arg17 arg18 arg22 k0_hw2 k0_hw1 v338 v340 v343 v348 v504 v506} (H : Mem B O arg1 arg2 arg3 arg4 arg5 arg6 arg7 arg8 arg9 arg10 arg11 arg12 arg13 arg14 arg15) :
    Safe B O (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg22 k0_hw2 k0_hw1 v338 v340 v343 v348 v504 v506) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part10 {arg17 arg18 arg23 arg31 k0_hw2 k0_hw1 v333 v335 v338 v340 v343 v541} (H : Mem B O arg1 arg2 arg3 arg4 arg5 arg6 arg7 arg8 arg9 arg10 arg11 arg12 arg13 arg14 arg15) :
    Safe B O (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg23 arg31 k0_hw2 k0_hw1 v333 v335 v338 v340 v343 v541) (fun _ => True) := by
  have H' := H
  obtain ⟨b1, b2, b3, b4, b5, b6, b7, b8, b9, b10, b11, b12, b13, b14, b15, o9, o10, o11, o12, o13, o14, o15⟩ := H'
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part11 {arg17 arg18 arg24 arg32 k0_hw2 k0_hw1 v333 v335 v338 v348 v579 v581} (H : Mem B O arg1 arg2 arg3 arg4 arg5 arg6 arg7 arg8 arg9 arg10 arg11 arg12 arg13 arg14 arg15) :
    Safe B O (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg24 arg32 k0_hw2 k0_hw1 v333 v335 v338 v348 v579 v581) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  exact Safe_ret trivial

theorem part12 {arg17 arg18 arg25 arg33 k0_hw2 k0_hw1 v333 v335 v338 v340 v343 v348 v619} (H : Mem B O arg1 arg2 arg3 arg4 arg5 arg6 arg7 arg8 arg9 arg10 arg11 arg12 arg13 arg14 arg15) :
    Safe B O (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg25 arg33 k0_hw2 k0_hw1 v333 v335 v338 v340 v343 v348 v619) (fun _ => True) := by
  have H' := H
  obtain ⟨b1, b2, b3, b4, b5, b6, b7, b8, b9, b10, b11, b12, b13, b14, b15, o9, o10, o11, o12, o13, o14, o15⟩ := H'
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part13 {arg17 arg18 arg26 arg34 k0_hw2 k0_hw1 v331 v332 v333 v335 v338 v650 v652 v655} (H : Mem B O arg1 arg2 arg3 arg4 arg5 arg6 arg7 arg8 arg9 arg10 arg11 arg12 arg13 arg14 arg15) :
    Safe B O (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg26 arg34 k0_hw2 k0_hw1 v331 v332 v333 v335 v338 v650 v652 v655) (fun a => a.2.1 = Scalar.cmpi .eq v331 v332 ∧ a.2.2 = Scalar.addi v332 (1#32)) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret ⟨rfl, rfl⟩

theorem part14 {arg17 arg18 k0_hw1 v331 v332 v693 v694} (H : Mem B O arg1 arg2 arg3 arg4 arg5 arg6 arg7 arg8 arg9 arg10 arg11 arg12 arg13 arg14 arg15) :
    Safe B O (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v331 v332 v693 v694) (fun a => a.1 = Scalar.select v693 (0#32) (Scalar.addi v331 (1#32)) ∧ a.2.1 = Scalar.minsi (Scalar.select v693 v694 v332) (7#32)) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret ⟨rfl, rfl⟩

theorem part15 {arg17 arg18 k0_hw1 v332 v361 v380 v699 v701 v704 v706 v714 v730} (H : Mem B O arg1 arg2 arg3 arg4 arg5 arg6 arg7 arg8 arg9 arg10 arg11 arg12 arg13 arg14 arg15) :
    Safe B O (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v361 v380 v699 v701 v704 v706 v714 v730) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part16 {arg17 arg18 k0_hw1 v332 v374 v423 v699 v701 v704 v706 v709 v714 v766} (H : Mem B O arg1 arg2 arg3 arg4 arg5 arg6 arg7 arg8 arg9 arg10 arg11 arg12 arg13 arg14 arg15) :
    Safe B O (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v374 v423 v699 v701 v704 v706 v709 v714 v766) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part17 {arg17 arg18 k0_hw1 v332 v417 v466 v699 v701 v706 v709 v714 v801 v803} (H : Mem B O arg1 arg2 arg3 arg4 arg5 arg6 arg7 arg8 arg9 arg10 arg11 arg12 arg13 arg14 arg15) :
    Safe B O (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v417 v466 v699 v701 v706 v709 v714 v801 v803) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part18 {arg17 arg18 k0_hw1 v332 v460 v509 v699 v701 v704 v706 v709 v714 v829 v832 v840} (H : Mem B O arg1 arg2 arg3 arg4 arg5 arg6 arg7 arg8 arg9 arg10 arg11 arg12 arg13 arg14 arg15) :
    Safe B O (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v460 v509 v699 v701 v704 v706 v709 v714 v829 v832 v840) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part19 {arg17 arg18 k0_hw1 v332 v704 v706 v709 v714 v870 v872 v875} (H : Mem B O arg1 arg2 arg3 arg4 arg5 arg6 arg7 arg8 arg9 arg10 arg11 arg12 arg13 arg14 arg15) :
    Safe B O (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v704 v706 v709 v714 v870 v872 v875) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part20 {arg17 arg18 k0_hw1 v332 v503 v552 v699 v701 v704 v706 v709 v714 cst_554} (H : Mem B O arg1 arg2 arg3 arg4 arg5 arg6 arg7 arg8 arg9 arg10 arg11 arg12 arg13 arg14 arg15) :
    Safe B O (k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v503 v552 v699 v701 v704 v706 v709 v714 cst_554) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part21 {arg17 arg18 k0_hw1 v332 v546 v595 v699 v701 v704 v709 v950} (H : Mem B O arg1 arg2 arg3 arg4 arg5 arg6 arg7 arg8 arg9 arg10 arg11 arg12 arg13 arg14 arg15) :
    Safe B O (k0_part21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v546 v595 v699 v701 v704 v709 v950) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part22 {arg17 arg18 k0_hw1 v332 v589 v638 v699 v701 v704 v706 v714 v988} (H : Mem B O arg1 arg2 arg3 arg4 arg5 arg6 arg7 arg8 arg9 arg10 arg11 arg12 arg13 arg14 arg15) :
    Safe B O (k0_part22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v589 v638 v699 v701 v704 v706 v714 v988) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part23 {arg17 arg18 k0_hw1 v332 v632 v668 v697 v698 v699 v701 v704 v1024} (H : Mem B O arg1 arg2 arg3 arg4 arg5 arg6 arg7 arg8 arg9 arg10 arg11 arg12 arg13 arg14 arg15) :
    Safe B O (k0_part23 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v332 v632 v668 v697 v698 v699 v701 v704 v1024) (fun a => a.2.1 = Scalar.select (Scalar.cmpi .eq v697 v698) (Scalar.addi v698 (1#32)) v698 ∧ a.2.2.1 = Scalar.select (Scalar.cmpi .eq v697 v698) (0#32) (Scalar.addi v697 (1#32)) ∧ a.2.2.2 = 7#32) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret ⟨rfl, rfl, rfl⟩

theorem part24 {arg17 arg18 k0_hw1 v697 v698 v1061 v1063 c7_i32_637} (H : Mem B O arg1 arg2 arg3 arg4 arg5 arg6 arg7 arg8 arg9 arg10 arg11 arg12 arg13 arg14 arg15) :
    Safe B O (k0_part24 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v697 v698 v1061 v1063 c7_i32_637) (fun a => a.1 = Scalar.minsi v1061 c7_i32_637) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret rfl

theorem part25 {arg17 arg18 k0_hw1 v698 v727 v746 v1065 v1067 v1070 v1080 v1096 v1099 cst_660} (H : Mem B O arg1 arg2 arg3 arg4 arg5 arg6 arg7 arg8 arg9 arg10 arg11 arg12 arg13 arg14 arg15) :
    Safe B O (k0_part25 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v727 v746 v1065 v1067 v1070 v1080 v1096 v1099 cst_660) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret trivial

theorem part26 {arg17 arg18 k0_hw1 v698 v740 v789 v1065 v1067 v1070 v1072 v1075 v1080} (H : Mem B O arg1 arg2 arg3 arg4 arg5 arg6 arg7 arg8 arg9 arg10 arg11 arg12 arg13 arg14 arg15) :
    Safe B O (k0_part26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v740 v789 v1065 v1067 v1070 v1072 v1075 v1080) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part27 {arg17 arg18 k0_hw1 v698 v783 v832 v1065 v1067 v1070 v1072 v1075 v1080 v1167 v1174} (H : Mem B O arg1 arg2 arg3 arg4 arg5 arg6 arg7 arg8 arg9 arg10 arg11 arg12 arg13 arg14 arg15) :
    Safe B O (k0_part27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v783 v832 v1065 v1067 v1070 v1072 v1075 v1080 v1167 v1174) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part28 {arg17 arg18 k0_hw1 v698 v826 v875 v1065 v1067 v1072 v1075 v1080 v1195 v1198 v1210} (H : Mem B O arg1 arg2 arg3 arg4 arg5 arg6 arg7 arg8 arg9 arg10 arg11 arg12 arg13 arg14 arg15) :
    Safe B O (k0_part28 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v826 v875 v1065 v1067 v1072 v1075 v1080 v1195 v1198 v1210) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part29 {arg17 arg18 k0_hw1 v698 v869 v918 v1065 v1067 v1070 v1072 v1075 v1080 v1238 v1241 v1243 v1246} (H : Mem B O arg1 arg2 arg3 arg4 arg5 arg6 arg7 arg8 arg9 arg10 arg11 arg12 arg13 arg14 arg15) :
    Safe B O (k0_part29 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v869 v918 v1065 v1067 v1070 v1072 v1075 v1080 v1238 v1241 v1243 v1246) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part30 {arg17 arg18 k0_hw1 v698 v1070 v1072 v1075 v1080 v1279 v1281 v1283} (H : Mem B O arg1 arg2 arg3 arg4 arg5 arg6 arg7 arg8 arg9 arg10 arg11 arg12 arg13 arg14 arg15) :
    Safe B O (k0_part30 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v1070 v1072 v1075 v1080 v1279 v1281 v1283) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part31 {arg17 arg18 k0_hw1 v698 v912 v961 v1065 v1067 v1070 v1072 v1075 v1316} (H : Mem B O arg1 arg2 arg3 arg4 arg5 arg6 arg7 arg8 arg9 arg10 arg11 arg12 arg13 arg14 arg15) :
    Safe B O (k0_part31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v912 v961 v1065 v1067 v1070 v1072 v1075 v1316) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part32 {arg17 arg18 k0_hw1 v698 v955 v1004 v1065 v1067 v1070 v1080 v1354 v1357 cst_810} (H : Mem B O arg1 arg2 arg3 arg4 arg5 arg6 arg7 arg8 arg9 arg10 arg11 arg12 arg13 arg14 arg15) :
    Safe B O (k0_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v955 v1004 v1065 v1067 v1070 v1080 v1354 v1357 cst_810) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret trivial

theorem part33 {arg17 arg18 k0_hw1 v698 v998 v1034 v1063 v1064 v1065 v1067 v1070 cst_831} (H : Mem B O arg1 arg2 arg3 arg4 arg5 arg6 arg7 arg8 arg9 arg10 arg11 arg12 arg13 arg14 arg15) :
    Safe B O (k0_part33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v698 v998 v1034 v1063 v1064 v1065 v1067 v1070 cst_831) (fun a => a.2.1 = Scalar.select (Scalar.cmpi .eq v1063 v1064) (0#32) (Scalar.addi v1063 (1#32)) ∧ a.2.2.1 = Scalar.minsi (Scalar.select (Scalar.cmpi .eq v1063 v1064) (Scalar.addi v1064 (1#32)) v1064) (7#32)) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret ⟨rfl, rfl⟩

theorem part34 {arg17 arg18 k0_hw1 v1063 v1064 v1429 v1430} (H : Mem B O arg1 arg2 arg3 arg4 arg5 arg6 arg7 arg8 arg9 arg10 arg11 arg12 arg13 arg14 arg15) :
    Safe B O (k0_part34 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1063 v1064 v1429 v1430) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part35 {arg17 arg18 k0_hw1 v1064 v1093 v1112 v1431 v1433 v1436 v1438 v1441 v1467} (H : Mem B O arg1 arg2 arg3 arg4 arg5 arg6 arg7 arg8 arg9 arg10 arg11 arg12 arg13 arg14 arg15) :
    Safe B O (k0_part35 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1093 v1112 v1431 v1433 v1436 v1438 v1441 v1467) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part36 {arg17 arg18 k0_hw1 v1064 v1106 v1155 v1431 v1433 v1436 v1446 v1505} (H : Mem B O arg1 arg2 arg3 arg4 arg5 arg6 arg7 arg8 arg9 arg10 arg11 arg12 arg13 arg14 arg15) :
    Safe B O (k0_part36 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1106 v1155 v1431 v1433 v1436 v1446 v1505) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  exact Safe_ret trivial

theorem part37 {arg17 arg18 k0_hw1 v1064 v1149 v1198 v1431 v1433 v1436 v1438 v1441 v1446 v1541 v1543} (H : Mem B O arg1 arg2 arg3 arg4 arg5 arg6 arg7 arg8 arg9 arg10 arg11 arg12 arg13 arg14 arg15) :
    Safe B O (k0_part37 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1149 v1198 v1431 v1433 v1436 v1438 v1441 v1446 v1541 v1543) (fun _ => True) := by
  have H' := H
  obtain ⟨b1, b2, b3, b4, b5, b6, b7, b8, b9, b10, b11, b12, b13, b14, b15, o9, o10, o11, o12, o13, o14, o15⟩ := H'
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part38 {arg17 arg18 k0_hw1 v1064 v1192 v1241 v1431 v1433 v1436 v1438 v1441 v1446 v1576 v1578} (H : Mem B O arg1 arg2 arg3 arg4 arg5 arg6 arg7 arg8 arg9 arg10 arg11 arg12 arg13 arg14 arg15) :
    Safe B O (k0_part38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1192 v1241 v1431 v1433 v1436 v1438 v1441 v1446 v1576 v1578) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part39 {arg17 arg18 k0_hw1 v1064 v1235 v1284 v1431 v1433 v1438 v1441 v1446 v1604 v1607 v1615} (H : Mem B O arg1 arg2 arg3 arg4 arg5 arg6 arg7 arg8 arg9 arg10 arg11 arg12 arg13 arg14 arg15) :
    Safe B O (k0_part39 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1235 v1284 v1431 v1433 v1438 v1441 v1446 v1604 v1607 v1615) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part40 {arg17 arg18 k0_hw1 v1064 v1433 v1436 v1438 v1441 v1446 v1645 v1647 v1650 v1651} (H : Mem B O arg1 arg2 arg3 arg4 arg5 arg6 arg7 arg8 arg9 arg10 arg11 arg12 arg13 arg14 arg15) :
    Safe B O (k0_part40 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1433 v1436 v1438 v1441 v1446 v1645 v1647 v1650 v1651) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part41 {arg17 arg18 k0_hw1 v1064 v1278 v1327 v1431 v1436 v1438 v1441 v1446 v1688 cst_1004} (H : Mem B O arg1 arg2 arg3 arg4 arg5 arg6 arg7 arg8 arg9 arg10 arg11 arg12 arg13 arg14 arg15) :
    Safe B O (k0_part41 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1278 v1327 v1431 v1436 v1438 v1441 v1446 v1688 cst_1004) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part42 {arg17 arg18 k0_hw1 v1064 v1321 v1364 v1370 v1400 v1431 v1433 v1436 v1725} (H : Mem B O arg1 arg2 arg3 arg4 arg5 arg6 arg7 arg8 arg9 arg10 arg11 arg12 arg13 arg14 arg15) :
    Safe B O (k0_part42 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1321 v1364 v1370 v1400 v1431 v1433 v1436 v1725) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret trivial

theorem part43 {arg17 arg18 k0_hw1 v1064 v1429 v1430 v1436 v1761 v1763 v1765} (H : Mem B O arg1 arg2 arg3 arg4 arg5 arg6 arg7 arg8 arg9 arg10 arg11 arg12 arg13 arg14 arg15) :
    Safe B O (k0_part43 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1064 v1429 v1430 v1436 v1761 v1763 v1765) (fun a => a.2.1 = Scalar.select (Scalar.cmpi .eq v1429 v1430) (0#32) (Scalar.addi v1429 (1#32)) ∧ a.2.2.1 = Scalar.minsi (Scalar.select (Scalar.cmpi .eq v1429 v1430) (Scalar.addi v1430 (1#32)) v1430) (7#32)) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret ⟨rfl, rfl⟩

theorem part44 {arg17 arg18 k0_hw1 v1795 v1796 v1803} (H : Mem B O arg1 arg2 arg3 arg4 arg5 arg6 arg7 arg8 arg9 arg10 arg11 arg12 arg13 arg14 arg15) :
    Safe B O (k0_part44 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1795 v1796 v1803) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part45 {arg17 arg18 k0_hw1 v1430 v1459 v1478 v1797 v1799 v1802 v1804 v1807 v1812 v1837} (H : Mem B O arg1 arg2 arg3 arg4 arg5 arg6 arg7 arg8 arg9 arg10 arg11 arg12 arg13 arg14 arg15) :
    Safe B O (k0_part45 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1459 v1478 v1797 v1799 v1802 v1804 v1807 v1812 v1837) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part46 {arg17 arg18 k0_hw1 v1430 v1472 v1521 v1797 v1799 v1802 v1807 v1876} (H : Mem B O arg1 arg2 arg3 arg4 arg5 arg6 arg7 arg8 arg9 arg10 arg11 arg12 arg13 arg14 arg15) :
    Safe B O (k0_part46 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1472 v1521 v1797 v1799 v1802 v1807 v1876) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  exact Safe_ret trivial

theorem part47 {arg17 arg18 k0_hw1 v1430 v1515 v1564 v1797 v1799 v1802 v1804 v1812} (H : Mem B O arg1 arg2 arg3 arg4 arg5 arg6 arg7 arg8 arg9 arg10 arg11 arg12 arg13 arg14 arg15) :
    Safe B O (k0_part47 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1515 v1564 v1797 v1799 v1802 v1804 v1812) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part48 {arg17 arg18 k0_hw1 v1558 v1607 v1797 v1799 v1802 v1804 v1807 v1812 v1950} (H : Mem B O arg1 arg2 arg3 arg4 arg5 arg6 arg7 arg8 arg9 arg10 arg11 arg12 arg13 arg14 arg15) :
    Safe B O (k0_part48 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1558 v1607 v1797 v1799 v1802 v1804 v1807 v1812 v1950) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part49 {arg17 arg18 k0_hw1 v1430 v1601 v1650 v1797 v1799 v1804 v1807 v1812 v1985 v1987} (H : Mem B O arg1 arg2 arg3 arg4 arg5 arg6 arg7 arg8 arg9 arg10 arg11 arg12 arg13 arg14 arg15) :
    Safe B O (k0_part49 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1601 v1650 v1797 v1799 v1804 v1807 v1812 v1985 v1987) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part50 {arg17 arg18 k0_hw1 v1430 v1644 v1693 v1797 v1799 v1802 v1804 v1807 v1812 v2013 v2016 v2023} (H : Mem B O arg1 arg2 arg3 arg4 arg5 arg6 arg7 arg8 arg9 arg10 arg11 arg12 arg13 arg14 arg15) :
    Safe B O (k0_part50 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1644 v1693 v1797 v1799 v1802 v1804 v1807 v1812 v2013 v2016 v2023) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part51 {arg17 arg18 k0_hw1 v1430 v1802 v1804 v1807 v1812 v2054 v2056 v2059} (H : Mem B O arg1 arg2 arg3 arg4 arg5 arg6 arg7 arg8 arg9 arg10 arg11 arg12 arg13 arg14 arg15) :
    Safe B O (k0_part51 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1802 v1804 v1807 v1812 v2054 v2056 v2059) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part52 {arg17 arg18 k0_hw1 v1430 v1687 v1730 v1736 v1766 v1797 v1799 v1802 v2095} (H : Mem B O arg1 arg2 arg3 arg4 arg5 arg6 arg7 arg8 arg9 arg10 arg11 arg12 arg13 arg14 arg15) :
    Safe B O (k0_part52 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1687 v1730 v1736 v1766 v1797 v1799 v1802 v2095) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part53 {arg17 arg18 k0_hw1 v1430 v1795 v1796 v1802 v2127 v2129 v2132 v2133} (H : Mem B O arg1 arg2 arg3 arg4 arg5 arg6 arg7 arg8 arg9 arg10 arg11 arg12 arg13 arg14 arg15) :
    Safe B O (k0_part53 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1430 v1795 v1796 v1802 v2127 v2129 v2132 v2133) (fun a => a.1 = Scalar.select (Scalar.cmpi .eq v1795 v1796) (0#32) (Scalar.addi v1795 (1#32)) ∧ a.2.1 = Scalar.minsi (Scalar.select (Scalar.cmpi .eq v1795 v1796) (Scalar.addi v1796 (1#32)) v1796) (7#32)) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  exact Safe_ret ⟨rfl, rfl⟩

theorem part54 {arg17 arg18 k0_hw1 v1844 v2161 v2163 v2165 v2170 v2173 c0_i32_1279} (H : Mem B O arg1 arg2 arg3 arg4 arg5 arg6 arg7 arg8 arg9 arg10 arg11 arg12 arg13 arg14 arg15) :
    Safe B O (k0_part54 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1844 v2161 v2163 v2165 v2170 v2173 c0_i32_1279) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part55 {arg17 arg18 k0_hw1 v1796 v1825 v2168 v2170 v2173 v2178 v2205 v2207} (H : Mem B O arg1 arg2 arg3 arg4 arg5 arg6 arg7 arg8 arg9 arg10 arg11 arg12 arg13 arg14 arg15) :
    Safe B O (k0_part55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v1825 v2168 v2170 v2173 v2178 v2205 v2207) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part56 {arg17 arg18 k0_hw1 v1796 v1838 v1887 v2163 v2165 v2168 v2170 v2173 v2242} (H : Mem B O arg1 arg2 arg3 arg4 arg5 arg6 arg7 arg8 arg9 arg10 arg11 arg12 arg13 arg14 arg15) :
    Safe B O (k0_part56 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v1838 v1887 v2163 v2165 v2168 v2170 v2173 v2242) (fun _ => True) := by
  have H' := H
  obtain ⟨b1, b2, b3, b4, b5, b6, b7, b8, b9, b10, b11, b12, b13, b14, b15, o9, o10, o11, o12, o13, o14, o15⟩ := H'
  refine Safe_store (by assumption) (by assumption) ?_
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part57 {arg17 arg18 k0_hw1 v1796 v1881 v1930 v2163 v2165 v2168 v2178 v2280 v2282} (H : Mem B O arg1 arg2 arg3 arg4 arg5 arg6 arg7 arg8 arg9 arg10 arg11 arg12 arg13 arg14 arg15) :
    Safe B O (k0_part57 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v1881 v1930 v2163 v2165 v2168 v2178 v2280 v2282) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_load (by assumption) fun _ => ?_
  exact Safe_ret trivial

theorem part58 {arg17 arg18 k0_hw1 v1796 v1924 v1973 v2163 v2165 v2168 v2170 v2173 v2178 v2320} (H : Mem B O arg1 arg2 arg3 arg4 arg5 arg6 arg7 arg8 arg9 arg10 arg11 arg12 arg13 arg14 arg15) :
    Safe B O (k0_part58 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v1924 v1973 v2163 v2165 v2168 v2170 v2173 v2178 v2320) (fun _ => True) := by
  have H' := H
  obtain ⟨b1, b2, b3, b4, b5, b6, b7, b8, b9, b10, b11, b12, b13, b14, b15, o9, o10, o11, o12, o13, o14, o15⟩ := H'
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part59 {arg17 arg18 k0_hw1 v1796 v1967 v2016 v2163 v2165 v2168 v2170 v2173 v2178 v2351 v2353 v2356} (H : Mem B O arg1 arg2 arg3 arg4 arg5 arg6 arg7 arg8 arg9 arg10 arg11 arg12 arg13 arg14 arg15) :
    Safe B O (k0_part59 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v1967 v2016 v2163 v2165 v2168 v2170 v2173 v2178 v2351 v2353 v2356) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part60 {arg17 arg18 k0_hw1 v1796 v2010 v2059 v2163 v2165 v2170 v2173 v2178 v2379 v2382 v2390 v2393} (H : Mem B O arg1 arg2 arg3 arg4 arg5 arg6 arg7 arg8 arg9 arg10 arg11 arg12 arg13 arg14 arg15) :
    Safe B O (k0_part60 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v2010 v2059 v2163 v2165 v2170 v2173 v2178 v2379 v2382 v2390 v2393) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part61 {arg17 arg18 k0_hw1 v1796 v2102 v2163 v2165 v2168 v2170 v2173 v2178 v2422 v2425 v2427 v2428} (H : Mem B O arg1 arg2 arg3 arg4 arg5 arg6 arg7 arg8 arg9 arg10 arg11 arg12 arg13 arg14 arg15) :
    Safe B O (k0_part61 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v2102 v2163 v2165 v2168 v2170 v2173 v2178 v2422 v2425 v2427 v2428) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part62 {arg17 arg18 k0_hw1 v1796 v2053 v2096 v2132 v2163 v2165 v2168 v2463 v2465} (H : Mem B O arg1 arg2 arg3 arg4 arg5 arg6 arg7 arg8 arg9 arg10 arg11 arg12 arg13 arg14 arg15) :
    Safe B O (k0_part62 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 k0_hw1 v1796 v2053 v2096 v2132 v2163 v2165 v2168 v2463 v2465) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  exact Safe_ret trivial

theorem part64 {v14 c0_i32_207 c1_i32_209 k0_t4} (H : Mem B O arg1 arg2 arg3 arg4 arg5 arg6 arg7 arg8 arg9 arg10 arg11 arg12 arg13 arg14 arg15) :
    Safe B O (k0_part64 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14 c0_i32_207 c1_i32_209 k0_t4) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  exact Safe_ret trivial

theorem part65 {v14 k0_t4 arg16 v328 v367} (H : Mem B O arg1 arg2 arg3 arg4 arg5 arg6 arg7 arg8 arg9 arg10 arg11 arg12 arg13 arg14 arg15) :
    Safe B O (k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14 k0_t4 arg16 v328 v367) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part66 {v14 k0_t4 arg16 v328 v410} (H : Mem B O arg1 arg2 arg3 arg4 arg5 arg6 arg7 arg8 arg9 arg10 arg11 arg12 arg13 arg14 arg15) :
    Safe B O (k0_part66 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14 k0_t4 arg16 v328 v410) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part67 {v14 k0_t4 arg16 v328 v453} (H : Mem B O arg1 arg2 arg3 arg4 arg5 arg6 arg7 arg8 arg9 arg10 arg11 arg12 arg13 arg14 arg15) :
    Safe B O (k0_part67 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14 k0_t4 arg16 v328 v453) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  exact Safe_ret trivial

theorem part68  (H : Mem B O arg1 arg2 arg3 arg4 arg5 arg6 arg7 arg8 arg9 arg10 arg11 arg12 arg13 arg14 arg15) :
    Safe B O (k0_part68 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 ) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  exact Safe_ret trivial

theorem part69 {v15 v36} (H : Mem B O arg1 arg2 arg3 arg4 arg5 arg6 arg7 arg8 arg9 arg10 arg11 arg12 arg13 arg14 arg15) :
    Safe B O (k0_part69 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v15 v36) (fun _ => True) := by
  have H' := H
  obtain ⟨b1, b2, b3, b4, b5, b6, b7, b8, b9, b10, b11, b12, b13, b14, b15, o9, o10, o11, o12, o13, o14, o15⟩ := H'
  exact Safe_ret trivial

theorem part70 {v15 v74 v76} (H : Mem B O arg1 arg2 arg3 arg4 arg5 arg6 arg7 arg8 arg9 arg10 arg11 arg12 arg13 arg14 arg15) :
    Safe B O (k0_part70 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v15 v74 v76) (fun _ => True) := by
  have H' := H
  obtain ⟨b1, b2, b3, b4, b5, b6, b7, b8, b9, b10, b11, b12, b13, b14, b15, o9, o10, o11, o12, o13, o14, o15⟩ := H'
  exact Safe_ret trivial

theorem part72 {v154} (H : Mem B O arg1 arg2 arg3 arg4 arg5 arg6 arg7 arg8 arg9 arg10 arg11 arg12 arg13 arg14 arg15) :
    Safe B O (k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v154) (fun _ => True) := by
  have H' := H
  obtain ⟨b1, b2, b3, b4, b5, b6, b7, b8, b9, b10, b11, b12, b13, b14, b15, o9, o10, o11, o12, o13, o14, o15⟩ := H'
  refine Safe_store (by assumption) (by assumption) ?_
  refine Safe_load (by assumption) fun _ => ?_
  refine Safe_store (by assumption) (by assumption) ?_
  refine Safe_load (by assumption) fun _ => ?_
  refine Safe_load (by assumption) fun _ => ?_
  refine Safe_store (by assumption) (by assumption) ?_
  refine Safe_load (by assumption) fun _ => ?_
  refine Safe_store (by assumption) (by assumption) ?_
  refine Safe_load (by assumption) fun _ => ?_
  refine Safe_load (by assumption) fun _ => ?_
  refine Safe_store (by assumption) (by assumption) ?_
  refine Safe_load (by assumption) fun _ => ?_
  refine Safe_store (by assumption) (by assumption) ?_
  refine Safe_load (by assumption) fun _ => ?_
  exact Safe_ret trivial

theorem part74 {v203 v206} (H : Mem B O arg1 arg2 arg3 arg4 arg5 arg6 arg7 arg8 arg9 arg10 arg11 arg12 arg13 arg14 arg15) :
    Safe B O (k0_part74 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v203 v206) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

theorem part75 {v203 v206 v211 v240 v243} (H : Mem B O arg1 arg2 arg3 arg4 arg5 arg6 arg7 arg8 arg9 arg10 arg11 arg12 arg13 arg14 arg15) :
    Safe B O (k0_part75 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v203 v206 v211 v240 v243) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  exact Safe_ret trivial

theorem part76 {v203 v206 v211 v271} (H : Mem B O arg1 arg2 arg3 arg4 arg5 arg6 arg7 arg8 arg9 arg10 arg11 arg12 arg13 arg14 arg15) :
    Safe B O (k0_part76 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v203 v206 v211 v271) (fun _ => True) := by
  have H' := H
  obtain ⟨b1, b2, b3, b4, b5, b6, b7, b8, b9, b10, b11, b12, b13, b14, b15, o9, o10, o11, o12, o13, o14, o15⟩ := H'
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  refine Safe_load (by assumption) fun _ => ?_
  refine Safe_store (by assumption) (by assumption) ?_
  refine Safe_load (by assumption) fun _ => ?_
  refine Safe_load (by assumption) fun _ => ?_
  exact Safe_ret trivial

end Cert.KernelIdeal.Safety

end
-- ==== Proof.KISafe2.lean ====
/- The attention's body, put together from its windows: it runs to its end whatever its loads read, its side conditions met by the row blocks and distances it walks. -/
module

public import proofs.«01_k».proof.Proof.KISafe1

@[expose] public section

set_option maxRecDepth 65536

noncomputable section

namespace Cert.KernelIdeal.Safety

open Idealize.ShloMosaic Idealize.SL.Sem Cert.Interp Cert.KernelIdeal Cert.KernelIdeal.Gen

variable {F : FTy → Type} [FloatOps F] [Named F]

variable {B O : Finset (Ref sig .tc)} {i : grid0.Coords} {arg1 : Memref sig .tc .vmem S1x2048x512 .bf16} {harg1 : arg1.IsWhole} {arg2 : Memref sig .tc .vmem S1x2048x512 .bf16} {harg2 : arg2.IsWhole} {arg3 : Memref sig .tc .vmem S1x512x2048 .bf16} {harg3 : arg3.IsWhole} {arg4 : Memref sig .tc .vmem S1x64 .f32} {harg4 : arg4.IsWhole} {arg5 : Memref sig .tc .vmem S1x64 .f32} {harg5 : arg5.IsWhole} {arg6 : Memref sig .tc .vmem S1x64 .f32} {harg6 : arg6.IsWhole} {arg7 : Memref sig .tc .vmem S1x64 .f32} {harg7 : arg7.IsWhole} {arg8 : Memref sig .tc .vmem S128x1 .f32} {harg8 : arg8.IsWhole} {arg9 : Memref sig .tc .vmem S1x2048x512 .bf16} {harg9 : arg9.IsWhole} {arg10 : Memref sig .tc .vmem S8x2048x128 .bf16} {harg10 : arg10.IsWhole} {arg11 : Memref sig .tc .vmem S8x2048x128 .bf16} {harg11 : arg11.IsWhole} {arg12 : Memref sig .tc .vmem S4x144x2048 .bf16} {harg12 : arg12.IsWhole} {arg13 : Memref sig .tc .vmem S2x256x256 .f32} {harg13 : arg13.IsWhole} {arg14 : Memref sig .tc .vmem S2x8x256x256 .f32} {harg14 : arg14.IsWhole} {arg15 : Memref sig .tc .vmem S8x8x144x256 .f32} {harg15 : arg15.IsWhole}

theorem part63 {c0_i32_205 c1_i32_206 k0_t3 arg17 arg18 arg19 arg20 arg21 arg22 arg23 arg24 arg25 arg26 arg27 arg28 arg29 arg30 arg31 arg32 arg33 arg34} (H : Mem B O arg1 arg2 arg3 arg4 arg5 arg6 arg7 arg8 arg9 arg10 arg11 arg12 arg13 arg14 arg15) (h2 : k0_chk2 arg17) (h1 : k0_chk1 arg17 arg18) :
    Safe B O (k0_part63 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 c0_i32_205 c1_i32_206 k0_t3 arg17 arg18 arg19 arg20 arg21 arg22 arg23 arg24 arg25 arg26 arg27 arg28 arg29 arg30 arg31 arg32 arg33 arg34) (fun a => (a.2.2.2.1, a.2.2.1) = step (step (step (step (step (step (arg17, arg18))))))) := by
  refine Safe_seq _ (part4 H h2 h1) fun a ha => ?_
  obtain ⟨k0_hw2, k0_hw1, v331, v332, v333, v335, v338, v340, v343, v348, v360⟩ := a
  have e_v331 : v331 = _ := ha.1
  have e_v332 : v332 = _ := ha.2
  have s0 : (v332, v331) = step (arg17, arg18) := by
    rw [e_v332, e_v331] <;> rfl
  refine Safe_seq _ (part5 H) fun a ha => ?_
  obtain ⟨v361, v374, v380, v392, v394, v397⟩ := a
  refine Safe_seq _ (part6 H) fun a ha => ?_
  obtain ⟨v417, v420, v423, v431, v434⟩ := a
  refine Safe_seq _ (part7 H) fun a ha => ?_
  obtain ⟨v460, v463, v466, v468, v469⟩ := a
  refine Safe_seq _ (part8 H) fun a ha => ?_
  obtain ⟨v503, v504, v506⟩ := a
  refine Safe_seq _ (part9 H) fun a ha => ?_
  obtain ⟨v509, v541⟩ := a
  refine Safe_seq _ (part10 H) fun a ha => ?_
  obtain ⟨v546, v552, v579, v581⟩ := a
  refine Safe_seq _ (part11 H) fun a ha => ?_
  obtain ⟨v589, v595, v619⟩ := a
  refine Safe_seq _ (part12 H) fun a ha => ?_
  obtain ⟨v632, v638, v650, v652, v655⟩ := a
  refine Safe_seq _ (part13 H) fun a ha => ?_
  obtain ⟨v668, v693, v694⟩ := a
  have e_v693 : v693 = _ := ha.1
  have e_v694 : v694 = _ := ha.2
  refine Safe_seq _ (part14 H) fun a ha => ?_
  obtain ⟨v697, v698, v699, v701, v704, v706, v709, v714, v727, v730⟩ := a
  have e_v697 : v697 = _ := ha.1
  have e_v698 : v698 = _ := ha.2
  have s1 : (v698, v697) = step (v332, v331) := by
    rw [e_v698, e_v697, e_v694, e_v693] <;> rfl
  refine Safe_seq _ (part15 H) fun a ha => ?_
  obtain ⟨v740, v746, v766⟩ := a
  refine Safe_seq _ (part16 H) fun a ha => ?_
  obtain ⟨v783, v789, v801, v803⟩ := a
  refine Safe_seq _ (part17 H) fun a ha => ?_
  obtain ⟨v826, v829, v832, v840⟩ := a
  refine Safe_seq _ (part18 H) fun a ha => ?_
  obtain ⟨v869, v870, v872, v875⟩ := a
  refine Safe_seq _ (part19 H) fun a ha => ?_
  obtain ⟨v912, cst_554⟩ := a
  refine Safe_seq _ (part20 H) fun a ha => ?_
  obtain ⟨v918, v950⟩ := a
  refine Safe_seq _ (part21 H) fun a ha => ?_
  obtain ⟨v955, v961, v988⟩ := a
  refine Safe_seq _ (part22 H) fun a ha => ?_
  obtain ⟨v998, v1004, v1024⟩ := a
  refine Safe_seq _ (part23 H) fun a ha => ?_
  obtain ⟨v1034, v1061, v1063, c7_i32_637⟩ := a
  have e_v1061 : v1061 = _ := ha.1
  have e_v1063 : v1063 = _ := ha.2.1
  have e_c7_i32_637 : c7_i32_637 = _ := ha.2.2
  refine Safe_seq _ (part24 H) fun a ha => ?_
  obtain ⟨v1064, v1065, v1067, v1070, v1072, v1075, v1080, v1093, v1096, v1099, cst_660⟩ := a
  have e_v1064 : v1064 = _ := ha
  have s2 : (v1064, v1063) = step (v698, v697) := by
    rw [e_v1064, e_v1063, e_v1061, e_c7_i32_637] <;> rfl
  refine Safe_seq _ (part25 H) fun a ha => ?_
  obtain ⟨v1106, v1112⟩ := a
  refine Safe_seq _ (part26 H) fun a ha => ?_
  obtain ⟨v1149, v1155, v1167, v1174⟩ := a
  refine Safe_seq _ (part27 H) fun a ha => ?_
  obtain ⟨v1192, v1195, v1198, v1210⟩ := a
  refine Safe_seq _ (part28 H) fun a ha => ?_
  obtain ⟨v1235, v1238, v1241, v1243, v1246⟩ := a
  refine Safe_seq _ (part29 H) fun a ha => ?_
  obtain ⟨v1278, v1279, v1281, v1283⟩ := a
  refine Safe_seq _ (part30 H) fun a ha => ?_
  obtain ⟨v1284, v1316⟩ := a
  refine Safe_seq _ (part31 H) fun a ha => ?_
  obtain ⟨v1321, v1327, v1354, v1357, cst_810⟩ := a
  refine Safe_seq _ (part32 H) fun a ha => ?_
  obtain ⟨v1364, v1370, cst_831⟩ := a
  refine Safe_seq _ (part33 H) fun a ha => ?_
  obtain ⟨v1400, v1429, v1430, v1431, v1433⟩ := a
  have e_v1429 : v1429 = _ := ha.1
  have e_v1430 : v1430 = _ := ha.2
  have s3 : (v1430, v1429) = step (v1064, v1063) := by
    rw [e_v1430, e_v1429] <;> rfl
  refine Safe_seq _ (part34 H) fun a ha => ?_
  obtain ⟨v1436, v1438, v1441, v1446, v1459, v1467⟩ := a
  refine Safe_seq _ (part35 H) fun a ha => ?_
  obtain ⟨v1472, v1478, v1505⟩ := a
  refine Safe_seq _ (part36 H) fun a ha => ?_
  obtain ⟨v1515, v1521, v1541, v1543⟩ := a
  refine Safe_seq _ (part37 H) fun a ha => ?_
  obtain ⟨v1558, v1564, v1576, v1578⟩ := a
  refine Safe_seq _ (part38 H) fun a ha => ?_
  obtain ⟨v1601, v1604, v1607, v1615⟩ := a
  refine Safe_seq _ (part39 H) fun a ha => ?_
  obtain ⟨v1644, v1645, v1647, v1650, v1651⟩ := a
  refine Safe_seq _ (part40 H) fun a ha => ?_
  obtain ⟨v1687, v1688, cst_1004⟩ := a
  refine Safe_seq _ (part41 H) fun a ha => ?_
  obtain ⟨v1693, v1725⟩ := a
  refine Safe_seq _ (part42 H) fun a ha => ?_
  obtain ⟨v1730, v1736, v1761, v1763, v1765⟩ := a
  refine Safe_seq _ (part43 H) fun a ha => ?_
  obtain ⟨v1766, v1795, v1796, v1797, v1799, v1802, v1803⟩ := a
  have e_v1795 : v1795 = _ := ha.1
  have e_v1796 : v1796 = _ := ha.2
  have s4 : (v1796, v1795) = step (v1430, v1429) := by
    rw [e_v1796, e_v1795] <;> rfl
  refine Safe_seq _ (part44 H) fun a ha => ?_
  obtain ⟨v1804, v1807, v1812, v1825, v1837⟩ := a
  refine Safe_seq _ (part45 H) fun a ha => ?_
  obtain ⟨v1838, v1844, v1876⟩ := a
  refine Safe_seq _ (part46 H) fun a ha => ?_
  obtain ⟨v1881, v1887⟩ := a
  refine Safe_seq _ (part47 H) fun a ha => ?_
  obtain ⟨v1924, v1930, v1950⟩ := a
  refine Safe_seq _ (part48 H) fun a ha => ?_
  obtain ⟨v1967, v1973, v1985, v1987⟩ := a
  refine Safe_seq _ (part49 H) fun a ha => ?_
  obtain ⟨v2010, v2013, v2016, v2023⟩ := a
  refine Safe_seq _ (part50 H) fun a ha => ?_
  obtain ⟨v2053, v2054, v2056, v2059⟩ := a
  refine Safe_seq _ (part51 H) fun a ha => ?_
  rename' a => v2095
  refine Safe_seq _ (part52 H) fun a ha => ?_
  obtain ⟨v2096, v2102, v2127, v2129, v2132, v2133⟩ := a
  refine Safe_seq _ (part53 H) fun a ha => ?_
  obtain ⟨v2161, v2162, v2163, v2165, v2168, v2170, v2173, c0_i32_1279⟩ := a
  have e_v2161 : v2161 = _ := ha.1
  have e_v2162 : v2162 = _ := ha.2
  have s5 : (v2162, v2161) = step (v1796, v1795) := by
    rw [e_v2162, e_v2161] <;> rfl
  refine Safe_seq _ (part54 H) fun a ha => ?_
  obtain ⟨v2178, v2191, v2204, v2205, v2207⟩ := a
  refine Safe_seq _ (part55 H) fun a ha => ?_
  obtain ⟨v2210, v2242⟩ := a
  refine Safe_seq _ (part56 H) fun a ha => ?_
  obtain ⟨v2247, v2253, v2280, v2282⟩ := a
  refine Safe_seq _ (part57 H) fun a ha => ?_
  obtain ⟨v2290, v2296, v2320⟩ := a
  refine Safe_seq _ (part58 H) fun a ha => ?_
  obtain ⟨v2333, v2339, v2351, v2353, v2356⟩ := a
  refine Safe_seq _ (part59 H) fun a ha => ?_
  obtain ⟨v2376, v2379, v2382, v2390, v2393⟩ := a
  refine Safe_seq _ (part60 H) fun a ha => ?_
  obtain ⟨v2419, v2422, v2425, v2427, v2428⟩ := a
  refine Safe_seq _ (part61 H) fun a ha => ?_
  obtain ⟨v2462, v2463, v2465⟩ := a
  refine Safe_seq _ (part62 H) fun a ha => ?_
  obtain ⟨v2468, v2495, v2498, v2505⟩ := a
  exact Safe_ret (s5.trans (congrArg step (s4.trans (congrArg step (s3.trans (congrArg step (s2.trans (congrArg step (s1.trans (congrArg step s0))))))))))

/-- A trip of the copies of keys and queries. -/
theorem t1 {v15 v17 v31 v45 v59 v73 v87 v101 v115 v116} (H : Mem B O arg1 arg2 arg3 arg4 arg5 arg6 arg7 arg8 arg9 arg10 arg11 arg12 arg13 arg14 arg15) (n) (a) :
    Safe B O (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v15 v17 v31 v45 v59 v73 v87 v101 v115 v116 n a) fun _ => True := by
  have H' := H
  obtain ⟨b1, b2, b3, b4, b5, b6, b7, b8, b9, b10, b11, b12, b13, b14, b15, o9, o10, o11, o12, o13, o14, o15⟩ := H'
  refine Safe_seq _ (part1 H) fun a _ => ?_
  refine Safe_seq _ (part2 H) fun a _ => ?_
  obtain ⟨v407, v410⟩ := a
  refine Safe_seq _ (part3 H) fun a _ => ?_
  obtain ⟨v445, v452⟩ := a
  refine Safe_store (by assumption) (by assumption) ?_
  refine Safe_load (by assumption) fun _ => ?_
  refine Safe_store (by assumption) (by assumption) ?_
  refine Safe_load (by assumption) fun _ => ?_
  refine Safe_load (by assumption) fun _ => ?_
  refine Safe_store (by assumption) (by assumption) ?_
  refine Safe_load (by assumption) fun _ => ?_
  refine Safe_store (by assumption) (by assumption) ?_
  exact Safe_ret trivial

/-- A trip of the clearing of the accumulators. -/
theorem t2 {arg0 v178 k0_h1} (H : Mem B O arg1 arg2 arg3 arg4 arg5 arg6 arg7 arg8 arg9 arg10 arg11 arg12 arg13 arg14 arg15) (n) (a) :
    Safe B O (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v178 k0_h1 n a) fun _ => True := by
  have H' := H
  obtain ⟨b1, b2, b3, b4, b5, b6, b7, b8, b9, b10, b11, b12, b13, b14, b15, o9, o10, o11, o12, o13, o14, o15⟩ := H'
  refine Safe_load (by assumption) fun _ => ?_
  refine Safe_store (by assumption) (by assumption) ?_
  exact Safe_ret trivial

/-- Where the walk over the tiles stands after `k` trips. -/
def walk (k : Nat) : BitVec 32 × BitVec 32 := Nat.rec (0#32, 0#32) (fun _ w => step (step (step (step (step (step w)))))) k

instance decChk2 (w : BitVec 32) : Decidable (k0_chk2 w) := k0_chk2.dec w

instance decChk1 (w w' : BitVec 32) : Decidable (k0_chk1 w w') := k0_chk1.dec w w'

theorem walk_ok : ∀ k : Fin k0_t3_loop.trips, k0_chk2 (walk k.val).1 ∧ k0_chk1 (walk k.val).1 (walk k.val).2 := by
  decide +kernel

/-- A trip over six tiles. -/
theorem t3 (H : Mem B O arg1 arg2 arg3 arg4 arg5 arg6 arg7 arg8 arg9 arg10 arg11 arg12 arg13 arg14 arg15) (n) (a : BitVec 32 × BitVec 32 × _) (ha : (a.1, a.2.1) = walk n.val) :
    Safe B O (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 n a) fun a => (a.1, a.2.1) = walk (n.val + 1) := by
  have H' := H
  obtain ⟨b1, b2, b3, b4, b5, b6, b7, b8, b9, b10, b11, b12, b13, b14, b15, o9, o10, o11, o12, o13, o14, o15⟩ := H'
  obtain ⟨arg17, arg18, rest⟩ := a
  have h := walk_ok n
  rw [← ha] at h
  obtain ⟨h2, h1⟩ := h
  refine Safe_seq _ (part63 H h2 h1) fun a hs => ?_
  replace hs := hs.trans (congrArg (fun w => step (step (step (step (step (step w)))))) ha)
  obtain ⟨k0_hw1, v1796, v2161, v2162, v2168, v2191, v2204, v2210, v2247, v2253, v2290, v2296, v2333, v2339, v2376, v2382, v2419, v2425, v2462, v2468, v2495, v2498, v2506⟩ := a
  refine Safe_load (by assumption) fun _ => ?_
  refine Safe_load (by assumption) fun _ => ?_
  refine Safe_load (by assumption) fun _ => ?_
  refine Safe_store (by assumption) (by assumption) ?_
  exact Safe_ret hs

/-- A trip of the last step. -/
theorem t4 {v14} (H : Mem B O arg1 arg2 arg3 arg4 arg5 arg6 arg7 arg8 arg9 arg10 arg11 arg12 arg13 arg14 arg15) (n) (a) :
    Safe B O (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14 n a) fun _ => True := by
  have H' := H
  obtain ⟨b1, b2, b3, b4, b5, b6, b7, b8, b9, b10, b11, b12, b13, b14, b15, o9, o10, o11, o12, o13, o14, o15⟩ := H'
  refine Safe_seq _ (part64 H) fun a _ => ?_
  obtain ⟨arg16, v328, v367⟩ := a
  refine Safe_seq _ (part65 H) fun a _ => ?_
  refine Safe_seq _ (part66 H) fun a _ => ?_
  refine Safe_seq _ (part67 H) fun a _ => ?_
  refine Safe_load (by assumption) fun _ => ?_
  refine Safe_store (by assumption) (by assumption) ?_
  exact Safe_ret trivial

theorem part71 {v15 v17 v31 v45 v59 v73 v87 v101 v115 v116} (H : Mem B O arg1 arg2 arg3 arg4 arg5 arg6 arg7 arg8 arg9 arg10 arg11 arg12 arg13 arg14 arg15) :
    Safe B O (k0_part71 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v15 v17 v31 v45 v59 v73 v87 v101 v115 v116) fun _ => True := by
  have H' := H
  obtain ⟨b1, b2, b3, b4, b5, b6, b7, b8, b9, b10, b11, b12, b13, b14, b15, o9, o10, o11, o12, o13, o14, o15⟩ := H'
  rw [k0_part71_eq_skeleton]
  refine Safe_seq _ (Safe_for _ _ _ _ (fun _ _ => True) trivial fun n a _ => t1 H n a) fun a _ => ?_
  refine Safe_load (by assumption) fun _ => ?_
  refine Safe_load (by assumption) fun _ => ?_
  exact Safe_ret trivial

theorem part73 {arg0 v178} (H : Mem B O arg1 arg2 arg3 arg4 arg5 arg6 arg7 arg8 arg9 arg10 arg11 arg12 arg13 arg14 arg15) :
    Safe B O (k0_part73 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v178) fun _ => True := by
  have H' := H
  obtain ⟨b1, b2, b3, b4, b5, b6, b7, b8, b9, b10, b11, b12, b13, b14, b15, o9, o10, o11, o12, o13, o14, o15⟩ := H'
  rw [k0_part73_eq_skeleton]
  refine Safe_load (by assumption) fun _ => ?_
  refine Safe_store (by assumption) (by assumption) ?_
  refine Safe_load (by assumption) fun _ => ?_
  refine Safe_store (by assumption) (by assumption) ?_
  refine Safe_load (by assumption) fun _ => ?_
  refine Safe_store (by assumption) (by assumption) ?_
  refine Safe_load (by assumption) fun _ => ?_
  refine Safe_store (by assumption) (by assumption) ?_
  refine Safe_seq _ (Safe_ret (Q := fun _ => True) trivial) fun _ _ => ?_
  change Safe B O (dite (k0_cond1 i = 1#1) _ _) _
  by_cases k0_h1 : k0_cond1 i = 1#1
  · rw [dif_pos k0_h1]
    exact Safe_seq _ (Safe_for _ _ _ _ (fun _ _ => True) trivial fun n a _ => t2 H n a) fun a _ => Safe_ret trivial
  · rw [dif_neg k0_h1]
    exact Safe_ret trivial

/-- The walk over the tiles. -/
theorem loop3 (H : Mem B O arg1 arg2 arg3 arg4 arg5 arg6 arg7 arg8 arg9 arg10 arg11 arg12 arg13 arg14 arg15) (init) (h0 : (init.1, init.2.1) = walk 0) :
    Safe B O (Scf.Loop.for k0_t3_loop k0_t3_ok init (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)) fun a => (a.1, a.2.1) = walk k0_t3_loop.trips :=
  Safe_for k0_t3_loop k0_t3_ok init _ (fun k a => (a.1, a.2.1) = walk k) h0 fun n a ha => t3 H n a ha

/-- The last steps. -/
theorem loop4 {v14} (H : Mem B O arg1 arg2 arg3 arg4 arg5 arg6 arg7 arg8 arg9 arg10 arg11 arg12 arg13 arg14 arg15) :
    Safe B O (Scf.Loop.for k0_t4_loop k0_t4_ok ⟨⟩ (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 v14)) fun _ => True :=
  Safe_for k0_t4_loop k0_t4_ok _ _ (fun _ _ => True) trivial fun n a _ => t4 H n a

/-- The attention's body runs to its end whatever its loads read. -/
theorem body (H : Mem B O arg1 arg2 arg3 arg4 arg5 arg6 arg7 arg8 arg9 arg10 arg11 arg12 arg13 arg14 arg15) :
    Safe B O (cc0_diff_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) fun _ => True := by
  have H' := H
  obtain ⟨b1, b2, b3, b4, b5, b6, b7, b8, b9, b10, b11, b12, b13, b14, b15, o9, o10, o11, o12, o13, o14, o15⟩ := H'
  rw [cc0_diff_attention_eq_skeleton]
  refine Safe_seq _ (part68 H) fun a _ => ?_
  obtain ⟨arg0, v14, v15, v17, v31, v36⟩ := a
  refine Safe_seq _ (part69 H) fun a _ => ?_
  obtain ⟨v45, v59, v73, v74, v76⟩ := a
  refine Safe_seq _ (part70 H) fun a _ => ?_
  obtain ⟨v87, v101, v115, v116⟩ := a
  refine Safe_seq _ (part71 H) fun a _ => ?_
  refine Safe_seq _ (part72 H) fun a _ => ?_
  refine Safe_seq _ (part73 H) fun a _ => ?_
  obtain ⟨v203, v206⟩ := a
  refine Safe_seq _ (part74 H) fun a _ => ?_
  obtain ⟨v211, v224, v237, v240, v243⟩ := a
  refine Safe_seq _ (part75 H) fun a _ => ?_
  obtain ⟨v250, v263, v271⟩ := a
  refine Safe_seq _ (part76 H) fun a _ => ?_
  obtain ⟨v276, v289, v302, v305, v308⟩ := a
  refine Safe_load (by assumption) fun _ => ?_
  refine Safe_store (by assumption) (by assumption) ?_
  refine Safe_seq _ (Safe_ret (Q := fun _ => True) trivial) fun _ _ => ?_
  refine Safe_seq _ (loop3 H _ rfl) fun a _ => ?_
  exact Safe_seq _ (loop4 H) fun a _ => Safe_ret trivial

end Cert.KernelIdeal.Safety

end
-- ==== Proof.KIFrame.lean ====
/- The attention's run: at each of its sixteen points the body runs to its end, leaves its input blocks in place and gives its result's block and its
   scratches back at some contents; so the whole program ends with its argument arrays unchanged and every counter at zero. -/
module

public import proofs.«01_k».proof.Proof.KISafe2
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)
open Cert.KernelIdeal Cert.KernelIdeal.Gen Cert.Interp

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole memref's elements are owned when its buffer is, at contents it reads so. -/
theorem owns_as (c : Dev nD) {sp : Space} {sh : Shape} {e : EltTy} {mr : Memref sig (.tc : Proc τ).kind sp sh e} (h : mr.IsWhole) (X : sh.Idx → Elt F e) :
    (owns (c.tc : Thread nD τ) mr fullShare X : sProp 𝕄)
      = iprop(∃ f : Buf (Elt F) ((c.tc : Thread nD τ).loc mr.view.ref), ⌜mr.view.read (Elt F) f = X⌝ ∗ (((c.tc : Thread nD τ).loc mr.view.ref) ↦{fullShare} f)) := by
  unfold owns
  rw [h.set_eq_univ]

include m in
/-- The body from its fifteen buffers, all distinct: the first eight come back as they were. -/
theorem sound_refs (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x512x2048 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S128x1 .f32) (harg8 : arg8.IsWhole) (arg9 : Memref sig .tc .vmem S1x2048x512 .bf16) (harg9 : arg9.IsWhole) (arg10 : Memref sig .tc .vmem S8x2048x128 .bf16) (harg10 : arg10.IsWhole) (arg11 : Memref sig .tc .vmem S8x2048x128 .bf16) (harg11 : arg11.IsWhole) (arg12 : Memref sig .tc .vmem S4x144x2048 .bf16) (harg12 : arg12.IsWhole) (arg13 : Memref sig .tc .vmem S2x256x256 .f32) (harg13 : arg13.IsWhole) (arg14 : Memref sig .tc .vmem S2x8x256x256 .f32) (harg14 : arg14.IsWhole) (arg15 : Memref sig .tc .vmem S8x8x144x256 .f32) (harg15 : arg15.IsWhole)
    (hnd : ([arg1.view.ref, arg2.view.ref, arg3.view.ref, arg4.view.ref, arg5.view.ref, arg6.view.ref, arg7.view.ref, arg8.view.ref] ++ [arg9.view.ref, arg10.view.ref, arg11.view.ref, arg12.view.ref, arg13.view.ref, arg14.view.ref, arg15.view.ref]).Nodup)
    (f1 : Buf (Elt F) ((c.tc : Thread nD τ).loc arg1.view.ref)) (f2 : Buf (Elt F) ((c.tc : Thread nD τ).loc arg2.view.ref)) (f3 : Buf (Elt F) ((c.tc : Thread nD τ).loc arg3.view.ref)) (f4 : Buf (Elt F) ((c.tc : Thread nD τ).loc arg4.view.ref)) (f5 : Buf (Elt F) ((c.tc : Thread nD τ).loc arg5.view.ref)) (f6 : Buf (Elt F) ((c.tc : Thread nD τ).loc arg6.view.ref)) (f7 : Buf (Elt F) ((c.tc : Thread nD τ).loc arg7.view.ref)) (f8 : Buf (Elt F) ((c.tc : Thread nD τ).loc arg8.view.ref)) (f9 : Buf (Elt F) ((c.tc : Thread nD τ).loc arg9.view.ref)) (f10 : Buf (Elt F) ((c.tc : Thread nD τ).loc arg10.view.ref)) (f11 : Buf (Elt F) ((c.tc : Thread nD τ).loc arg11.view.ref)) (f12 : Buf (Elt F) ((c.tc : Thread nD τ).loc arg12.view.ref)) (f13 : Buf (Elt F) ((c.tc : Thread nD τ).loc arg13.view.ref)) (f14 : Buf (Elt F) ((c.tc : Thread nD τ).loc arg14.view.ref)) (f15 : Buf (Elt F) ((c.tc : Thread nD τ).loc arg15.view.ref)) :
    (iprop((((c.tc : Thread nD τ).loc arg1.view.ref) ↦{fullShare} f1) ∗ (((c.tc : Thread nD τ).loc arg2.view.ref) ↦{fullShare} f2) ∗ (((c.tc : Thread nD τ).loc arg3.view.ref) ↦{fullShare} f3) ∗ (((c.tc : Thread nD τ).loc arg4.view.ref) ↦{fullShare} f4) ∗ (((c.tc : Thread nD τ).loc arg5.view.ref) ↦{fullShare} f5) ∗ (((c.tc : Thread nD τ).loc arg6.view.ref) ↦{fullShare} f6) ∗ (((c.tc : Thread nD τ).loc arg7.view.ref) ↦{fullShare} f7) ∗ (((c.tc : Thread nD τ).loc arg8.view.ref) ↦{fullShare} f8) ∗ (((c.tc : Thread nD τ).loc arg9.view.ref) ↦{fullShare} f9) ∗ (((c.tc : Thread nD τ).loc arg10.view.ref) ↦{fullShare} f10) ∗ (((c.tc : Thread nD τ).loc arg11.view.ref) ↦{fullShare} f11) ∗ (((c.tc : Thread nD τ).loc arg12.view.ref) ↦{fullShare} f12) ∗ (((c.tc : Thread nD τ).loc arg13.view.ref) ↦{fullShare} f13) ∗ (((c.tc : Thread nD τ).loc arg14.view.ref) ↦{fullShare} f14) ∗ (((c.tc : Thread nD τ).loc arg15.view.ref) ↦{fullShare} f15)) : sProp 𝕄)
      ⊢ wp frame (wpE (defs₀ (F := F)) Variants.none (c : Thread nD τ) none) Set.univ (cc0_diff_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) fun _ =>
        iprop((((c.tc : Thread nD τ).loc arg1.view.ref) ↦{fullShare} f1) ∗ (((c.tc : Thread nD τ).loc arg2.view.ref) ↦{fullShare} f2) ∗ (((c.tc : Thread nD τ).loc arg3.view.ref) ↦{fullShare} f3) ∗ (((c.tc : Thread nD τ).loc arg4.view.ref) ↦{fullShare} f4) ∗ (((c.tc : Thread nD τ).loc arg5.view.ref) ↦{fullShare} f5) ∗ (((c.tc : Thread nD τ).loc arg6.view.ref) ↦{fullShare} f6) ∗ (((c.tc : Thread nD τ).loc arg7.view.ref) ↦{fullShare} f7) ∗ (((c.tc : Thread nD τ).loc arg8.view.ref) ↦{fullShare} f8) ∗ (∃ f, (((c.tc : Thread nD τ).loc arg9.view.ref) ↦{fullShare} f)) ∗ (∃ f, (((c.tc : Thread nD τ).loc arg10.view.ref) ↦{fullShare} f)) ∗ (∃ f, (((c.tc : Thread nD τ).loc arg11.view.ref) ↦{fullShare} f)) ∗ (∃ f, (((c.tc : Thread nD τ).loc arg12.view.ref) ↦{fullShare} f)) ∗ (∃ f, (((c.tc : Thread nD τ).loc arg13.view.ref) ↦{fullShare} f)) ∗ (∃ f, (((c.tc : Thread nD τ).loc arg14.view.ref) ↦{fullShare} f)) ∗ (∃ f, (((c.tc : Thread nD τ).loc arg15.view.ref) ↦{fullShare} f))) := by
  have hO : ∀ b ∈ [arg1.view.ref, arg2.view.ref, arg3.view.ref, arg4.view.ref, arg5.view.ref, arg6.view.ref, arg7.view.ref, arg8.view.ref], b ∉ ([arg9.view.ref, arg10.view.ref, arg11.view.ref, arg12.view.ref, arg13.view.ref, arg14.view.ref, arg15.view.ref]).toFinset := fun b hb hb' =>
    List.disjoint_of_nodup_append hnd hb (List.mem_toFinset.1 hb')
  have H : Safety.Mem (([arg1.view.ref, arg2.view.ref, arg3.view.ref, arg4.view.ref, arg5.view.ref, arg6.view.ref, arg7.view.ref, arg8.view.ref] ++ [arg9.view.ref, arg10.view.ref, arg11.view.ref, arg12.view.ref, arg13.view.ref, arg14.view.ref, arg15.view.ref]).toFinset) (([arg9.view.ref, arg10.view.ref, arg11.view.ref, arg12.view.ref, arg13.view.ref, arg14.view.ref, arg15.view.ref]).toFinset) arg1 arg2 arg3 arg4 arg5 arg6 arg7 arg8 arg9 arg10 arg11 arg12 arg13 arg14 arg15 := by
    constructor
    · exact List.mem_toFinset.2 (List.mem_cons_self ..)
    · exact List.mem_toFinset.2 (List.mem_cons_of_mem _ (List.mem_cons_self ..))
    · exact List.mem_toFinset.2 (List.mem_cons_of_mem _ (List.mem_cons_of_mem _ (List.mem_cons_self ..)))
    · exact List.mem_toFinset.2 (List.mem_cons_of_mem _ (List.mem_cons_of_mem _ (List.mem_cons_of_mem _ (List.mem_cons_self ..))))
    · exact List.mem_toFinset.2 (List.mem_cons_of_mem _ (List.mem_cons_of_mem _ (List.mem_cons_of_mem _ (List.mem_cons_of_mem _ (List.mem_cons_self ..)))))
    · exact List.mem_toFinset.2 (List.mem_cons_of_mem _ (List.mem_cons_of_mem _ (List.mem_cons_of_mem _ (List.mem_cons_of_mem _ (List.mem_cons_of_mem _ (List.mem_cons_self ..))))))
    · exact List.mem_toFinset.2 (List.mem_cons_of_mem _ (List.mem_cons_of_mem _ (List.mem_cons_of_mem _ (List.mem_cons_of_mem _ (List.mem_cons_of_mem _ (List.mem_cons_of_mem _ (List.mem_cons_self ..)))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_self ..))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))
    · exact List.mem_toFinset.2 (List.mem_cons_self ..)
    · exact List.mem_toFinset.2 (List.mem_cons_of_mem _ (List.mem_cons_self ..))
    · exact List.mem_toFinset.2 (List.mem_cons_of_mem _ (List.mem_cons_of_mem _ (List.mem_cons_self ..)))
    · exact List.mem_toFinset.2 (List.mem_cons_of_mem _ (List.mem_cons_of_mem _ (List.mem_cons_of_mem _ (List.mem_cons_self ..))))
    · exact List.mem_toFinset.2 (List.mem_cons_of_mem _ (List.mem_cons_of_mem _ (List.mem_cons_of_mem _ (List.mem_cons_of_mem _ (List.mem_cons_self ..)))))
    · exact List.mem_toFinset.2 (List.mem_cons_of_mem _ (List.mem_cons_of_mem _ (List.mem_cons_of_mem _ (List.mem_cons_of_mem _ (List.mem_cons_of_mem _ (List.mem_cons_self ..))))))
    · exact List.mem_toFinset.2 (List.mem_cons_of_mem _ (List.mem_cons_of_mem _ (List.mem_cons_of_mem _ (List.mem_cons_of_mem _ (List.mem_cons_of_mem _ (List.mem_cons_of_mem _ (List.mem_cons_self ..)))))))
  have h := W.sound_list (Ix := Unit) (Name := ℕ) (U := UR sig nD τ) (Lvl := ℕ) (defs := defs₀ (F := F)) Variants.none c none Set.univ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (fun b => m ((c.tc : Thread nD τ).loc b))
    ((Safety.body (i := i) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) H).toW _)
  refine BIBase.Entails.trans ?_ (BIBase.Entails.trans h (wp_mono _ _ _ fun a => ?_))
  · simp only [Interp.own]
    iintro ⟨H1, H2, H3, H4, H5, H6, H7, H8, H9, H10, H11, H12, H13, H14, H15⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iempintro
  · iintro ⟨%s', %hs, H⟩
    have e1 : s' arg1.view.ref = f1 := (hs.2 _ (hO _ (List.mem_cons_self ..))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg1.view.ref, f1⟩) (List.mem_cons_self ..))
    have e2 : s' arg2.view.ref = f2 := (hs.2 _ (hO _ (List.mem_cons_of_mem _ (List.mem_cons_self ..)))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg2.view.ref, f2⟩) (List.mem_cons_of_mem _ (List.mem_cons_self ..)))
    have e3 : s' arg3.view.ref = f3 := (hs.2 _ (hO _ (List.mem_cons_of_mem _ (List.mem_cons_of_mem _ (List.mem_cons_self ..))))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg3.view.ref, f3⟩) (List.mem_cons_of_mem _ (List.mem_cons_of_mem _ (List.mem_cons_self ..))))
    have e4 : s' arg4.view.ref = f4 := (hs.2 _ (hO _ (List.mem_cons_of_mem _ (List.mem_cons_of_mem _ (List.mem_cons_of_mem _ (List.mem_cons_self ..)))))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg4.view.ref, f4⟩) (List.mem_cons_of_mem _ (List.mem_cons_of_mem _ (List.mem_cons_of_mem _ (List.mem_cons_self ..)))))
    have e5 : s' arg5.view.ref = f5 := (hs.2 _ (hO _ (List.mem_cons_of_mem _ (List.mem_cons_of_mem _ (List.mem_cons_of_mem _ (List.mem_cons_of_mem _ (List.mem_cons_self ..))))))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg5.view.ref, f5⟩) (List.mem_cons_of_mem _ (List.mem_cons_of_mem _ (List.mem_cons_of_mem _ (List.mem_cons_of_mem _ (List.mem_cons_self ..))))))
    have e6 : s' arg6.view.ref = f6 := (hs.2 _ (hO _ (List.mem_cons_of_mem _ (List.mem_cons_of_mem _ (List.mem_cons_of_mem _ (List.mem_cons_of_mem _ (List.mem_cons_of_mem _ (List.mem_cons_self ..)))))))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg6.view.ref, f6⟩) (List.mem_cons_of_mem _ (List.mem_cons_of_mem _ (List.mem_cons_of_mem _ (List.mem_cons_of_mem _ (List.mem_cons_of_mem _ (List.mem_cons_self ..)))))))
    have e7 : s' arg7.view.ref = f7 := (hs.2 _ (hO _ (List.mem_cons_of_mem _ (List.mem_cons_of_mem _ (List.mem_cons_of_mem _ (List.mem_cons_of_mem _ (List.mem_cons_of_mem _ (List.mem_cons_of_mem _ (List.mem_cons_self ..))))))))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg7.view.ref, f7⟩) (List.mem_cons_of_mem _ (List.mem_cons_of_mem _ (List.mem_cons_of_mem _ (List.mem_cons_of_mem _ (List.mem_cons_of_mem _ (List.mem_cons_of_mem _ (List.mem_cons_self ..))))))))
    have e8 : s' arg8.view.ref = f8 := (hs.2 _ (hO _ (List.mem_cons_of_mem _ (List.mem_cons_of_mem _ (List.mem_cons_of_mem _ (List.mem_cons_of_mem _ (List.mem_cons_of_mem _ (List.mem_cons_of_mem _ (List.mem_cons_of_mem _ (List.mem_cons_self ..)))))))))).trans (stateOf_mem c _ (l := [⟨arg1.view.ref, f1⟩, ⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩]) hnd (x := ⟨arg8.view.ref, f8⟩) (List.mem_cons_of_mem _ (List.mem_cons_of_mem _ (List.mem_cons_of_mem _ (List.mem_cons_of_mem _ (List.mem_cons_of_mem _ (List.mem_cons_of_mem _ (List.mem_cons_of_mem _ (List.mem_cons_self ..)))))))))
    simp only [Interp.own, List.map_cons, List.map_nil, e1, e2, e3, e4, e5, e6, e7, e8]
    icases H with ⟨H1, H2, H3, H4, H5, H6, H7, H8, H9, H10, H11, H12, H13, H14, H15, He⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

include m in
/-- The body from its nine staging buffers and its six scratches: the eight inputs' come back reading as they did. -/
theorem sound_kernel (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S1x512x2048 .bf16) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S128x1 .f32) (harg8 : arg8.IsWhole) (arg9 : Memref sig .tc .vmem S1x2048x512 .bf16) (harg9 : arg9.IsWhole)
    (hnd : ([arg1.view.ref, arg2.view.ref, arg3.view.ref, arg4.view.ref, arg5.view.ref, arg6.view.ref, arg7.view.ref, arg8.view.ref] ++ [arg9.view.ref, cc0_scratch0, cc0_scratch1, cc0_scratch2, cc0_scratch3, cc0_scratch4, cc0_scratch5]).Nodup)
    (x1 : Vec F S1x2048x512 .bf16) (x2 : Vec F S1x2048x512 .bf16) (x3 : Vec F S1x512x2048 .bf16) (x4 : Vec F S1x64 .f32) (x5 : Vec F S1x64 .f32) (x6 : Vec F S1x64 .f32) (x7 : Vec F S1x64 .f32) (x8 : Vec F S128x1 .f32) :
    (iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ X, owns (c : Thread nD τ) arg9 fullShare X)) : sProp 𝕄)
      ⊢ wp frame (wpE (defs₀ (F := F)) Variants.none (c : Thread nD τ) none) Set.univ (cc0_diff_attention (F := F) i arg1 harg1 arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) fun _ =>
        iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ X, owns (c : Thread nD τ) arg9 fullShare X)) := by
  simp only [owns_as c harg1, owns_as c harg2, owns_as c harg3, owns_as c harg4, owns_as c harg5, owns_as c harg6, owns_as c harg7, owns_as c harg8, owns_as c harg9]
  iintro ⟨⟨⟨%g0, G0⟩, ⟨%g1, G1⟩, ⟨%g2, G2⟩, ⟨%g3, G3⟩, ⟨%g4, G4⟩, ⟨%g5, G5⟩⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%X9, %f9, %hf9, H9⟩⟩
  have h := sound_refs m c i arg1 harg1 arg2 harg2 arg3 harg3 arg4 harg4 arg5 harg5 arg6 harg6 arg7 harg7 arg8 harg8 arg9 harg9 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hnd f1 f2 f3 f4 f5 f6 f7 f8 f9 g0 g1 g2 g3 g4 g5
  iapply (wp_wand _ _ _) $$ [H1 H2 H3 H4 H5 H6 H7 H8 H9 G0 G1 G2 G3 G4 G5]
  · iapply h
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [G0]; · iexact G0
    isplitl [G1]; · iexact G1
    isplitl [G2]; · iexact G2
    isplitl [G3]; · iexact G3
    isplitl [G4]; · iexact G4
    iexact G5
  · iintro %a ⟨H1, H2, H3, H4, H5, H6, H7, H8, H9, G0, G1, G2, G3, G4, G5⟩
    isplitl [G0 G1 G2 G3 G4 G5]
    · isplitl [G0]; · iexact G0
      isplitl [G1]; · iexact G1
      isplitl [G2]; · iexact G2
      isplitl [G3]; · iexact G3
      isplitl [G4]; · iexact G4
      iexact G5
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    icases H9 with ⟨%f9', H9⟩
    iexists (arg9.view.read (Elt F) f9'); iexists f9'; isplitr
    · ipureintro; rfl
    iexact H9

/-- The staging buffers of a point and the scratches are all distinct. -/
theorem refs_nodup : ∀ t : Fin cfg0.N, ([(st0_0 t).view.ref, (st0_1 t).view.ref, (st0_2 t).view.ref, (st0_3 t).view.ref, (st0_4 t).view.ref, (st0_5 t).view.ref, (st0_6 t).view.ref, (st0_7 t).view.ref] ++ [(st0_8 t).view.ref, cc0_scratch0, cc0_scratch1, cc0_scratch2, cc0_scratch3, cc0_scratch4, cc0_scratch5]).Nodup := by
  decide +kernel

/-- What the pipeline holds: the arrays as the region finds them, each input's block in place after every point, the result's block at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed 8 t
  Φ _ := Pipeline.ΦA spec0 c
  q w := Pipeline.shareOf spec0 w
  owed _ := 0

/-- The one window whose contents are not named: the result's. -/
def fgt (w : Fin cfg0.W) : Bool := w == 8

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- The body at a point, from what the pipeline hands it to what it takes back. -/
theorem sound_body (c : Dev nD) (t : Fin cfg0.N) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X)) : sProp 𝕄)
      ⊢ wp frame (wpE (defs₀ (F := F)) Variants.none (c : Thread nD τ) none) Set.univ (bodyAt0 t) fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ X, owns (c : Thread nD τ) (st0_8 t) fullShare X)) := by
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  iintro ⟨⟨HS, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  have h := sound_kernel m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (refs_nodup t) (iblk m c 0 t) (iblk m c 1 t) (iblk m c 2 t) (iblk m c 3 t) (iblk m c 4 t) (iblk m c 5 t) (iblk m c 6 t) (iblk m c 7 t)
  iapply (wp_wand _ _ _) $$ [HS H0 H1 H2 H3 H4 H5 H6 H7 H8]
  · iapply h
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %a ⟨HS, H0, H1, H2, H3, H4, H5, H6, H7, H8⟩
  isplitl [HS Hp]
  · isplitl [HS]; · iexact HS
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

/-- The body's obligation at every point, the result's block forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every argument array ends as launched, and every counter at zero. -/
theorem frame : θ_run defs (onTc (τ := τ) (main (F := F))) ⟨m, fun _ => 0, ρ⟩ (fun r => (∀ c : Dev nD,

      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_frame_forget_shared (Q' := _) cfgs (dats m) (0 : Fin 1) launch₀0 defs₀ Variants.none fgt m ρ main
    (hbody := body_obligation m) (hq := fun _ _ _ => rfl) (howed := fun _ _ => rfl) (V := V m) (hmain := hmain m Variants.none) (hA := A_eq m) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c)),
      ((h.1 c).2 main_arg7 (Pipeline.mem_restRefs_of main_arg7 (by decide) (by decide))).trans (V_main_arg7 m c)⟩, h.2⟩)

end Cert.KernelIdeal.Hand

end
-- ==== Proof.K4Safe.lean ====
/- The dilated attention's body, put together from its windows: it runs to its end whatever its loads read. -/
module

public import proofs.«01_k».proof.Proof.K4Safe1
public import proofs.«01_k».proof.Proof.K4Safe2
public import proofs.«01_k».proof.Proof.K4Safe3

@[expose] public section

set_option maxRecDepth 65536

noncomputable section

namespace Cert.Kernel4.Safety

open Idealize.ShloMosaic Idealize.SL.Sem Cert.Interp Cert.Kernel4 Cert.Kernel4.Gen

variable {F : FTy → Type} [FloatOps F]

variable {B O : Finset (Ref sig .tc)} {A : Bufs}

theorem part138 (H : Mem B O A) : Safe B O (A.on (k0_part138 (F := F))) Any := sq (part6 H) fun _ => sq (part7 H) fun _ => sq (part8 H) fun _ => sq (part9 H) fun _ => sq (part10 H) fun _ => sq (part11 H) fun _ => sq (part12 H) fun _ => sq (part13 H) fun _ => sq (part14 H) fun _ => sq (part15 H) fun _ => sq (part16 H) fun _ => sq (part17 H) fun _ => sq (part18 H) fun _ => sq (part19 H) fun _ => sq (part20 H) fun _ => sq (part21 H) fun _ => sq (part22 H) fun _ => sq (part23 H) fun _ => sq (part24 H) fun _ => sq (part25 H) fun _ => sq (part26 H) fun _ => sq (part27 H) fun _ => sq (part28 H) fun _ => sq (part29 H) fun _ => sq (part30 H) fun _ => sq (part31 H) fun _ => sq (part32 H) fun _ => sq (part33 H) fun _ => sq (part34 H) fun _ => sq (part35 H) fun _ => sq (part36 H) fun _ => sq (part37 H) fun _ => sq (part38 H) fun _ => sq (part39 H) fun _ => sq (part40 H) fun _ => sq (part41 H) fun _ => sq (part42 H) fun _ => sq (part43 H) fun _ => sq (part44 H) fun _ => sq (part45 H) fun _ => sq (part46 H) fun _ => sq (part47 H) fun _ => sq (part48 H) fun _ => sq (part49 H) fun _ => sq (part50 H) fun _ => sq (part51 H) fun _ => sq (part52 H) fun _ => sq (part53 H) fun _ => sq (part54 H) fun _ => sq (part55 H) fun _ => sq (part56 H) fun _ => sq (part57 H) fun _ => sq (part58 H) fun _ => sq (part59 H) fun _ => sq (part60 H) fun _ => sq (part61 H) fun _ => sq (part62 H) fun _ => sq (part63 H) fun _ => sq (part64 H) fun _ => sq (part65 H) fun _ => trivial

theorem part139 {v2 v2055 v2057 v2059} (H : Mem B O A) : Safe B O (A.on (k0_part139 (F := F)) v2 v2055 v2057 v2059) Any := sq (part66 H) fun _ => sq (part67 H) fun _ => sq (part68 H) fun _ => sq (part69 H) fun _ => sq (part70 H) fun _ => sq (part71 H) fun _ => sq (part72 H) fun _ => sq (part73 H) fun _ => sq (part74 H) fun _ => sq (part75 H) fun _ => sq (part76 H) fun _ => sq (part77 H) fun _ => sq (part78 H) fun _ => sq (part79 H) fun _ => sq (part80 H) fun _ => sq (part81 H) fun _ => sq (part82 H) fun _ => sq (part83 H) fun _ => sq (part84 H) fun _ => sq (part85 H) fun _ => sq (part86 H) fun _ => sq (part87 H) fun _ => sq (part88 H) fun _ => sq (part89 H) fun _ => sq (part90 H) fun _ => sq (part91 H) fun _ => sq (part92 H) fun _ => sq (part93 H) fun _ => sq (part94 H) fun _ => sq (part95 H) fun _ => sq (part96 H) fun _ => sq (part97 H) fun _ => sq (part98 H) fun _ => sq (part99 H) fun _ => sq (part100 H) fun _ => sq (part101 H) fun _ => sq (part102 H) fun _ => sq (part103 H) fun _ => sq (part104 H) fun _ => sq (part105 H) fun _ => sq (part106 H) fun _ => sq (part107 H) fun _ => sq (part108 H) fun _ => sq (part109 H) fun _ => sq (part110 H) fun _ => sq (part111 H) fun _ => sq (part112 H) fun _ => sq (part113 H) fun _ => sq (part114 H) fun _ => sq (part115 H) fun _ => sq (part116 H) fun _ => sq (part117 H) fun _ => sq (part118 H) fun _ => sq (part119 H) fun _ => sq (part120 H) fun _ => sq (part121 H) fun _ => sq (part122 H) fun _ => sq (part123 H) fun _ => sq (part124 H) fun _ => sq (part125 H) fun _ => trivial

/-- The dilated attention's body runs to its end whatever its loads read. -/
theorem body (H : Mem B O A) : Safe B O (A.on (cc0_dilated_attention (F := F))) Any :=
  sq (part138 H) fun _ => sq (part139 H) fun _ => sq (part126 H) fun _ => sq (part127 H) fun _ => sq (part128 H) fun _ => sq (part129 H) fun _ => sq (part130 H) fun _ => sq (part131 H) fun _ => sq (part132 H) fun _ => sq (part133 H) fun _ => sq (part134 H) fun _ => sq (part135 H) fun _ => sq (part136 H) fun _ => sq (part137 H) fun _ => sl H.b18 fun _ => ss H.b18 H.o18 <| sq (Safe_ret (Q := Any) trivial) fun _ => sq (Safe_for k0_t1_loop k0_t1_ok _ _ (fun _ _ => True) trivial fun _ _ _ => sq (part1 H) fun _ => sq (part2 H) fun _ => sq (part3 H) fun _ => sq (part4 H) fun _ => sq (part5 H) fun _ => sl H.b15 fun _ => sl H.b15 fun _ => sl H.b6 fun _ => ss H.b6 H.o6 <| trivial) fun _ => trivial

end Cert.Kernel4.Safety

end
-- ==== Proof.K4IMem.lean ====
/- The buffers the dilated attention's body holds and those it writes, and the steps its windows are made of. -/
module

public import proofs.«01_k».proof.Proof.Interp
public import proofs.«01_k».proof.Proof.Gen.Kernel4Ideal.Skeleton

@[expose] public section

set_option maxRecDepth 65536

noncomputable section

namespace Cert.Kernel4Ideal.Safety

open Idealize.ShloMosaic Idealize.SL.Sem Cert.Interp Cert.Kernel4Ideal Cert.Kernel4Ideal.Gen

variable {F : FTy → Type} [FloatOps F] [Named F]

/-- A grid point and the seventeen buffers the body is called with. -/
structure Bufs where
  i : grid0.Coords
  arg2 : Memref sig .tc .smem S8 .f32
  harg2 : arg2.IsWhole
  arg3 : Memref sig .tc .vmem S1x2048x128 .f32
  harg3 : arg3.IsWhole
  arg4 : Memref sig .tc .vmem S1x2048x128 .f32
  harg4 : arg4.IsWhole
  arg5 : Memref sig .tc .vmem S1x2048x128 .f32
  harg5 : arg5.IsWhole
  arg6 : Memref sig .tc .vmem S1x2048x128 .bf16
  harg6 : arg6.IsWhole
  arg7 : Memref sig .tc .vmem S2048x128 .f32
  harg7 : arg7.IsWhole
  arg8 : Memref sig .tc .vmem S2048x128 .f32
  harg8 : arg8.IsWhole
  arg9 : Memref sig .tc .vmem S2048x128 .f32
  harg9 : arg9.IsWhole
  arg10 : Memref sig .tc .vmem S3x2048x128 .bf16
  harg10 : arg10.IsWhole
  arg11 : Memref sig .tc .vmem S3x128x2176 .bf16
  harg11 : arg11.IsWhole
  arg12 : Memref sig .tc .vmem S3x2176x128 .bf16
  harg12 : arg12.IsWhole
  arg13 : Memref sig .tc .vmem S8x128x256 .f32
  harg13 : arg13.IsWhole
  arg14 : Memref sig .tc .vmem S3x2048x128 .f32
  harg14 : arg14.IsWhole
  arg15 : Memref sig .tc .vmem S3x2048x128 .f32
  harg15 : arg15.IsWhole
  arg16 : Memref sig .tc .vmem S3x2048x128 .f32
  harg16 : arg16.IsWhole
  arg17 : Memref sig .tc .vmem S3x2048x128 .f32
  harg17 : arg17.IsWhole
  arg18 : Memref sig .tc .vmem S4x2048x128 .f32
  harg18 : arg18.IsWhole

universe u

/-- A window of the body at its buffers. -/
@[reducible] def Bufs.on {β : Sort u} (A : Bufs) (f : (i : grid0.Coords) → (arg2 : Memref sig .tc .smem S8 .f32) → (harg2 : arg2.IsWhole) → (arg3 : Memref sig .tc .vmem S1x2048x128 .f32) → (harg3 : arg3.IsWhole) → (arg4 : Memref sig .tc .vmem S1x2048x128 .f32) → (harg4 : arg4.IsWhole) → (arg5 : Memref sig .tc .vmem S1x2048x128 .f32) → (harg5 : arg5.IsWhole) → (arg6 : Memref sig .tc .vmem S1x2048x128 .bf16) → (harg6 : arg6.IsWhole) → (arg7 : Memref sig .tc .vmem S2048x128 .f32) → (harg7 : arg7.IsWhole) → (arg8 : Memref sig .tc .vmem S2048x128 .f32) → (harg8 : arg8.IsWhole) → (arg9 : Memref sig .tc .vmem S2048x128 .f32) → (harg9 : arg9.IsWhole) → (arg10 : Memref sig .tc .vmem S3x2048x128 .bf16) → (harg10 : arg10.IsWhole) → (arg11 : Memref sig .tc .vmem S3x128x2176 .bf16) → (harg11 : arg11.IsWhole) → (arg12 : Memref sig .tc .vmem S3x2176x128 .bf16) → (harg12 : arg12.IsWhole) → (arg13 : Memref sig .tc .vmem S8x128x256 .f32) → (harg13 : arg13.IsWhole) → (arg14 : Memref sig .tc .vmem S3x2048x128 .f32) → (harg14 : arg14.IsWhole) → (arg15 : Memref sig .tc .vmem S3x2048x128 .f32) → (harg15 : arg15.IsWhole) → (arg16 : Memref sig .tc .vmem S3x2048x128 .f32) → (harg16 : arg16.IsWhole) → (arg17 : Memref sig .tc .vmem S3x2048x128 .f32) → (harg17 : arg17.IsWhole) → (arg18 : Memref sig .tc .vmem S4x2048x128 .f32) → (harg18 : arg18.IsWhole) → β) : β :=
  f A.i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18

/-- The seventeen buffers are among those held, the result's and the scratches among those written. -/
structure Mem (B O : Finset (Ref sig .tc)) (A : Bufs) : Prop where
  b2 : A.arg2.view.ref ∈ B
  b3 : A.arg3.view.ref ∈ B
  b4 : A.arg4.view.ref ∈ B
  b5 : A.arg5.view.ref ∈ B
  b6 : A.arg6.view.ref ∈ B
  b7 : A.arg7.view.ref ∈ B
  b8 : A.arg8.view.ref ∈ B
  b9 : A.arg9.view.ref ∈ B
  b10 : A.arg10.view.ref ∈ B
  b11 : A.arg11.view.ref ∈ B
  b12 : A.arg12.view.ref ∈ B
  b13 : A.arg13.view.ref ∈ B
  b14 : A.arg14.view.ref ∈ B
  b15 : A.arg15.view.ref ∈ B
  b16 : A.arg16.view.ref ∈ B
  b17 : A.arg17.view.ref ∈ B
  b18 : A.arg18.view.ref ∈ B
  o6 : A.arg6.view.ref ∈ O
  o7 : A.arg7.view.ref ∈ O
  o8 : A.arg8.view.ref ∈ O
  o9 : A.arg9.view.ref ∈ O
  o10 : A.arg10.view.ref ∈ O
  o11 : A.arg11.view.ref ∈ O
  o12 : A.arg12.view.ref ∈ O
  o13 : A.arg13.view.ref ∈ O
  o14 : A.arg14.view.ref ∈ O
  o15 : A.arg15.view.ref ∈ O
  o16 : A.arg16.view.ref ∈ O
  o17 : A.arg17.view.ref ∈ O
  o18 : A.arg18.view.ref ∈ O

/-- Nothing is asked of a window's results. -/
@[reducible] def Any {α : Type} : α → Prop := fun _ => True

section Steps

variable {nD : Nat} {τ : Topo} {sig : RefSig} {Val : EltTy → Type} {Λ : Labels} {B O : Finset (Ref sig .tc)} {α β : Type}

/-- A load. -/
theorem sl {cs : CoreSpace} {sh : Shape} {e : EltTy} {m : Memref sig (.tc : Proc τ).kind cs sh e} {r : LoadRect sh} {hl : m.view.LoadsAt r}
    {k : (r.shape.Idx → Val e) → Prog (TpuEff nD τ sig Val Λ (.tc : Proc τ)) α} (hm : m.view.ref ∈ B)
    (h : ∀ x, Safe B O (k x) Any) : Safe B O (.op (.load m r hl) k) Any := ⟨hm, h⟩

/-- A store. -/
theorem ss {cs : CoreSpace} {sh : Shape} {e : EltTy} {m : Memref sig (.tc : Proc τ).kind cs sh e} {r : Rect sh} {w : r.shape.Idx → Val e}
    {M : Finset r.shape.Idx} {hx : (m.access r).Stores M} {hk : M = Finset.univ ∨ ∀ a, r.stride a = 1}
    {k : PUnit → Prog (TpuEff nD τ sig Val Λ (.tc : Proc τ)) α} (hm : m.view.ref ∈ B) (ho : m.view.ref ∈ O)
    (h : Safe B O (k ⟨⟩) Any) : Safe B O (.op (.store m r w M hx hk) k) Any := ⟨hm, ho, h⟩

/-- A window, then the rest. -/
theorem sq {p : Prog (TpuEff nD τ sig Val Λ (.tc : Proc τ)) α} {f : α → Prog (TpuEff nD τ sig Val Λ (.tc : Proc τ)) β}
    (hp : Safe B O p Any) (hf : ∀ a, Safe B O (f a) Any) : Safe B O (p >>= f) Any := Safe_seq _ hp fun a _ => hf a

/-- A word's load. -/
theorem se {sh : Shape} {e : EltTy} {m : Memref sig (.tc : Proc τ).kind .smem sh e} {r : Rect sh} {h1 : r.shape.numel = 1} {hp : e.packing = 1}
    (hm : m.view.ref ∈ B) : Safe B O (smemLoad (nD := nD) (τ := τ) (Val := Val) (Λ := Λ) (p := .tc) m r h1 hp) Any := ⟨hm, fun _ => trivial⟩

/-- A word's load, then the rest. -/
theorem sm {sh : Shape} {e : EltTy} {m : Memref sig (.tc : Proc τ).kind .smem sh e} {r : Rect sh} {h1 : r.shape.numel = 1} {hp : e.packing = 1}
    {f : Val e → Prog (TpuEff nD τ sig Val Λ (.tc : Proc τ)) β} (hm : m.view.ref ∈ B) (hf : ∀ a, Safe B O (f a) Any) :
    Safe B O (smemLoad (p := .tc) m r h1 hp >>= f) Any := sq (se hm) hf

end Steps

end Cert.Kernel4Ideal.Safety

end
-- ==== Proof.K4ISafe1.lean ====
/- Windows of the dilated attention's body (1 of 3): whatever its loads read, each runs to its end, writing only the result's buffer and the scratches. -/
module

public import proofs.«01_k».proof.Proof.K4IMem

@[expose] public section

set_option maxRecDepth 65536

noncomputable section

namespace Cert.Kernel4Ideal.Safety

open Idealize.ShloMosaic Idealize.SL.Sem Cert.Interp Cert.Kernel4Ideal Cert.Kernel4Ideal.Gen

variable {F : FTy → Type} [FloatOps F] [Named F]

variable {B O : Finset (Ref sig .tc)} {A : Bufs}

theorem part1 {c0_i32_2719 c1_i32_2720 k0_t1} (H : Mem B O A) : Safe B O (A.on (k0_part1 (F := F)) c0_i32_2719 c1_i32_2720 k0_t1) Any := sl H.b18 fun _ => sl H.b14 fun _ => ss H.b14 H.o14 <| sl H.b18 fun _ => sl H.b15 fun _ => ss H.b15 H.o15 <| sl H.b18 fun _ => sl H.b16 fun _ => ss H.b16 H.o16 <| sl H.b18 fun _ => sl H.b17 fun _ => trivial

theorem part2 {k0_t1 arg19 v4805} (H : Mem B O A) : Safe B O (A.on (k0_part2 (F := F)) k0_t1 arg19 v4805) Any := ss H.b17 H.o17 <| sl H.b18 fun _ => sl H.b14 fun _ => ss H.b14 H.o14 <| sl H.b18 fun _ => sl H.b15 fun _ => ss H.b15 H.o15 <| sl H.b18 fun _ => sl H.b16 fun _ => ss H.b16 H.o16 <| sl H.b18 fun _ => sl H.b17 fun _ => ss H.b17 H.o17 <| trivial

theorem part3 {k0_t1 arg19 v4839} (H : Mem B O A) : Safe B O (A.on (k0_part3 (F := F)) k0_t1 arg19 v4839) Any := sl H.b18 fun _ => sl H.b14 fun _ => ss H.b14 H.o14 <| sl H.b18 fun _ => sl H.b15 fun _ => ss H.b15 H.o15 <| sl H.b18 fun _ => sl H.b16 fun _ => ss H.b16 H.o16 <| sl H.b18 fun _ => sl H.b17 fun _ => ss H.b17 H.o17 <| trivial

theorem part4 {k0_t1 arg19 v4772 v4874} (H : Mem B O A) : Safe B O (A.on (k0_part4 (F := F)) k0_t1 arg19 v4772 v4874) Any := sl H.b18 fun _ => sl H.b14 fun _ => ss H.b14 H.o14 <| sl H.b18 fun _ => sl H.b15 fun _ => ss H.b15 H.o15 <| sl H.b18 fun _ => sl H.b16 fun _ => ss H.b16 H.o16 <| sl H.b18 fun _ => sl H.b17 fun _ => ss H.b17 H.o17 <| sl H.b16 fun _ => trivial

theorem part5 {k0_t1 v4772 v4907} (H : Mem B O A) : Safe B O (A.on (k0_part5 (F := F)) k0_t1 v4772 v4907) Any := sl H.b16 fun _ => sl H.b16 fun _ => sl H.b14 fun _ => sl H.b14 fun _ => sl H.b14 fun _ => sl H.b17 fun _ => sl H.b17 fun _ => sl H.b17 fun _ => sl H.b15 fun _ => trivial

theorem part6 (H : Mem B O A) : Safe B O (A.on (k0_part6 (F := F))) Any := sl H.b11 fun _ => ss H.b11 H.o11 <| sl H.b12 fun _ => ss H.b12 H.o12 <| sm (h1 := numel1_S1) (hp := rfl) H.b2 fun _ => sl H.b13 fun _ => ss H.b13 H.o13 <| trivial

theorem part7 {arg1 v11 v20 v21 v31} (H : Mem B O A) : Safe B O (A.on (k0_part7 (F := F)) arg1 v11 v20 v21 v31) Any := sl H.b13 fun _ => ss H.b13 H.o13 <| sm (h1 := numel1_S1) (hp := rfl) H.b2 fun _ => sl H.b13 fun _ => ss H.b13 H.o13 <| sl H.b13 fun _ => ss H.b13 H.o13 <| sm (h1 := numel1_S1) (hp := rfl) H.b2 fun _ => trivial

theorem part8 {arg1 v20 v21 v69} (H : Mem B O A) : Safe B O (A.on (k0_part8 (F := F)) arg1 v20 v21 v69) Any := sl H.b13 fun _ => ss H.b13 H.o13 <| sm (h1 := numel1_S1) (hp := rfl) H.b2 fun _ => sl H.b13 fun _ => ss H.b13 H.o13 <| sm (h1 := numel1_S1) (hp := rfl) H.b2 fun _ => sl H.b13 fun _ => ss H.b13 H.o13 <| sm (h1 := numel1_S1) (hp := rfl) H.b2 fun _ => trivial

theorem part9 {v20 v21 v104} (H : Mem B O A) : Safe B O (A.on (k0_part9 (F := F)) v20 v21 v104) Any := sl H.b13 fun _ => ss H.b13 H.o13 <| sl H.b3 fun _ => sl H.b4 fun _ => sl H.b5 fun _ => sl H.b10 fun _ => ss H.b10 H.o10 <| sl H.b11 fun _ => ss H.b11 H.o11 <| sl H.b12 fun _ => ss H.b12 H.o12 <| sl H.b3 fun _ => trivial

theorem part10 {v133} (H : Mem B O A) : Safe B O (A.on (k0_part10 (F := F)) v133) Any := sl H.b4 fun _ => sl H.b5 fun _ => sl H.b10 fun _ => ss H.b10 H.o10 <| sl H.b11 fun _ => ss H.b11 H.o11 <| sl H.b12 fun _ => ss H.b12 H.o12 <| sl H.b3 fun _ => sl H.b4 fun _ => sl H.b5 fun _ => sl H.b10 fun _ => ss H.b10 H.o10 <| trivial

theorem part11 {v157 v162} (H : Mem B O A) : Safe B O (A.on (k0_part11 (F := F)) v157 v162) Any := sl H.b11 fun _ => ss H.b11 H.o11 <| sl H.b12 fun _ => ss H.b12 H.o12 <| sl H.b3 fun _ => sl H.b4 fun _ => sl H.b5 fun _ => sl H.b10 fun _ => ss H.b10 H.o10 <| sl H.b11 fun _ => ss H.b11 H.o11 <| sl H.b12 fun _ => ss H.b12 H.o12 <| sl H.b3 fun _ => trivial

theorem part12 {v190} (H : Mem B O A) : Safe B O (A.on (k0_part12 (F := F)) v190) Any := sl H.b4 fun _ => sl H.b5 fun _ => sl H.b10 fun _ => ss H.b10 H.o10 <| sl H.b11 fun _ => ss H.b11 H.o11 <| sl H.b12 fun _ => ss H.b12 H.o12 <| sl H.b3 fun _ => sl H.b4 fun _ => sl H.b5 fun _ => sl H.b10 fun _ => ss H.b10 H.o10 <| trivial

theorem part13 {v214 v219} (H : Mem B O A) : Safe B O (A.on (k0_part13 (F := F)) v214 v219) Any := sl H.b11 fun _ => ss H.b11 H.o11 <| sl H.b12 fun _ => ss H.b12 H.o12 <| sl H.b3 fun _ => sl H.b4 fun _ => sl H.b5 fun _ => sl H.b10 fun _ => ss H.b10 H.o10 <| sl H.b11 fun _ => ss H.b11 H.o11 <| sl H.b12 fun _ => ss H.b12 H.o12 <| sl H.b3 fun _ => trivial

theorem part14 {v247} (H : Mem B O A) : Safe B O (A.on (k0_part14 (F := F)) v247) Any := sl H.b4 fun _ => sl H.b5 fun _ => sl H.b10 fun _ => ss H.b10 H.o10 <| sl H.b11 fun _ => ss H.b11 H.o11 <| sl H.b12 fun _ => ss H.b12 H.o12 <| sl H.b3 fun _ => sl H.b4 fun _ => sl H.b5 fun _ => sl H.b10 fun _ => ss H.b10 H.o10 <| trivial

theorem part15 {v271 v276} (H : Mem B O A) : Safe B O (A.on (k0_part15 (F := F)) v271 v276) Any := sl H.b11 fun _ => ss H.b11 H.o11 <| sl H.b12 fun _ => ss H.b12 H.o12 <| sl H.b3 fun _ => sl H.b4 fun _ => sl H.b5 fun _ => sl H.b10 fun _ => ss H.b10 H.o10 <| sl H.b11 fun _ => ss H.b11 H.o11 <| sl H.b12 fun _ => ss H.b12 H.o12 <| sl H.b3 fun _ => trivial

theorem part16 {v304} (H : Mem B O A) : Safe B O (A.on (k0_part16 (F := F)) v304) Any := sl H.b4 fun _ => sl H.b5 fun _ => sl H.b10 fun _ => ss H.b10 H.o10 <| sl H.b11 fun _ => ss H.b11 H.o11 <| sl H.b12 fun _ => ss H.b12 H.o12 <| sl H.b3 fun _ => sl H.b4 fun _ => sl H.b5 fun _ => sl H.b10 fun _ => ss H.b10 H.o10 <| trivial

theorem part17 {v328 v333} (H : Mem B O A) : Safe B O (A.on (k0_part17 (F := F)) v328 v333) Any := sl H.b11 fun _ => ss H.b11 H.o11 <| sl H.b12 fun _ => ss H.b12 H.o12 <| sl H.b3 fun _ => sl H.b4 fun _ => sl H.b5 fun _ => sl H.b10 fun _ => ss H.b10 H.o10 <| sl H.b11 fun _ => ss H.b11 H.o11 <| sl H.b12 fun _ => ss H.b12 H.o12 <| sl H.b3 fun _ => trivial

theorem part18 {v361} (H : Mem B O A) : Safe B O (A.on (k0_part18 (F := F)) v361) Any := sl H.b4 fun _ => sl H.b5 fun _ => sl H.b10 fun _ => ss H.b10 H.o10 <| sl H.b11 fun _ => ss H.b11 H.o11 <| sl H.b12 fun _ => ss H.b12 H.o12 <| sl H.b3 fun _ => sl H.b4 fun _ => sl H.b5 fun _ => sl H.b10 fun _ => ss H.b10 H.o10 <| trivial

theorem part19 {v385 v390} (H : Mem B O A) : Safe B O (A.on (k0_part19 (F := F)) v385 v390) Any := sl H.b11 fun _ => ss H.b11 H.o11 <| sl H.b12 fun _ => ss H.b12 H.o12 <| sl H.b3 fun _ => sl H.b4 fun _ => sl H.b5 fun _ => sl H.b10 fun _ => ss H.b10 H.o10 <| sl H.b11 fun _ => ss H.b11 H.o11 <| sl H.b12 fun _ => ss H.b12 H.o12 <| sl H.b11 fun _ => trivial

theorem part20 {v2 v418} (H : Mem B O A) : Safe B O (A.on (k0_part20 (F := F)) v2 v418) Any := sl H.b10 fun _ => sl H.b12 fun _ => sl H.b13 fun _ => sl H.b13 fun _ => trivial

theorem part21 {v2 v423 v433 v442 v452 v456 cst_351 v457} (H : Mem B O A) : Safe B O (A.on (k0_part21 (F := F)) v2 v423 v433 v442 v452 v456 cst_351 v457) Any := sl H.b14 fun _ => ss H.b14 H.o14 <| sl H.b15 fun _ => ss H.b15 H.o15 <| sl H.b16 fun _ => ss H.b16 H.o16 <| sl H.b17 fun _ => ss H.b17 H.o17 <| sl H.b3 fun _ => trivial

theorem part22 {v495} (H : Mem B O A) : Safe B O (A.on (k0_part22 (F := F)) v495) Any := sl H.b4 fun _ => sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => trivial

theorem part23 {v2 v523 v524} (H : Mem B O A) : Safe B O (A.on (k0_part23 (F := F)) v2 v523 v524) Any := sl H.b12 fun _ => sl H.b13 fun _ => sl H.b13 fun _ => trivial

theorem part24 {v2 v537 v546 v556 v565} (H : Mem B O A) : Safe B O (A.on (k0_part24 (F := F)) v2 v537 v546 v556 v565) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => trivial

theorem part25 {v599 v601} (H : Mem B O A) : Safe B O (A.on (k0_part25 (F := F)) v599 v601) Any := sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => trivial

theorem part26 {v2 v627 v629 v630} (H : Mem B O A) : Safe B O (A.on (k0_part26 (F := F)) v2 v627 v629 v630) Any := sl H.b13 fun _ => sl H.b13 fun _ => trivial

theorem part27 {v2 v641 v650 v660 v669 v672 v674} (H : Mem B O A) : Safe B O (A.on (k0_part27 (F := F)) v2 v641 v650 v660 v669 v672 v674) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => sl H.b5 fun _ => trivial

theorem part28 {v2 v703 v705 v707} (H : Mem B O A) : Safe B O (A.on (k0_part28 (F := F)) v2 v703 v705 v707) Any := sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => trivial

theorem part29 {v2 v731 v733 v735 v737 v738} (H : Mem B O A) : Safe B O (A.on (k0_part29 (F := F)) v2 v731 v733 v735 v737 v738) Any := sl H.b13 fun _ => sl H.b13 fun _ => trivial

theorem part30 {v2 v745 v764 v776 v779 v781 v783} (H : Mem B O A) : Safe B O (A.on (k0_part30 (F := F)) v2 v745 v764 v776 v779 v781 v783) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => sl H.b5 fun _ => sl H.b7 fun _ => ss H.b7 H.o7 <| trivial

theorem part31 {v2 v807 v809 v811} (H : Mem B O A) : Safe B O (A.on (k0_part31 (F := F)) v2 v807 v809 v811) Any := sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => trivial

theorem part32 {v2 v835 v837 v839 v844} (H : Mem B O A) : Safe B O (A.on (k0_part32 (F := F)) v2 v835 v837 v839 v844) Any := sl H.b13 fun _ => sl H.b13 fun _ => trivial

theorem part33 {v849 v868 v880 v883 v890 v892} (H : Mem B O A) : Safe B O (A.on (k0_part33 (F := F)) v849 v868 v880 v883 v890 v892) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => sl H.b5 fun _ => sl H.b7 fun _ => ss H.b7 H.o7 <| sl H.b8 fun _ => ss H.b8 H.o8 <| trivial

theorem part34 {v2 v911 v913 v915} (H : Mem B O A) : Safe B O (A.on (k0_part34 (F := F)) v2 v911 v913 v915) Any := sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => sl H.b13 fun _ => trivial

theorem part35 {v2 v939 v941 v943 v951} (H : Mem B O A) : Safe B O (A.on (k0_part35 (F := F)) v2 v939 v941 v943 v951) Any := sl H.b13 fun _ => trivial

theorem part36 {v984 v987 v994 v1001} (H : Mem B O A) : Safe B O (A.on (k0_part36 (F := F)) v984 v987 v994 v1001) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => sl H.b5 fun _ => sl H.b7 fun _ => ss H.b7 H.o7 <| sl H.b8 fun _ => ss H.b8 H.o8 <| sl H.b9 fun _ => trivial

theorem part37 {v2 v1015 v1017 v1019 v1028} (H : Mem B O A) : Safe B O (A.on (k0_part37 (F := F)) v2 v1015 v1017 v1019 v1028) Any := ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => sl H.b13 fun _ => trivial

theorem part38 {v2 v1043 v1045 v1047 v1057 v1060} (H : Mem B O A) : Safe B O (A.on (k0_part38 (F := F)) v2 v1043 v1045 v1047 v1057 v1060) Any := sl H.b13 fun _ => sl H.b14 fun _ => trivial

theorem part39 {v1088 v1091 v1098 v1105} (H : Mem B O A) : Safe B O (A.on (k0_part39 (F := F)) v1088 v1091 v1098 v1105) Any := ss H.b14 H.o14 <| sl H.b15 fun _ => ss H.b15 H.o15 <| sl H.b16 fun _ => ss H.b16 H.o16 <| sl H.b17 fun _ => ss H.b17 H.o17 <| sl H.b3 fun _ => sl H.b4 fun _ => sl H.b5 fun _ => sl H.b7 fun _ => ss H.b7 H.o7 <| sl H.b8 fun _ => ss H.b8 H.o8 <| sl H.b9 fun _ => ss H.b9 H.o9 <| trivial

theorem part40 {v2 v1121 v1123 v1133} (H : Mem B O A) : Safe B O (A.on (k0_part40 (F := F)) v2 v1121 v1123 v1133) Any := sl H.b10 fun _ => ss H.b10 H.o10 <| sl H.b11 fun _ => ss H.b11 H.o11 <| sl H.b12 fun _ => ss H.b12 H.o12 <| sl H.b11 fun _ => sl H.b10 fun _ => sl H.b12 fun _ => sl H.b13 fun _ => trivial

theorem part41 {v2 v1147 v1149 v1151 v1161 v1165 v1167 v1168} (H : Mem B O A) : Safe B O (A.on (k0_part41 (F := F)) v2 v1147 v1149 v1151 v1161 v1165 v1167 v1168) Any := sl H.b13 fun _ => sl H.b14 fun _ => ss H.b14 H.o14 <| trivial

theorem part42 {v1195 v1202 v1209} (H : Mem B O A) : Safe B O (A.on (k0_part42 (F := F)) v1195 v1202 v1209) Any := sl H.b15 fun _ => ss H.b15 H.o15 <| sl H.b16 fun _ => ss H.b16 H.o16 <| sl H.b17 fun _ => ss H.b17 H.o17 <| sl H.b3 fun _ => sl H.b4 fun _ => sl H.b5 fun _ => sl H.b7 fun _ => ss H.b7 H.o7 <| sl H.b8 fun _ => ss H.b8 H.o8 <| sl H.b9 fun _ => ss H.b9 H.o9 <| sl H.b10 fun _ => ss H.b10 H.o10 <| trivial

theorem part43 {v2 v1227 v1241} (H : Mem B O A) : Safe B O (A.on (k0_part43 (F := F)) v2 v1227 v1241) Any := sl H.b11 fun _ => ss H.b11 H.o11 <| sl H.b12 fun _ => ss H.b12 H.o12 <| sl H.b11 fun _ => sl H.b10 fun _ => sl H.b12 fun _ => sl H.b13 fun _ => trivial

theorem part44 {v2 v1251 v1253 v1255 v1265 v1274 cst_830 v1275} (H : Mem B O A) : Safe B O (A.on (k0_part44 (F := F)) v2 v1251 v1253 v1255 v1265 v1274 cst_830 v1275) Any := sl H.b13 fun _ => sl H.b14 fun _ => ss H.b14 H.o14 <| sl H.b15 fun _ => ss H.b15 H.o15 <| trivial

theorem part45 {v1306 v1313} (H : Mem B O A) : Safe B O (A.on (k0_part45 (F := F)) v1306 v1313) Any := sl H.b16 fun _ => ss H.b16 H.o16 <| sl H.b17 fun _ => ss H.b17 H.o17 <| sl H.b3 fun _ => sl H.b4 fun _ => sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => trivial

theorem part46 {v2 v1331 v1346 v1347} (H : Mem B O A) : Safe B O (A.on (k0_part46 (F := F)) v2 v1331 v1346 v1347) Any := ss H.b11 H.o11 <| sl H.b12 fun _ => ss H.b12 H.o12 <| sl H.b11 fun _ => sl H.b10 fun _ => sl H.b12 fun _ => sl H.b13 fun _ => trivial

end Cert.Kernel4Ideal.Safety

end
-- ==== Proof.K4ISafe2.lean ====
/- Windows of the dilated attention's body (2 of 3): whatever its loads read, each runs to its end, writing only the result's buffer and the scratches. -/
module

public import proofs.«01_k».proof.Proof.K4IMem

@[expose] public section

set_option maxRecDepth 65536

noncomputable section

namespace Cert.Kernel4Ideal.Safety

open Idealize.ShloMosaic Idealize.SL.Sem Cert.Interp Cert.Kernel4Ideal Cert.Kernel4Ideal.Gen

variable {F : FTy → Type} [FloatOps F] [Named F]

variable {B O : Finset (Ref sig .tc)} {A : Bufs}

theorem part47 {v2 v1359 v1369 v1378 v1383} (H : Mem B O A) : Safe B O (A.on (k0_part47 (F := F)) v2 v1359 v1369 v1378 v1383) Any := sl H.b13 fun _ => sl H.b14 fun _ => ss H.b14 H.o14 <| sl H.b15 fun _ => ss H.b15 H.o15 <| sl H.b16 fun _ => trivial

theorem part48 {v1417 v1426} (H : Mem B O A) : Safe B O (A.on (k0_part48 (F := F)) v1417 v1426) Any := ss H.b16 H.o16 <| sl H.b17 fun _ => ss H.b17 H.o17 <| sl H.b3 fun _ => sl H.b4 fun _ => sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| trivial

theorem part49 {v2 v1454} (H : Mem B O A) : Safe B O (A.on (k0_part49 (F := F)) v2 v1454) Any := sl H.b12 fun _ => ss H.b12 H.o12 <| sl H.b11 fun _ => sl H.b10 fun _ => sl H.b12 fun _ => sl H.b13 fun _ => sl H.b13 fun _ => trivial

theorem part50 {v2 v1463 v1473 v1482 v1487 v1489} (H : Mem B O A) : Safe B O (A.on (k0_part50 (F := F)) v2 v1463 v1473 v1482 v1487 v1489) Any := sl H.b14 fun _ => ss H.b14 H.o14 <| sl H.b15 fun _ => ss H.b15 H.o15 <| sl H.b16 fun _ => ss H.b16 H.o16 <| sl H.b17 fun _ => trivial

theorem part51 {v1521 v1531} (H : Mem B O A) : Safe B O (A.on (k0_part51 (F := F)) v1521 v1531) Any := ss H.b17 H.o17 <| sl H.b3 fun _ => sl H.b4 fun _ => sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => trivial

theorem part52 {v2 v1561} (H : Mem B O A) : Safe B O (A.on (k0_part52 (F := F)) v2 v1561) Any := ss H.b12 H.o12 <| sl H.b11 fun _ => sl H.b10 fun _ => sl H.b12 fun _ => sl H.b13 fun _ => sl H.b13 fun _ => trivial

theorem part53 {v2 v1567 v1577 v1586 v1594 v1596 v1597} (H : Mem B O A) : Safe B O (A.on (k0_part53 (F := F)) v2 v1567 v1577 v1586 v1594 v1596 v1597) Any := sl H.b14 fun _ => ss H.b14 H.o14 <| sl H.b15 fun _ => ss H.b15 H.o15 <| sl H.b16 fun _ => ss H.b16 H.o16 <| sl H.b17 fun _ => ss H.b17 H.o17 <| trivial

theorem part54 (H : Mem B O A) : Safe B O (A.on (k0_part54 (F := F))) Any := sl H.b3 fun _ => sl H.b4 fun _ => sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => trivial

theorem part55 {v2 v1666} (H : Mem B O A) : Safe B O (A.on (k0_part55 (F := F)) v2 v1666) Any := sl H.b10 fun _ => sl H.b12 fun _ => sl H.b13 fun _ => sl H.b13 fun _ => trivial

theorem part56 {v2 v1671 v1681 v1690 v1700 v1704 cst_1077 v1705} (H : Mem B O A) : Safe B O (A.on (k0_part56 (F := F)) v2 v1671 v1681 v1690 v1700 v1704 cst_1077 v1705) Any := sl H.b14 fun _ => ss H.b14 H.o14 <| sl H.b15 fun _ => ss H.b15 H.o15 <| sl H.b16 fun _ => ss H.b16 H.o16 <| sl H.b17 fun _ => ss H.b17 H.o17 <| sl H.b3 fun _ => trivial

theorem part57 {v1743} (H : Mem B O A) : Safe B O (A.on (k0_part57 (F := F)) v1743) Any := sl H.b4 fun _ => sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => trivial

theorem part58 {v2 v1771 v1772} (H : Mem B O A) : Safe B O (A.on (k0_part58 (F := F)) v2 v1771 v1772) Any := sl H.b12 fun _ => sl H.b13 fun _ => sl H.b13 fun _ => trivial

theorem part59 {v2 v1785 v1794 v1804 v1813} (H : Mem B O A) : Safe B O (A.on (k0_part59 (F := F)) v2 v1785 v1794 v1804 v1813) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => trivial

theorem part60 {v1847 v1849} (H : Mem B O A) : Safe B O (A.on (k0_part60 (F := F)) v1847 v1849) Any := sl H.b5 fun _ => sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => trivial

theorem part61 {v2 v1875 v1877 v1878} (H : Mem B O A) : Safe B O (A.on (k0_part61 (F := F)) v2 v1875 v1877 v1878) Any := sl H.b13 fun _ => sl H.b13 fun _ => trivial

theorem part62 {v2 v1889 v1898 v1908 v1917 v1920 v1922} (H : Mem B O A) : Safe B O (A.on (k0_part62 (F := F)) v2 v1889 v1898 v1908 v1917 v1920 v1922) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => sl H.b5 fun _ => trivial

theorem part63 {v2 v1951 v1953 v1955} (H : Mem B O A) : Safe B O (A.on (k0_part63 (F := F)) v2 v1951 v1953 v1955) Any := sl H.b7 fun _ => ss H.b7 H.o7 <| sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => trivial

theorem part64 {v2 v1979 v1981 v1983 v1985 v1986} (H : Mem B O A) : Safe B O (A.on (k0_part64 (F := F)) v2 v1979 v1981 v1983 v1985 v1986) Any := sl H.b13 fun _ => sl H.b13 fun _ => trivial

theorem part65 {v2 v1993 v2012 v2024 v2027 v2029 v2031} (H : Mem B O A) : Safe B O (A.on (k0_part65 (F := F)) v2 v1993 v2012 v2024 v2027 v2029 v2031) Any := sl H.b14 fun _ => ss H.b14 H.o14 <| sl H.b15 fun _ => ss H.b15 H.o15 <| sl H.b16 fun _ => ss H.b16 H.o16 <| sl H.b17 fun _ => ss H.b17 H.o17 <| sl H.b3 fun _ => sl H.b4 fun _ => sl H.b5 fun _ => sl H.b7 fun _ => ss H.b7 H.o7 <| trivial

theorem part66 {v2 v2055 v2057 v2059} (H : Mem B O A) : Safe B O (A.on (k0_part66 (F := F)) v2 v2055 v2057 v2059) Any := sl H.b8 fun _ => ss H.b8 H.o8 <| sl H.b9 fun _ => ss H.b9 H.o9 <| sl H.b10 fun _ => ss H.b10 H.o10 <| sl H.b11 fun _ => ss H.b11 H.o11 <| sl H.b12 fun _ => ss H.b12 H.o12 <| sl H.b11 fun _ => sl H.b10 fun _ => sl H.b12 fun _ => trivial

theorem part67 {v2 v2083 v2085 v2087 v2092} (H : Mem B O A) : Safe B O (A.on (k0_part67 (F := F)) v2 v2083 v2085 v2087 v2092) Any := sl H.b13 fun _ => sl H.b13 fun _ => trivial

theorem part68 {v2097 v2116 v2128 v2131 v2138 v2140} (H : Mem B O A) : Safe B O (A.on (k0_part68 (F := F)) v2097 v2116 v2128 v2131 v2138 v2140) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| sl H.b11 fun _ => ss H.b11 H.o11 <| trivial

theorem part69 {v2 v2170} (H : Mem B O A) : Safe B O (A.on (k0_part69 (F := F)) v2 v2170) Any := sl H.b12 fun _ => ss H.b12 H.o12 <| sl H.b11 fun _ => sl H.b10 fun _ => sl H.b12 fun _ => sl H.b13 fun _ => sl H.b13 fun _ => trivial

theorem part70 {v2 v2179 v2189 v2198 v2203 v2204} (H : Mem B O A) : Safe B O (A.on (k0_part70 (F := F)) v2 v2179 v2189 v2198 v2203 v2204) Any := sl H.b14 fun _ => ss H.b14 H.o14 <| sl H.b15 fun _ => ss H.b15 H.o15 <| sl H.b16 fun _ => ss H.b16 H.o16 <| trivial

theorem part71 {v2 v2237} (H : Mem B O A) : Safe B O (A.on (k0_part71 (F := F)) v2 v2237) Any := sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => sl H.b10 fun _ => sl H.b12 fun _ => trivial

theorem part72 {v2 v2267 v2269 v2271 v2276} (H : Mem B O A) : Safe B O (A.on (k0_part72 (F := F)) v2 v2267 v2269 v2271 v2276) Any := sl H.b13 fun _ => sl H.b13 fun _ => trivial

theorem part73 {v2 v2281 v2300 v2312 v2315 v2322} (H : Mem B O A) : Safe B O (A.on (k0_part73 (F := F)) v2 v2281 v2300 v2312 v2315 v2322) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| sl H.b11 fun _ => trivial

theorem part74 {v2 v2344 v2353} (H : Mem B O A) : Safe B O (A.on (k0_part74 (F := F)) v2 v2344 v2353) Any := ss H.b11 H.o11 <| sl H.b12 fun _ => ss H.b12 H.o12 <| sl H.b11 fun _ => sl H.b10 fun _ => sl H.b12 fun _ => sl H.b13 fun _ => trivial

theorem part75 {v2 v2363 v2373 v2382 v2387} (H : Mem B O A) : Safe B O (A.on (k0_part75 (F := F)) v2 v2363 v2373 v2382 v2387) Any := sl H.b13 fun _ => sl H.b14 fun _ => ss H.b14 H.o14 <| sl H.b15 fun _ => ss H.b15 H.o15 <| sl H.b16 fun _ => ss H.b16 H.o16 <| trivial

theorem part76 {v2 v2421} (H : Mem B O A) : Safe B O (A.on (k0_part76 (F := F)) v2 v2421) Any := sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => sl H.b10 fun _ => sl H.b12 fun _ => trivial

theorem part77 {v2 v2451 v2453 v2455 v2459} (H : Mem B O A) : Safe B O (A.on (k0_part77 (F := F)) v2 v2451 v2453 v2455 v2459) Any := sl H.b13 fun _ => sl H.b13 fun _ => trivial

theorem part78 {v2 v2465 v2484 v2496 v2499 v2501 v2503 v2504} (H : Mem B O A) : Safe B O (A.on (k0_part78 (F := F)) v2 v2465 v2484 v2496 v2499 v2501 v2503 v2504) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| sl H.b11 fun _ => trivial

theorem part79 {v2 v2528 v2534 v2535} (H : Mem B O A) : Safe B O (A.on (k0_part79 (F := F)) v2 v2528 v2534 v2535) Any := ss H.b11 H.o11 <| sl H.b12 fun _ => ss H.b12 H.o12 <| sl H.b11 fun _ => sl H.b10 fun _ => sl H.b12 fun _ => sl H.b13 fun _ => trivial

theorem part80 {v2 v2547 v2557 v2566 v2571} (H : Mem B O A) : Safe B O (A.on (k0_part80 (F := F)) v2 v2547 v2557 v2566 v2571) Any := sl H.b13 fun _ => sl H.b14 fun _ => ss H.b14 H.o14 <| sl H.b15 fun _ => ss H.b15 H.o15 <| sl H.b16 fun _ => trivial

theorem part81 {v2 v2605 v2614} (H : Mem B O A) : Safe B O (A.on (k0_part81 (F := F)) v2 v2605 v2614) Any := ss H.b16 H.o16 <| sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => sl H.b10 fun _ => sl H.b12 fun _ => trivial

theorem part82 {v2 v2635 v2637 v2639 cst_1616 v2641} (H : Mem B O A) : Safe B O (A.on (k0_part82 (F := F)) v2 v2635 v2637 v2639 cst_1616 v2641) Any := sl H.b13 fun _ => sl H.b13 fun _ => trivial

theorem part83 {v2 v2649 v2668 v2680 v2683 v2685 v2686} (H : Mem B O A) : Safe B O (A.on (k0_part83 (F := F)) v2 v2649 v2668 v2680 v2683 v2685 v2686) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| trivial

theorem part84 {v2 v2712 v2718} (H : Mem B O A) : Safe B O (A.on (k0_part84 (F := F)) v2 v2712 v2718) Any := sl H.b11 fun _ => ss H.b11 H.o11 <| sl H.b12 fun _ => ss H.b12 H.o12 <| sl H.b11 fun _ => sl H.b10 fun _ => sl H.b12 fun _ => sl H.b13 fun _ => trivial

theorem part85 {v2 v2727 v2731 v2741 v2750 v2754} (H : Mem B O A) : Safe B O (A.on (k0_part85 (F := F)) v2 v2727 v2731 v2741 v2750 v2754) Any := sl H.b13 fun _ => sl H.b14 fun _ => ss H.b14 H.o14 <| sl H.b15 fun _ => ss H.b15 H.o15 <| sl H.b16 fun _ => trivial

theorem part86 {v2782 v2789 v2796} (H : Mem B O A) : Safe B O (A.on (k0_part86 (F := F)) v2782 v2789 v2796) Any := ss H.b16 H.o16 <| sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => sl H.b10 fun _ => sl H.b12 fun _ => trivial

theorem part87 {v2 v2819 v2821 v2823 cst_1720} (H : Mem B O A) : Safe B O (A.on (k0_part87 (F := F)) v2 v2819 v2821 v2823 cst_1720) Any := sl H.b13 fun _ => sl H.b13 fun _ => trivial

theorem part88 {v2 v2833 v2852 v2864 v2867 v2868} (H : Mem B O A) : Safe B O (A.on (k0_part88 (F := F)) v2 v2833 v2852 v2864 v2867 v2868) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| trivial

theorem part89 {v2 v2896 v2902} (H : Mem B O A) : Safe B O (A.on (k0_part89 (F := F)) v2 v2896 v2902) Any := sl H.b11 fun _ => ss H.b11 H.o11 <| sl H.b12 fun _ => ss H.b12 H.o12 <| sl H.b11 fun _ => sl H.b10 fun _ => sl H.b12 fun _ => sl H.b13 fun _ => trivial

theorem part90 {v2 v2911 v2913 v2915 v2925 v2934 cst_1780 v2936} (H : Mem B O A) : Safe B O (A.on (k0_part90 (F := F)) v2 v2911 v2913 v2915 v2925 v2934 cst_1780 v2936) Any := sl H.b13 fun _ => sl H.b14 fun _ => ss H.b14 H.o14 <| sl H.b15 fun _ => ss H.b15 H.o15 <| trivial

theorem part91 {v2966 v2973} (H : Mem B O A) : Safe B O (A.on (k0_part91 (F := F)) v2966 v2973) Any := sl H.b16 fun _ => ss H.b16 H.o16 <| sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => sl H.b10 fun _ => sl H.b12 fun _ => trivial

theorem part92 {v2 v3003 v3005 v3006} (H : Mem B O A) : Safe B O (A.on (k0_part92 (F := F)) v2 v3003 v3005 v3006) Any := sl H.b13 fun _ => sl H.b13 fun _ => trivial

end Cert.Kernel4Ideal.Safety

end
-- ==== Proof.K4ISafe3.lean ====
/- Windows of the dilated attention's body (3 of 3): whatever its loads read, each runs to its end, writing only the result's buffer and the scratches. -/
module

public import proofs.«01_k».proof.Proof.K4IMem

@[expose] public section

set_option maxRecDepth 65536

noncomputable section

namespace Cert.Kernel4Ideal.Safety

open Idealize.ShloMosaic Idealize.SL.Sem Cert.Interp Cert.Kernel4Ideal Cert.Kernel4Ideal.Gen

variable {F : FTy → Type} [FloatOps F] [Named F]

variable {B O : Finset (Ref sig .tc)} {A : Bufs}

theorem part93 {v2 v3017 v3026 v3036 v3045 v3048 v3050} (H : Mem B O A) : Safe B O (A.on (k0_part93 (F := F)) v2 v3017 v3026 v3036 v3045 v3048 v3050) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| trivial

theorem part94 {v2 v3079 v3080} (H : Mem B O A) : Safe B O (A.on (k0_part94 (F := F)) v2 v3079 v3080) Any := sl H.b11 fun _ => ss H.b11 H.o11 <| sl H.b12 fun _ => ss H.b12 H.o12 <| sl H.b11 fun _ => sl H.b10 fun _ => sl H.b12 fun _ => sl H.b13 fun _ => trivial

theorem part95 {v2 v3095 v3097 v3099 v3109 v3118 cst_1884} (H : Mem B O A) : Safe B O (A.on (k0_part95 (F := F)) v2 v3095 v3097 v3099 v3109 v3118 cst_1884) Any := sl H.b13 fun _ => sl H.b14 fun _ => ss H.b14 H.o14 <| sl H.b15 fun _ => ss H.b15 H.o15 <| trivial

theorem part96 {v3150 v3157} (H : Mem B O A) : Safe B O (A.on (k0_part96 (F := F)) v3150 v3157) Any := sl H.b16 fun _ => ss H.b16 H.o16 <| sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => sl H.b10 fun _ => trivial

theorem part97 {v2 v3187 v3189} (H : Mem B O A) : Safe B O (A.on (k0_part97 (F := F)) v2 v3187 v3189) Any := sl H.b12 fun _ => sl H.b13 fun _ => sl H.b13 fun _ => trivial

theorem part98 {v2 v3201 v3210 v3220 v3229 v3232} (H : Mem B O A) : Safe B O (A.on (k0_part98 (F := F)) v2 v3201 v3210 v3220 v3229 v3232) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => trivial

theorem part99 {v2 v3263 v3264 v3265} (H : Mem B O A) : Safe B O (A.on (k0_part99 (F := F)) v2 v3263 v3264 v3265) Any := ss H.b10 H.o10 <| sl H.b11 fun _ => ss H.b11 H.o11 <| sl H.b12 fun _ => ss H.b12 H.o12 <| sl H.b11 fun _ => sl H.b10 fun _ => sl H.b12 fun _ => sl H.b13 fun _ => trivial

theorem part100 {v2 v3279 v3281 v3283 v3293 v3297 v3301 cst_1987} (H : Mem B O A) : Safe B O (A.on (k0_part100 (F := F)) v2 v3279 v3281 v3283 v3293 v3297 v3301 cst_1987) Any := sl H.b13 fun _ => sl H.b14 fun _ => ss H.b14 H.o14 <| sl H.b15 fun _ => trivial

theorem part101 {v3327 v3334 v3341} (H : Mem B O A) : Safe B O (A.on (k0_part101 (F := F)) v3327 v3334 v3341) Any := ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => sl H.b10 fun _ => trivial

theorem part102 {v2 v3371 v3373} (H : Mem B O A) : Safe B O (A.on (k0_part102 (F := F)) v2 v3371 v3373) Any := sl H.b12 fun _ => sl H.b13 fun _ => sl H.b13 fun _ => trivial

theorem part103 {v2 v3385 v3394 v3404 v3413 v3414} (H : Mem B O A) : Safe B O (A.on (k0_part103 (F := F)) v2 v3385 v3394 v3404 v3413 v3414) Any := sl H.b14 fun _ => ss H.b14 H.o14 <| sl H.b15 fun _ => ss H.b15 H.o15 <| sl H.b16 fun _ => ss H.b16 H.o16 <| sl H.b17 fun _ => ss H.b17 H.o17 <| sl H.b7 fun _ => sl H.b8 fun _ => sl H.b9 fun _ => trivial

theorem part104 {v2 v3447 v3448 v3449} (H : Mem B O A) : Safe B O (A.on (k0_part104 (F := F)) v2 v3447 v3448 v3449) Any := sl H.b10 fun _ => ss H.b10 H.o10 <| sl H.b11 fun _ => ss H.b11 H.o11 <| sl H.b12 fun _ => ss H.b12 H.o12 <| sl H.b11 fun _ => sl H.b10 fun _ => sl H.b12 fun _ => sl H.b13 fun _ => trivial

theorem part105 {v2 v3463 v3465 v3467 v3477 v3481 v3483 v3484} (H : Mem B O A) : Safe B O (A.on (k0_part105 (F := F)) v2 v3463 v3465 v3467 v3477 v3481 v3483 v3484) Any := sl H.b13 fun _ => sl H.b14 fun _ => ss H.b14 H.o14 <| trivial

theorem part106 {v3511 v3518 v3525} (H : Mem B O A) : Safe B O (A.on (k0_part106 (F := F)) v3511 v3518 v3525) Any := sl H.b15 fun _ => ss H.b15 H.o15 <| sl H.b16 fun _ => ss H.b16 H.o16 <| sl H.b17 fun _ => ss H.b17 H.o17 <| sl H.b7 fun _ => sl H.b8 fun _ => sl H.b9 fun _ => sl H.b10 fun _ => ss H.b10 H.o10 <| sl H.b11 fun _ => ss H.b11 H.o11 <| sl H.b12 fun _ => ss H.b12 H.o12 <| sl H.b11 fun _ => trivial

theorem part107 {v2 v3555} (H : Mem B O A) : Safe B O (A.on (k0_part107 (F := F)) v2 v3555) Any := sl H.b10 fun _ => sl H.b12 fun _ => sl H.b13 fun _ => sl H.b13 fun _ => trivial

theorem part108 {v2 v3569 v3578 v3588 v3592 v3596 cst_2151} (H : Mem B O A) : Safe B O (A.on (k0_part108 (F := F)) v2 v3569 v3578 v3588 v3592 v3596 cst_2151) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => trivial

theorem part109 {v2 v3631 v3633} (H : Mem B O A) : Safe B O (A.on (k0_part109 (F := F)) v2 v3631 v3633) Any := sl H.b12 fun _ => sl H.b13 fun _ => sl H.b13 fun _ => trivial

theorem part110 {v2 v3645 v3654 v3664 v3673 v3675} (H : Mem B O A) : Safe B O (A.on (k0_part110 (F := F)) v2 v3645 v3654 v3664 v3673 v3675) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => trivial

theorem part111 {v2 v3707 v3709 v3710} (H : Mem B O A) : Safe B O (A.on (k0_part111 (F := F)) v2 v3707 v3709 v3710) Any := sl H.b13 fun _ => sl H.b13 fun _ => trivial

theorem part112 {v2 v3721 v3730 v3740 v3749 v3752 v3754} (H : Mem B O A) : Safe B O (A.on (k0_part112 (F := F)) v2 v3721 v3730 v3740 v3749 v3752 v3754) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => trivial

theorem part113 {v2 v3783 v3785 v3787 cst_2247 v3788} (H : Mem B O A) : Safe B O (A.on (k0_part113 (F := F)) v2 v3783 v3785 v3787 cst_2247 v3788) Any := sl H.b13 fun _ => sl H.b13 fun _ => trivial

theorem part114 {v2 v3797 v3816 v3828 v3831 v3833} (H : Mem B O A) : Safe B O (A.on (k0_part114 (F := F)) v2 v3797 v3816 v3828 v3831 v3833) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => trivial

theorem part115 {v2 v3859 v3861 v3863 v3867} (H : Mem B O A) : Safe B O (A.on (k0_part115 (F := F)) v2 v3859 v3861 v3863 v3867) Any := sl H.b13 fun _ => sl H.b13 fun _ => trivial

theorem part116 {v2 v3873 v3892 v3904 v3907 v3909 v3911 v3912} (H : Mem B O A) : Safe B O (A.on (k0_part116 (F := F)) v2 v3873 v3892 v3904 v3907 v3909 v3911 v3912) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => trivial

theorem part117 {v2 v3935 v3937 v3939 v3944} (H : Mem B O A) : Safe B O (A.on (k0_part117 (F := F)) v2 v3935 v3937 v3939 v3944) Any := sl H.b13 fun _ => sl H.b13 fun _ => trivial

theorem part118 {v2 v3949 v3968 v3980 v3983 v3990 v3991} (H : Mem B O A) : Safe B O (A.on (k0_part118 (F := F)) v2 v3949 v3968 v3980 v3983 v3990 v3991) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => sl H.b13 fun _ => trivial

theorem part119 {v2 v4011 v4013 v4015 v4020 v4021} (H : Mem B O A) : Safe B O (A.on (k0_part119 (F := F)) v2 v4011 v4013 v4015 v4020 v4021) Any := sl H.b13 fun _ => trivial

theorem part120 {v2 v4025 v4056 v4059 v4066 v4068 v4070} (H : Mem B O A) : Safe B O (A.on (k0_part120 (F := F)) v2 v4025 v4056 v4059 v4066 v4068 v4070) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => sl H.b13 fun _ => trivial

theorem part121 {v2 v4087 v4089 v4091 v4099} (H : Mem B O A) : Safe B O (A.on (k0_part121 (F := F)) v2 v4087 v4089 v4091 v4099) Any := sl H.b13 fun _ => trivial

theorem part122 {v2 v4132 v4135 v4142 v4149} (H : Mem B O A) : Safe B O (A.on (k0_part122 (F := F)) v2 v4132 v4135 v4142 v4149) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => sl H.b13 fun _ => trivial

theorem part123 {v2 v4163 v4165 v4167 v4175 v4177 v4178} (H : Mem B O A) : Safe B O (A.on (k0_part123 (F := F)) v2 v4163 v4165 v4167 v4175 v4177 v4178) Any := sl H.b13 fun _ => trivial

theorem part124 {v2 v4208 v4211 v4218 v4225} (H : Mem B O A) : Safe B O (A.on (k0_part124 (F := F)) v2 v4208 v4211 v4218 v4225) Any := sl H.b18 fun _ => ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => sl H.b13 fun _ => trivial

theorem part125 {v2 v4239 v4241 v4243 v4253 v4257} (H : Mem B O A) : Safe B O (A.on (k0_part125 (F := F)) v2 v4239 v4241 v4243 v4253 v4257) Any := sl H.b13 fun _ => sl H.b18 fun _ => trivial

theorem part126 {v2 v4287 v4294 v4301 v4304} (H : Mem B O A) : Safe B O (A.on (k0_part126 (F := F)) v2 v4287 v4294 v4301 v4304) Any := ss H.b18 H.o18 <| sl H.b18 fun _ => ss H.b18 H.o18 <| sl H.b18 fun _ => ss H.b18 H.o18 <| sl H.b18 fun _ => ss H.b18 H.o18 <| sl H.b11 fun _ => sl H.b10 fun _ => sl H.b12 fun _ => sl H.b13 fun _ => trivial

theorem part127 {v2 v4315 v4317 v4319 v4329 v4333 cst_2512 v4335} (H : Mem B O A) : Safe B O (A.on (k0_part127 (F := F)) v2 v4315 v4317 v4319 v4329 v4333 cst_2512 v4335) Any := sl H.b13 fun _ => sl H.b18 fun _ => ss H.b18 H.o18 <| trivial

theorem part128 {v2 v4363 v4370 v4377} (H : Mem B O A) : Safe B O (A.on (k0_part128 (F := F)) v2 v4363 v4370 v4377) Any := sl H.b18 fun _ => ss H.b18 H.o18 <| sl H.b18 fun _ => ss H.b18 H.o18 <| sl H.b18 fun _ => ss H.b18 H.o18 <| sl H.b11 fun _ => sl H.b10 fun _ => sl H.b12 fun _ => sl H.b13 fun _ => trivial

theorem part129 {v2 v4391 v4393 v4395 v4405 v4409 v4413 cst_2550} (H : Mem B O A) : Safe B O (A.on (k0_part129 (F := F)) v2 v4391 v4393 v4395 v4405 v4409 v4413 cst_2550) Any := sl H.b13 fun _ => sl H.b18 fun _ => ss H.b18 H.o18 <| sl H.b18 fun _ => trivial

theorem part130 {v2 v4439 v4446 v4453} (H : Mem B O A) : Safe B O (A.on (k0_part130 (F := F)) v2 v4439 v4446 v4453) Any := ss H.b18 H.o18 <| sl H.b18 fun _ => ss H.b18 H.o18 <| sl H.b18 fun _ => ss H.b18 H.o18 <| sl H.b11 fun _ => sl H.b10 fun _ => sl H.b12 fun _ => sl H.b13 fun _ => trivial

theorem part131 {v2 v4467 v4469 v4471 v4481 v4490 cst_2588 v4491} (H : Mem B O A) : Safe B O (A.on (k0_part131 (F := F)) v2 v4467 v4469 v4471 v4481 v4490 cst_2588 v4491) Any := sl H.b13 fun _ => sl H.b18 fun _ => ss H.b18 H.o18 <| sl H.b18 fun _ => ss H.b18 H.o18 <| trivial

theorem part132 {v2 v4522 v4529} (H : Mem B O A) : Safe B O (A.on (k0_part132 (F := F)) v2 v4522 v4529) Any := sl H.b18 fun _ => ss H.b18 H.o18 <| sl H.b18 fun _ => ss H.b18 H.o18 <| sl H.b11 fun _ => sl H.b10 fun _ => sl H.b12 fun _ => sl H.b13 fun _ => trivial

theorem part133 {v2 v4543 v4547 v4557 v4566 v4570} (H : Mem B O A) : Safe B O (A.on (k0_part133 (F := F)) v2 v4543 v4547 v4557 v4566 v4570) Any := sl H.b13 fun _ => sl H.b18 fun _ => ss H.b18 H.o18 <| sl H.b18 fun _ => ss H.b18 H.o18 <| sl H.b18 fun _ => trivial

theorem part134 {v2 v4598 v4605 v4612} (H : Mem B O A) : Safe B O (A.on (k0_part134 (F := F)) v2 v4598 v4605 v4612) Any := ss H.b18 H.o18 <| sl H.b18 fun _ => ss H.b18 H.o18 <| sl H.b11 fun _ => sl H.b10 fun _ => sl H.b12 fun _ => sl H.b13 fun _ => trivial

theorem part135 {v2 v4623 v4633 v4642 v4647} (H : Mem B O A) : Safe B O (A.on (k0_part135 (F := F)) v2 v4623 v4633 v4642 v4647) Any := sl H.b13 fun _ => sl H.b18 fun _ => ss H.b18 H.o18 <| sl H.b18 fun _ => ss H.b18 H.o18 <| sl H.b18 fun _ => ss H.b18 H.o18 <| trivial

theorem part136 {v2 v4681} (H : Mem B O A) : Safe B O (A.on (k0_part136 (F := F)) v2 v4681) Any := sl H.b18 fun _ => ss H.b18 H.o18 <| sl H.b11 fun _ => sl H.b10 fun _ => sl H.b12 fun _ => sl H.b13 fun _ => sl H.b13 fun _ => trivial

theorem part137 {v2 v4699 v4709 v4718 v4723 v4724} (H : Mem B O A) : Safe B O (A.on (k0_part137 (F := F)) v2 v4699 v4709 v4718 v4723 v4724) Any := sl H.b18 fun _ => ss H.b18 H.o18 <| sl H.b18 fun _ => ss H.b18 H.o18 <| sl H.b18 fun _ => ss H.b18 H.o18 <| trivial

end Cert.Kernel4Ideal.Safety

end
-- ==== Proof.K4ISafe.lean ====
/- The dilated attention's body, put together from its windows: it runs to its end whatever its loads read. -/
module

public import proofs.«01_k».proof.Proof.K4ISafe1
public import proofs.«01_k».proof.Proof.K4ISafe2
public import proofs.«01_k».proof.Proof.K4ISafe3

@[expose] public section

set_option maxRecDepth 65536

noncomputable section

namespace Cert.Kernel4Ideal.Safety

open Idealize.ShloMosaic Idealize.SL.Sem Cert.Interp Cert.Kernel4Ideal Cert.Kernel4Ideal.Gen

variable {F : FTy → Type} [FloatOps F] [Named F]

variable {B O : Finset (Ref sig .tc)} {A : Bufs}

theorem part138 (H : Mem B O A) : Safe B O (A.on (k0_part138 (F := F))) Any := sq (part6 H) fun _ => sq (part7 H) fun _ => sq (part8 H) fun _ => sq (part9 H) fun _ => sq (part10 H) fun _ => sq (part11 H) fun _ => sq (part12 H) fun _ => sq (part13 H) fun _ => sq (part14 H) fun _ => sq (part15 H) fun _ => sq (part16 H) fun _ => sq (part17 H) fun _ => sq (part18 H) fun _ => sq (part19 H) fun _ => sq (part20 H) fun _ => sq (part21 H) fun _ => sq (part22 H) fun _ => sq (part23 H) fun _ => sq (part24 H) fun _ => sq (part25 H) fun _ => sq (part26 H) fun _ => sq (part27 H) fun _ => sq (part28 H) fun _ => sq (part29 H) fun _ => sq (part30 H) fun _ => sq (part31 H) fun _ => sq (part32 H) fun _ => sq (part33 H) fun _ => sq (part34 H) fun _ => sq (part35 H) fun _ => sq (part36 H) fun _ => sq (part37 H) fun _ => sq (part38 H) fun _ => sq (part39 H) fun _ => sq (part40 H) fun _ => sq (part41 H) fun _ => sq (part42 H) fun _ => sq (part43 H) fun _ => sq (part44 H) fun _ => sq (part45 H) fun _ => sq (part46 H) fun _ => sq (part47 H) fun _ => sq (part48 H) fun _ => sq (part49 H) fun _ => sq (part50 H) fun _ => sq (part51 H) fun _ => sq (part52 H) fun _ => sq (part53 H) fun _ => sq (part54 H) fun _ => sq (part55 H) fun _ => sq (part56 H) fun _ => sq (part57 H) fun _ => sq (part58 H) fun _ => sq (part59 H) fun _ => sq (part60 H) fun _ => sq (part61 H) fun _ => sq (part62 H) fun _ => sq (part63 H) fun _ => sq (part64 H) fun _ => sq (part65 H) fun _ => trivial

theorem part139 {v2 v2055 v2057 v2059} (H : Mem B O A) : Safe B O (A.on (k0_part139 (F := F)) v2 v2055 v2057 v2059) Any := sq (part66 H) fun _ => sq (part67 H) fun _ => sq (part68 H) fun _ => sq (part69 H) fun _ => sq (part70 H) fun _ => sq (part71 H) fun _ => sq (part72 H) fun _ => sq (part73 H) fun _ => sq (part74 H) fun _ => sq (part75 H) fun _ => sq (part76 H) fun _ => sq (part77 H) fun _ => sq (part78 H) fun _ => sq (part79 H) fun _ => sq (part80 H) fun _ => sq (part81 H) fun _ => sq (part82 H) fun _ => sq (part83 H) fun _ => sq (part84 H) fun _ => sq (part85 H) fun _ => sq (part86 H) fun _ => sq (part87 H) fun _ => sq (part88 H) fun _ => sq (part89 H) fun _ => sq (part90 H) fun _ => sq (part91 H) fun _ => sq (part92 H) fun _ => sq (part93 H) fun _ => sq (part94 H) fun _ => sq (part95 H) fun _ => sq (part96 H) fun _ => sq (part97 H) fun _ => sq (part98 H) fun _ => sq (part99 H) fun _ => sq (part100 H) fun _ => sq (part101 H) fun _ => sq (part102 H) fun _ => sq (part103 H) fun _ => sq (part104 H) fun _ => sq (part105 H) fun _ => sq (part106 H) fun _ => sq (part107 H) fun _ => sq (part108 H) fun _ => sq (part109 H) fun _ => sq (part110 H) fun _ => sq (part111 H) fun _ => sq (part112 H) fun _ => sq (part113 H) fun _ => sq (part114 H) fun _ => sq (part115 H) fun _ => sq (part116 H) fun _ => sq (part117 H) fun _ => sq (part118 H) fun _ => sq (part119 H) fun _ => sq (part120 H) fun _ => sq (part121 H) fun _ => sq (part122 H) fun _ => sq (part123 H) fun _ => sq (part124 H) fun _ => sq (part125 H) fun _ => trivial

/-- The dilated attention's body runs to its end whatever its loads read. -/
theorem body (H : Mem B O A) : Safe B O (A.on (cc0_dilated_attention (F := F))) Any :=
  sq (part138 H) fun _ => sq (part139 H) fun _ => sq (part126 H) fun _ => sq (part127 H) fun _ => sq (part128 H) fun _ => sq (part129 H) fun _ => sq (part130 H) fun _ => sq (part131 H) fun _ => sq (part132 H) fun _ => sq (part133 H) fun _ => sq (part134 H) fun _ => sq (part135 H) fun _ => sq (part136 H) fun _ => sq (part137 H) fun _ => sl H.b18 fun _ => ss H.b18 H.o18 <| sq (Safe_ret (Q := Any) trivial) fun _ => sq (Safe_for k0_t1_loop k0_t1_ok _ _ (fun _ _ => True) trivial fun _ _ _ => sq (part1 H) fun _ => sq (part2 H) fun _ => sq (part3 H) fun _ => sq (part4 H) fun _ => sq (part5 H) fun _ => sl H.b15 fun _ => sl H.b15 fun _ => sl H.b6 fun _ => ss H.b6 H.o6 <| trivial) fun _ => trivial

end Cert.Kernel4Ideal.Safety

end
-- ==== Proof.K4IFrame.lean ====
/- The dilated attention's run: at each of its sixty-four points the body runs to its end, leaves its input blocks in place and gives its result's block and its
   scratches back at some contents; so the whole program ends with its argument arrays unchanged and every counter at zero. -/
module

public import proofs.«01_k».proof.Proof.K4ISafe
public import proofs.«01_k».proof.Proof.Gen.Kernel4Ideal.Frame

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)
open Cert.Kernel4Ideal Cert.Kernel4Ideal.Gen Cert.Interp

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole memref's elements are owned when its buffer is, at contents it reads so. -/
theorem owns_as (c : Dev nD) {sp : Space} {sh : Shape} {e : EltTy} {mr : Memref sig (.tc : Proc τ).kind sp sh e} (h : mr.IsWhole) (X : sh.Idx → Elt F e) :
    (owns (c.tc : Thread nD τ) mr fullShare X : sProp 𝕄)
      = iprop(∃ f : Buf (Elt F) ((c.tc : Thread nD τ).loc mr.view.ref), ⌜mr.view.read (Elt F) f = X⌝ ∗ (((c.tc : Thread nD τ).loc mr.view.ref) ↦{fullShare} f)) := by
  unfold owns
  rw [h.set_eq_univ]

include m in
/-- The body from its seventeen buffers, all distinct: the first four come back as they were. -/
theorem sound_refs (c : Dev nD) (i : grid0.Coords) (arg2 : Memref sig .tc .smem S8 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S3x2048x128 .bf16) (harg10 : arg10.IsWhole) (arg11 : Memref sig .tc .vmem S3x128x2176 .bf16) (harg11 : arg11.IsWhole) (arg12 : Memref sig .tc .vmem S3x2176x128 .bf16) (harg12 : arg12.IsWhole) (arg13 : Memref sig .tc .vmem S8x128x256 .f32) (harg13 : arg13.IsWhole) (arg14 : Memref sig .tc .vmem S3x2048x128 .f32) (harg14 : arg14.IsWhole) (arg15 : Memref sig .tc .vmem S3x2048x128 .f32) (harg15 : arg15.IsWhole) (arg16 : Memref sig .tc .vmem S3x2048x128 .f32) (harg16 : arg16.IsWhole) (arg17 : Memref sig .tc .vmem S3x2048x128 .f32) (harg17 : arg17.IsWhole) (arg18 : Memref sig .tc .vmem S4x2048x128 .f32) (harg18 : arg18.IsWhole)
    (hnd : ([arg2.view.ref, arg3.view.ref, arg4.view.ref, arg5.view.ref] ++ [arg6.view.ref, arg7.view.ref, arg8.view.ref, arg9.view.ref, arg10.view.ref, arg11.view.ref, arg12.view.ref, arg13.view.ref, arg14.view.ref, arg15.view.ref, arg16.view.ref, arg17.view.ref, arg18.view.ref]).Nodup)
    (f2 : Buf (Elt F) ((c.tc : Thread nD τ).loc arg2.view.ref)) (f3 : Buf (Elt F) ((c.tc : Thread nD τ).loc arg3.view.ref)) (f4 : Buf (Elt F) ((c.tc : Thread nD τ).loc arg4.view.ref)) (f5 : Buf (Elt F) ((c.tc : Thread nD τ).loc arg5.view.ref)) (f6 : Buf (Elt F) ((c.tc : Thread nD τ).loc arg6.view.ref)) (f7 : Buf (Elt F) ((c.tc : Thread nD τ).loc arg7.view.ref)) (f8 : Buf (Elt F) ((c.tc : Thread nD τ).loc arg8.view.ref)) (f9 : Buf (Elt F) ((c.tc : Thread nD τ).loc arg9.view.ref)) (f10 : Buf (Elt F) ((c.tc : Thread nD τ).loc arg10.view.ref)) (f11 : Buf (Elt F) ((c.tc : Thread nD τ).loc arg11.view.ref)) (f12 : Buf (Elt F) ((c.tc : Thread nD τ).loc arg12.view.ref)) (f13 : Buf (Elt F) ((c.tc : Thread nD τ).loc arg13.view.ref)) (f14 : Buf (Elt F) ((c.tc : Thread nD τ).loc arg14.view.ref)) (f15 : Buf (Elt F) ((c.tc : Thread nD τ).loc arg15.view.ref)) (f16 : Buf (Elt F) ((c.tc : Thread nD τ).loc arg16.view.ref)) (f17 : Buf (Elt F) ((c.tc : Thread nD τ).loc arg17.view.ref)) (f18 : Buf (Elt F) ((c.tc : Thread nD τ).loc arg18.view.ref)) :
    (iprop((((c.tc : Thread nD τ).loc arg2.view.ref) ↦{fullShare} f2) ∗ (((c.tc : Thread nD τ).loc arg3.view.ref) ↦{fullShare} f3) ∗ (((c.tc : Thread nD τ).loc arg4.view.ref) ↦{fullShare} f4) ∗ (((c.tc : Thread nD τ).loc arg5.view.ref) ↦{fullShare} f5) ∗ (((c.tc : Thread nD τ).loc arg6.view.ref) ↦{fullShare} f6) ∗ (((c.tc : Thread nD τ).loc arg7.view.ref) ↦{fullShare} f7) ∗ (((c.tc : Thread nD τ).loc arg8.view.ref) ↦{fullShare} f8) ∗ (((c.tc : Thread nD τ).loc arg9.view.ref) ↦{fullShare} f9) ∗ (((c.tc : Thread nD τ).loc arg10.view.ref) ↦{fullShare} f10) ∗ (((c.tc : Thread nD τ).loc arg11.view.ref) ↦{fullShare} f11) ∗ (((c.tc : Thread nD τ).loc arg12.view.ref) ↦{fullShare} f12) ∗ (((c.tc : Thread nD τ).loc arg13.view.ref) ↦{fullShare} f13) ∗ (((c.tc : Thread nD τ).loc arg14.view.ref) ↦{fullShare} f14) ∗ (((c.tc : Thread nD τ).loc arg15.view.ref) ↦{fullShare} f15) ∗ (((c.tc : Thread nD τ).loc arg16.view.ref) ↦{fullShare} f16) ∗ (((c.tc : Thread nD τ).loc arg17.view.ref) ↦{fullShare} f17) ∗ (((c.tc : Thread nD τ).loc arg18.view.ref) ↦{fullShare} f18)) : sProp 𝕄)
      ⊢ wp frame (wpE (defs₀ (F := F)) Variants.none (c : Thread nD τ) none) Set.univ (cc0_dilated_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) fun _ =>
        iprop((((c.tc : Thread nD τ).loc arg2.view.ref) ↦{fullShare} f2) ∗ (((c.tc : Thread nD τ).loc arg3.view.ref) ↦{fullShare} f3) ∗ (((c.tc : Thread nD τ).loc arg4.view.ref) ↦{fullShare} f4) ∗ (((c.tc : Thread nD τ).loc arg5.view.ref) ↦{fullShare} f5) ∗ (∃ f, (((c.tc : Thread nD τ).loc arg6.view.ref) ↦{fullShare} f)) ∗ (∃ f, (((c.tc : Thread nD τ).loc arg7.view.ref) ↦{fullShare} f)) ∗ (∃ f, (((c.tc : Thread nD τ).loc arg8.view.ref) ↦{fullShare} f)) ∗ (∃ f, (((c.tc : Thread nD τ).loc arg9.view.ref) ↦{fullShare} f)) ∗ (∃ f, (((c.tc : Thread nD τ).loc arg10.view.ref) ↦{fullShare} f)) ∗ (∃ f, (((c.tc : Thread nD τ).loc arg11.view.ref) ↦{fullShare} f)) ∗ (∃ f, (((c.tc : Thread nD τ).loc arg12.view.ref) ↦{fullShare} f)) ∗ (∃ f, (((c.tc : Thread nD τ).loc arg13.view.ref) ↦{fullShare} f)) ∗ (∃ f, (((c.tc : Thread nD τ).loc arg14.view.ref) ↦{fullShare} f)) ∗ (∃ f, (((c.tc : Thread nD τ).loc arg15.view.ref) ↦{fullShare} f)) ∗ (∃ f, (((c.tc : Thread nD τ).loc arg16.view.ref) ↦{fullShare} f)) ∗ (∃ f, (((c.tc : Thread nD τ).loc arg17.view.ref) ↦{fullShare} f)) ∗ (∃ f, (((c.tc : Thread nD τ).loc arg18.view.ref) ↦{fullShare} f))) := by
  have hO : ∀ b ∈ [arg2.view.ref, arg3.view.ref, arg4.view.ref, arg5.view.ref], b ∉ ([arg6.view.ref, arg7.view.ref, arg8.view.ref, arg9.view.ref, arg10.view.ref, arg11.view.ref, arg12.view.ref, arg13.view.ref, arg14.view.ref, arg15.view.ref, arg16.view.ref, arg17.view.ref, arg18.view.ref]).toFinset := fun b hb hb' =>
    List.disjoint_of_nodup_append hnd hb (List.mem_toFinset.1 hb')
  have H : Safety.Mem (([arg2.view.ref, arg3.view.ref, arg4.view.ref, arg5.view.ref] ++ [arg6.view.ref, arg7.view.ref, arg8.view.ref, arg9.view.ref, arg10.view.ref, arg11.view.ref, arg12.view.ref, arg13.view.ref, arg14.view.ref, arg15.view.ref, arg16.view.ref, arg17.view.ref, arg18.view.ref]).toFinset) (([arg6.view.ref, arg7.view.ref, arg8.view.ref, arg9.view.ref, arg10.view.ref, arg11.view.ref, arg12.view.ref, arg13.view.ref, arg14.view.ref, arg15.view.ref, arg16.view.ref, arg17.view.ref, arg18.view.ref]).toFinset) ⟨i, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, harg18⟩ := by
    constructor
    · exact List.mem_toFinset.2 (List.mem_cons_self ..)
    · exact List.mem_toFinset.2 (List.mem_cons_of_mem _ (List.mem_cons_self ..))
    · exact List.mem_toFinset.2 (List.mem_cons_of_mem _ (List.mem_cons_of_mem _ (List.mem_cons_self ..)))
    · exact List.mem_toFinset.2 (List.mem_cons_of_mem _ (List.mem_cons_of_mem _ (List.mem_cons_of_mem _ (List.mem_cons_self ..))))
    · exact List.mem_toFinset.2 (List.mem_cons_of_mem _ (List.mem_cons_of_mem _ (List.mem_cons_of_mem _ (List.mem_cons_of_mem _ (List.mem_cons_self ..)))))
    · exact List.mem_toFinset.2 (List.mem_cons_of_mem _ (List.mem_cons_of_mem _ (List.mem_cons_of_mem _ (List.mem_cons_of_mem _ (List.mem_cons_of_mem _ (List.mem_cons_self ..))))))
    · exact List.mem_toFinset.2 (List.mem_cons_of_mem _ (List.mem_cons_of_mem _ (List.mem_cons_of_mem _ (List.mem_cons_of_mem _ (List.mem_cons_of_mem _ (List.mem_cons_of_mem _ (List.mem_cons_self ..)))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_self ..))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))
    · exact List.mem_toFinset.2 (List.mem_cons_self ..)
    · exact List.mem_toFinset.2 (List.mem_cons_of_mem _ (List.mem_cons_self ..))
    · exact List.mem_toFinset.2 (List.mem_cons_of_mem _ (List.mem_cons_of_mem _ (List.mem_cons_self ..)))
    · exact List.mem_toFinset.2 (List.mem_cons_of_mem _ (List.mem_cons_of_mem _ (List.mem_cons_of_mem _ (List.mem_cons_self ..))))
    · exact List.mem_toFinset.2 (List.mem_cons_of_mem _ (List.mem_cons_of_mem _ (List.mem_cons_of_mem _ (List.mem_cons_of_mem _ (List.mem_cons_self ..)))))
    · exact List.mem_toFinset.2 (List.mem_cons_of_mem _ (List.mem_cons_of_mem _ (List.mem_cons_of_mem _ (List.mem_cons_of_mem _ (List.mem_cons_of_mem _ (List.mem_cons_self ..))))))
    · exact List.mem_toFinset.2 (List.mem_cons_of_mem _ (List.mem_cons_of_mem _ (List.mem_cons_of_mem _ (List.mem_cons_of_mem _ (List.mem_cons_of_mem _ (List.mem_cons_of_mem _ (List.mem_cons_self ..)))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_self ..))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))
    · exact List.mem_toFinset.2 (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))
  have hb : Safe (([arg2.view.ref, arg3.view.ref, arg4.view.ref, arg5.view.ref] ++ [arg6.view.ref, arg7.view.ref, arg8.view.ref, arg9.view.ref, arg10.view.ref, arg11.view.ref, arg12.view.ref, arg13.view.ref, arg14.view.ref, arg15.view.ref, arg16.view.ref, arg17.view.ref, arg18.view.ref]).toFinset) (([arg6.view.ref, arg7.view.ref, arg8.view.ref, arg9.view.ref, arg10.view.ref, arg11.view.ref, arg12.view.ref, arg13.view.ref, arg14.view.ref, arg15.view.ref, arg16.view.ref, arg17.view.ref, arg18.view.ref]).toFinset) (cc0_dilated_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => True) := Safety.body (F := F) H
  have h := W.sound_list (Ix := Unit) (Name := ℕ) (U := UR sig nD τ) (Lvl := ℕ) (defs := defs₀ (F := F)) Variants.none c none Set.univ (l := [⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩, ⟨arg16.view.ref, f16⟩, ⟨arg17.view.ref, f17⟩, ⟨arg18.view.ref, f18⟩]) hnd (fun b => m ((c.tc : Thread nD τ).loc b))
    (hb.toW _)
  refine BIBase.Entails.trans ?_ (BIBase.Entails.trans h (wp_mono _ _ _ fun a => ?_))
  · simp only [Interp.own]
    iintro ⟨H2, H3, H4, H5, H6, H7, H8, H9, H10, H11, H12, H13, H14, H15, H16, H17, H18⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iempintro
  · iintro ⟨%s', %hs, H⟩
    have e2 : s' arg2.view.ref = f2 := (hs.2 _ (hO _ (List.mem_cons_self ..))).trans (stateOf_mem c _ (l := [⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩, ⟨arg16.view.ref, f16⟩, ⟨arg17.view.ref, f17⟩, ⟨arg18.view.ref, f18⟩]) hnd (x := ⟨arg2.view.ref, f2⟩) (List.mem_cons_self ..))
    have e3 : s' arg3.view.ref = f3 := (hs.2 _ (hO _ (List.mem_cons_of_mem _ (List.mem_cons_self ..)))).trans (stateOf_mem c _ (l := [⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩, ⟨arg16.view.ref, f16⟩, ⟨arg17.view.ref, f17⟩, ⟨arg18.view.ref, f18⟩]) hnd (x := ⟨arg3.view.ref, f3⟩) (List.mem_cons_of_mem _ (List.mem_cons_self ..)))
    have e4 : s' arg4.view.ref = f4 := (hs.2 _ (hO _ (List.mem_cons_of_mem _ (List.mem_cons_of_mem _ (List.mem_cons_self ..))))).trans (stateOf_mem c _ (l := [⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩, ⟨arg16.view.ref, f16⟩, ⟨arg17.view.ref, f17⟩, ⟨arg18.view.ref, f18⟩]) hnd (x := ⟨arg4.view.ref, f4⟩) (List.mem_cons_of_mem _ (List.mem_cons_of_mem _ (List.mem_cons_self ..))))
    have e5 : s' arg5.view.ref = f5 := (hs.2 _ (hO _ (List.mem_cons_of_mem _ (List.mem_cons_of_mem _ (List.mem_cons_of_mem _ (List.mem_cons_self ..)))))).trans (stateOf_mem c _ (l := [⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩, ⟨arg16.view.ref, f16⟩, ⟨arg17.view.ref, f17⟩, ⟨arg18.view.ref, f18⟩]) hnd (x := ⟨arg5.view.ref, f5⟩) (List.mem_cons_of_mem _ (List.mem_cons_of_mem _ (List.mem_cons_of_mem _ (List.mem_cons_self ..)))))
    simp only [Interp.own, List.map_cons, List.map_nil, e2, e3, e4, e5]
    icases H with ⟨H2, H3, H4, H5, H6, H7, H8, H9, H10, H11, H12, H13, H14, H15, H16, H17, H18, He⟩
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

include m in
/-- The body from its five staging buffers and its twelve scratches: the four inputs' come back reading as they did. -/
theorem sound_kernel (c : Dev nD) (i : grid0.Coords) (arg2 : Memref sig .tc .smem S8 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .bf16) (harg6 : arg6.IsWhole)
    (hnd : ([arg2.view.ref, arg3.view.ref, arg4.view.ref, arg5.view.ref] ++ [arg6.view.ref, cc0_scratch0, cc0_scratch1, cc0_scratch2, cc0_scratch3, cc0_scratch4, cc0_scratch5, cc0_scratch6, cc0_scratch7, cc0_scratch8, cc0_scratch9, cc0_scratch10, cc0_scratch11]).Nodup)
    (x2 : Vec F S8 .f32) (x3 : Vec F S1x2048x128 .f32) (x4 : Vec F S1x2048x128 .f32) (x5 : Vec F S1x2048x128 .f32) :
    (iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f)) ∗ owns (c : Thread nD τ) arg2 fullShare x2 ∗ owns (c : Thread nD τ) arg3 fullShare x3 ∗ owns (c : Thread nD τ) arg4 fullShare x4 ∗ owns (c : Thread nD τ) arg5 fullShare x5 ∗ (∃ X, owns (c : Thread nD τ) arg6 fullShare X)) : sProp 𝕄)
      ⊢ wp frame (wpE (defs₀ (F := F)) Variants.none (c : Thread nD τ) none) Set.univ (cc0_dilated_attention (F := F) i arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _)) fun _ =>
        iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f)) ∗ owns (c : Thread nD τ) arg2 fullShare x2 ∗ owns (c : Thread nD τ) arg3 fullShare x3 ∗ owns (c : Thread nD τ) arg4 fullShare x4 ∗ owns (c : Thread nD τ) arg5 fullShare x5 ∗ (∃ X, owns (c : Thread nD τ) arg6 fullShare X)) := by
  simp only [owns_as c harg2, owns_as c harg3, owns_as c harg4, owns_as c harg5, owns_as c harg6]
  iintro ⟨⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩⟩, ⟨%f2, %hf2, H2⟩, ⟨%f3, %hf3, H3⟩, ⟨%f4, %hf4, H4⟩, ⟨%f5, %hf5, H5⟩, ⟨%X6, %f6, %hf6, H6⟩⟩
  have h := sound_refs m c i arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) hnd f2 f3 f4 f5 f6 g0 g1 g2 g3 g4 g5 g6 g7 g8 g9 g10 g11
  iapply (wp_wand _ _ _) $$ [H2 H3 H4 H5 H6 G0 G1 G2 G3 G4 G5 G6 G7 G8 G9 G10 G11]
  · iapply h
    isplitl [H2]; · iexact H2
    isplitl [H3]; · iexact H3
    isplitl [H4]; · iexact H4
    isplitl [H5]; · iexact H5
    isplitl [H6]; · iexact H6
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    iexact G11
  · iintro %a ⟨H2, H3, H4, H5, H6, G0, G1, G2, G3, G4, G5, G6, G7, G8, G9, G10, G11⟩
    isplitl [G0 G1 G2 G3 G4 G5 G6 G7 G8 G9 G10 G11]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      iexact G11
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    icases H6 with ⟨%f6', H6⟩
    iexists (arg6.view.read (Elt F) f6'); iexists f6'; isplitr
    · ipureintro; rfl
    iexact H6

/-- The staging buffers of a point and the scratches are all distinct. -/
theorem refs_nodup : ∀ t : Fin cfg0.N, ([(st0_0 t).view.ref, (st0_1 t).view.ref, (st0_2 t).view.ref, (st0_3 t).view.ref] ++ [(st0_4 t).view.ref, cc0_scratch0, cc0_scratch1, cc0_scratch2, cc0_scratch3, cc0_scratch4, cc0_scratch5, cc0_scratch6, cc0_scratch7, cc0_scratch8, cc0_scratch9, cc0_scratch10, cc0_scratch11]).Nodup := by
  decide +kernel

/-- What the pipeline holds: the arrays as the region finds them, each input's block in place after every point, the result's block at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
  Φ _ := Pipeline.ΦA spec0 c
  q w := Pipeline.shareOf spec0 w
  owed _ := 0

/-- The one window whose contents are not named: the result's. -/
def fgt (w : Fin cfg0.W) : Bool := w == 4

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d

/-- The body at a point, from what the pipeline hands it to what it takes back. -/
theorem sound_body (c : Dev nD) (t : Fin cfg0.N) :
    (iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ X, owns (c : Thread nD τ) (st0_4 t) fullShare X)) : sProp 𝕄)
      ⊢ wp frame (wpE (defs₀ (F := F)) Variants.none (c : Thread nD τ) none) Set.univ (bodyAt0 t) fun _ =>
        iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ (∃ X, owns (c : Thread nD τ) (st0_4 t) fullShare X)) := by
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  iintro ⟨⟨HS, Hp⟩, Ho, ⟨%d0, H0⟩, ⟨%d1, H1⟩, ⟨%d2, H2⟩, ⟨%d3, H3⟩, H4⟩
  have h := sound_kernel m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (refs_nodup t) (iblk m c 0 t) (iblk m c 1 t) (iblk m c 2 t) (iblk m c 3 t)
  iapply (wp_wand _ _ _) $$ [HS H0 H1 H2 H3 H4]
  · iapply h
    isplitl [HS]; · iexact HS
    isplitl [H0]; · iexact H0
    isplitl [H1]; · iexact H1
    isplitl [H2]; · iexact H2
    isplitl [H3]; · iexact H3
    iexact H4
  iintro %a ⟨HS, H0, H1, H2, H3, H4⟩
  isplitl [HS Hp]
  · isplitl [HS]; · iexact HS
    iexact Hp
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- The body's obligation at every point, the result's block forgotten. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every argument array ends as launched, and every counter at zero. -/
theorem frame : θ_run defs (onTc (τ := τ) (main (F := F))) ⟨m, fun _ => 0, ρ⟩ (fun r => (∀ c : Dev nD,

      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget_shared (Q' := _) cfgs (dats m) (0 : Fin 1) launch₀0 defs₀ Variants.none fgt m ρ main
    (hbody := body_obligation m) (hq := fun _ _ _ => rfl) (howed := fun _ _ => rfl) (V := V m) (hmain := hmain m Variants.none) (hA := A_eq m) (hΦ := fun _ _ => rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.Kernel4Ideal.Hand

end
-- ==== Proof.Ffn.lean ====
/- The feed-forward half step, row by row: the functions of one row that both programs compute, and the
   kernels' 256-row groups as vectors, each read at an index as the row's function. -/
module

public import proofs.«01_k».proof.Proof.Gen.Kernel2Ideal
public import Idealize.ShloMosaic.Lib.Pointwise
public import Idealize.ShloMosaic.PureOps.Ideal.Laws

@[expose] public section

set_option maxRecDepth 16384

noncomputable section

namespace Cert.Ffn

open Cert.Kernel2Ideal Cert.Kernel2Ideal.Facts₀ Idealize.ShloMosaic Idealize.SL.Sem

/-! ## One row -/

/-- A position of a stack of matrices from its three coordinates. -/
theorem idx3_eq {n0 n1 n2 : Nat} {y : (⟨3, ![n0, n1, n2]⟩ : Shape).Idx} {i : Fin n0} {j : Fin n1} {k : Fin n2} (h0 : (y 0).val = i.val)
    (h1 : (y 1).val = j.val) (h2 : (y 2).val = k.val) : y = ix3 i j k := by
  funext a
  match a with
  | ⟨0, _⟩ => exact Fin.ext h0
  | ⟨1, _⟩ => exact Fin.ext h1
  | ⟨2, _⟩ => exact Fin.ext h2

/-- A position of a matrix from its two coordinates. -/
theorem idx2_eq {n0 n1 : Nat} {y : (⟨2, ![n0, n1]⟩ : Shape).Idx} {i : Fin n0} {j : Fin n1} (h0 : (y 0).val = i.val)
    (h1 : (y 1).val = j.val) : y = ix2 i j := by
  funext a
  match a with
  | ⟨0, _⟩ => exact Fin.ext h0
  | ⟨1, _⟩ => exact Fin.ext h1

/-- The root-mean-square norm of the row `x` with gain `g`, at lane `j`. -/
def rms (x g : Fin 1024 → EReal) (j : Fin 1024) : EReal :=
  x j * FloatOps.rsqrt (F := Ideal) (φ := .f32)
    (FloatOps.divf (F := Ideal) (φ := .f32) (∑ k : Fin 1024, x k * x k) (FloatOps.ofBits (F := Ideal) .f32 0x44800000#32)
      + FloatOps.ofBits (F := Ideal) .f32 0x358637BD#32) * g j

/-- `silu` of the gate times the up value. -/
def gate (g u : EReal) : EReal :=
  g * FloatOps.divf (F := Ideal) (φ := .f32) 1 (1 + FloatOps.exp (F := Ideal) (φ := .f32) (-g)) * u

/-- The gated unit of the row `x`, at lane `j`. -/
def swiglu (x : Fin 1024 → EReal) (wg wu : Fin 1024 → Fin 2816 → EReal) (wd : Fin 2816 → Fin 1024 → EReal)
    (j : Fin 1024) : EReal :=
  ∑ f : Fin 2816, gate (∑ k : Fin 1024, x k * wg k f) (∑ k : Fin 1024, x k * wu k f) * wd f j

/-- The half step: the row plus half the normed gated unit of the normed row. -/
def half (x pre : Fin 1024 → EReal) (wg wu : Fin 1024 → Fin 2816 → EReal) (wd : Fin 2816 → Fin 1024 → EReal)
    (post : Fin 1024 → EReal) (j : Fin 1024) : EReal :=
  x j + FloatOps.ofBits (F := Ideal) .f32 0x3F000000#32 * rms (swiglu (rms x pre) wg wu wd) post j

/-! ## A group of 256 rows -/

section Vectors

variable {F : FTy → Type} [FloatOps F]

/-- The norm of 256 rows, each with the gain row `g`. -/
def rmsV (x : FVec F S256x1024 .f32) (g : FVec F S1x1024 .f32) : FVec F S256x1024 .f32 :=
  mulf (mulf x (broadcastTo S256x1024 (rsqrt (addf (divf (shapeCast S256x1
    (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 g broadcasts_S1x1024_S256x1024)

/-- 256 rows times a weight into the hidden width. -/
def upV (x : FVec F S256x1024 .bf16) (w : FVec F S1024x2816 .bf16) : FVec F S256x2816 .f32 :=
  matmul dot_S256x1024_S1024x2816_S256x2816_1_0_0_1_n_n none x w (constant S256x2816 .f32 0x00000000#32)

/-- The gate of 256 rows. -/
def gateV (g u : FVec F S256x2816 .f32) : FVec F S256x2816 .f32 :=
  mulf (mulf g (divf (broadcast S256x2816 (Scalar.ofBits .f32 0x3F800000#32))
    (addf (broadcast S256x2816 (Scalar.ofBits .f32 0x3F800000#32))
      (exp (subf (broadcast S256x2816 (Scalar.ofBits .f32 0x00000000#32)) g))))) u

/-- The gated rows times the weight back to the model's width. -/
def downV (h : FVec F S256x2816 .f32) (w : FVec F S2816x1024 .bf16) : FVec F S256x1024 .f32 :=
  matmul dot_S256x2816_S2816x1024_S256x1024_1_0_0_1_n_n none (truncf .bf16 h bitsLt_bf16_f32) w
    (constant S256x1024 .f32 0x00000000#32)

/-- The half step of 256 rows. -/
def halfV (x : FVec F S256x1024 .f32) (pre : FVec F S1x1024 .f32) (wg wu : FVec F S1024x2816 .bf16)
    (wd : FVec F S2816x1024 .bf16) (post : FVec F S1x1024 .f32) : FVec F S256x1024 .f32 :=
  addf x (mulf (broadcast S256x1024 (Scalar.ofBits .f32 0x3F000000#32))
    (rmsV (downV (gateV (upV (truncf .bf16 (rmsV x pre) bitsLt_bf16_f32) wg)
      (upV (truncf .bf16 (rmsV x pre) bitsLt_bf16_f32) wu)) wd) post))

end Vectors

/-! ## The groups read at an index -/

theorem rmsV_apply (x : FVec Ideal S256x1024 .f32) (g : FVec Ideal S1x1024 .f32) (i : Fin 256) (j : Fin 1024) :
    rmsV x g (ix2 i j) = rms (fun k => x (ix2 i k)) (fun k => g (ix2 0 k)) j := by
  pointwise [rmsV, rms]

theorem upV_apply (x : FVec Ideal S256x1024 .bf16) (w : FVec Ideal S1024x2816 .bf16) (i : Fin 256) (f : Fin 2816) :
    upV x w (ix2 i f) = ∑ k : Fin 1024, x (ix2 i k) * w (ix2 k f) := by
  pointwise [upV]

theorem gateV_apply (g u : FVec Ideal S256x2816 .f32) (i : Fin 256) (f : Fin 2816) :
    gateV g u (ix2 i f) = gate (g (ix2 i f)) (u (ix2 i f)) := by
  pointwise [gateV, gate]
  rw [zero_sub]

theorem downV_apply (h : FVec Ideal S256x2816 .f32) (w : FVec Ideal S2816x1024 .bf16) (i : Fin 256) (j : Fin 1024) :
    downV h w (ix2 i j) = ∑ f : Fin 2816, h (ix2 i f) * w (ix2 f j) := by
  pointwise [downV]

theorem halfV_apply (x : FVec Ideal S256x1024 .f32) (pre : FVec Ideal S1x1024 .f32) (wg wu : FVec Ideal S1024x2816 .bf16)
    (wd : FVec Ideal S2816x1024 .bf16) (post : FVec Ideal S1x1024 .f32) (i : Fin 256) (j : Fin 1024) :
    halfV x pre wg wu wd post (ix2 i j) = half (fun k => x (ix2 i k)) (fun k => pre (ix2 0 k))
      (fun k f => wg (ix2 k f)) (fun k f => wu (ix2 k f)) (fun f k => wd (ix2 f k)) (fun k => post (ix2 0 k)) j := by
  unfold half halfV
  pointwise [rmsV_apply, downV_apply, gateV_apply, upV_apply]
  rfl

end Cert.Ffn

end
-- ==== Proof.Out2.lean ====
/- What one grid point of the output projection and second half step leaves in its block, row by row. -/
module

public import proofs.«01_k».proof.Proof.Ffn
public import proofs.«01_k».proof.Proof.Gen.Kernel2Ideal.Value
public import Idealize.ShloMosaic.Lib.Pipeline.ValueKit

@[expose] public section

set_option maxRecDepth 16384

noncomputable section

namespace Cert.Out2

open Cert.Ffn Cert.Kernel2Ideal Cert.Kernel2Ideal.Gen Idealize.ShloMosaic Idealize.ShloMosaic.TcCoe Idealize.SL.Sem

/-- The layer's row after the mixing step: the residual plus the normed projection of the two attentions. -/
def mix (od ol : Fin 512 → EReal) (x : Fin 1024 → EReal) (wd wl : Fin 512 → Fin 1024 → EReal) (g : Fin 1024 → EReal)
    (j : Fin 1024) : EReal :=
  x j + rms (fun l => (∑ k : Fin 512, od k * wd k l) + ∑ k : Fin 512, ol k * wl k l) g j

section Vectors

variable {F : FTy → Type} [FloatOps F]

/-- The mixing step of 256 rows. -/
def mixV (od ol : Vec F S256x512 .bf16) (x : Vec F S256x1024 .f32) (wd wl : Vec F S512x1024 .bf16)
    (g : Vec F S1x1024 .f32) : FVec F S256x1024 .f32 :=
  addf (shapeCast S256x1024 x shapeCasts_S256x1024_S256x1024) (rmsV
    (addf (matmul dot_S256x512_S512x1024_S256x1024_1_0_0_1_n_n none (shapeCast S256x512 od shapeCasts_S256x512_S256x512)
        (shapeCast S512x1024 wd shapeCasts_S512x1024_S512x1024) (constant S256x1024 .f32 0x00000000#32))
      (matmul dot_S256x512_S512x1024_S256x1024_1_0_0_1_n_n none (shapeCast S256x512 ol shapeCasts_S256x512_S256x512)
        (shapeCast S512x1024 wl shapeCasts_S512x1024_S512x1024) (constant S256x1024 .f32 0x00000000#32)))
    (shapeCast S1x1024 g shapeCasts_S1x1024_S1x1024))

/-- One group's stored rows from its loads and the whole weights. -/
def groupV (od ol : Vec F S256x512 .bf16) (x : Vec F S256x1024 .f32) (x3 x4 : Vec F S512x1024 .bf16) (x5 x6 : Vec F S1x1024 .f32)
    (x7 x8 : Vec F S1024x2816 .bf16) (x9 : Vec F S2816x1024 .bf16) (x10 : Vec F S1x1024 .f32) : FVec F S256x1024 .f32 :=
  halfV (mixV od ol x (View.ld x3 r0_1) (View.ld x4 r0_1) (View.ld x5 r0_3))
    (shapeCast S1x1024 (View.ld x6 r0_3) shapeCasts_S1x1024_S1x1024)
    (shapeCast S1024x2816 (View.ld x7 r0_10) shapeCasts_S1024x2816_S1024x2816)
    (shapeCast S1024x2816 (View.ld x8 r0_10) shapeCasts_S1024x2816_S1024x2816)
    (shapeCast S2816x1024 (View.ld x9 r0_11) shapeCasts_S2816x1024_S2816x1024)
    (shapeCast S1x1024 (View.ld x10 r0_3) shapeCasts_S1x1024_S1x1024)

/-- The block after the body: four groups of rows. -/
theorem out_eq (x0 x1 : Vec F S1024x512 .bf16) (x2 : Vec F S1024x1024 .f32) (x3 x4 : Vec F S512x1024 .bf16) (x5 x6 : Vec F S1x1024 .f32)
    (x7 x8 : Vec F S1024x2816 .bf16) (x9 : Vec F S2816x1024 .bf16) (x10 : Vec F S1x1024 .f32) :
    out0_11 x0 x1 x2 x3 x4 x5 x6 x7 x8 x9 x10 = View.canon
      [⟨r0_9, groupV (View.ld x0 r0_8) (View.ld x1 r0_8) (View.ld x2 r0_9) x3 x4 x5 x6 x7 x8 x9 x10⟩,
       ⟨r0_7, groupV (View.ld x0 r0_6) (View.ld x1 r0_6) (View.ld x2 r0_7) x3 x4 x5 x6 x7 x8 x9 x10⟩,
       ⟨r0_5, groupV (View.ld x0 r0_4) (View.ld x1 r0_4) (View.ld x2 r0_5) x3 x4 x5 x6 x7 x8 x9 x10⟩,
       ⟨r0_2, groupV (View.ld x0 r0_0) (View.ld x1 r0_0) (View.ld x2 r0_2) x3 x4 x5 x6 x7 x8 x9 x10⟩] := rfl

end Vectors

theorem mixV_apply (od ol : Vec Ideal S256x512 .bf16) (x : Vec Ideal S256x1024 .f32) (wd wl : Vec Ideal S512x1024 .bf16)
    (g : Vec Ideal S1x1024 .f32) (i : Fin 256) (j : Fin 1024) :
    mixV od ol x wd wl g (ix2 i j) = mix (fun k => od (ix2 i k)) (fun k => ol (ix2 i k)) (fun k => x (ix2 i k))
      (fun k l => wd (ix2 k l)) (fun k l => wl (ix2 k l)) (fun k => g (ix2 0 k)) j := by
  unfold mix
  pointwise [mixV, rmsV_apply]

/-- A row of the block is the half step of the mixed row. -/
theorem groupV_apply (od ol : Vec Ideal S256x512 .bf16) (x : Vec Ideal S256x1024 .f32) (x3 x4 : Vec Ideal S512x1024 .bf16) (x5 x6 : Vec Ideal S1x1024 .f32)
    (x7 x8 : Vec Ideal S1024x2816 .bf16) (x9 : Vec Ideal S2816x1024 .bf16) (x10 : Vec Ideal S1x1024 .f32) (i : Fin 256) (j : Fin 1024) :
    groupV od ol x x3 x4 x5 x6 x7 x8 x9 x10 (ix2 i j) =
      half (mix (fun k => od (ix2 i k)) (fun k => ol (ix2 i k)) (fun k => x (ix2 i k)) (fun k l => x3 (ix2 k l)) (fun k l => x4 (ix2 k l))
          (fun k => x5 (ix2 0 k))) (fun k => x6 (ix2 0 k)) (fun k f => x7 (ix2 k f)) (fun k f => x8 (ix2 k f)) (fun f k => x9 (ix2 f k))
        (fun k => x10 (ix2 0 k)) j := by
  pointwise [groupV, halfV_apply, mixV_apply]

/-- A group's row `a` read where its loads' row `a` is row `i` of the block. -/
theorem groupV_row {x0 x1 : Vec Ideal S1024x512 .bf16} {x2 : Vec Ideal S1024x1024 .f32} {od ol : Vec Ideal S256x512 .bf16} {x : Vec Ideal S256x1024 .f32}
    {i j : Fin 1024} {y : S256x1024.Idx} (a : Fin 256) (ha : y = ix2 a j)
    (hd : ∀ k, od (ix2 a k) = x0 (ix2 i k)) (hl : ∀ k, ol (ix2 a k) = x1 (ix2 i k)) (hx : ∀ k, x (ix2 a k) = x2 (ix2 i k))
    (x3 x4 : Vec Ideal S512x1024 .bf16) (x5 x6 : Vec Ideal S1x1024 .f32)
    (x7 x8 : Vec Ideal S1024x2816 .bf16) (x9 : Vec Ideal S2816x1024 .bf16) (x10 : Vec Ideal S1x1024 .f32) :
    groupV od ol x x3 x4 x5 x6 x7 x8 x9 x10 y =
      half (mix (fun k => x0 (ix2 i k)) (fun k => x1 (ix2 i k)) (fun k => x2 (ix2 i k)) (fun k l => x3 (ix2 k l)) (fun k l => x4 (ix2 k l))
          (fun k => x5 (ix2 0 k))) (fun k => x6 (ix2 0 k)) (fun k f => x7 (ix2 k f)) (fun k f => x8 (ix2 k f)) (fun f k => x9 (ix2 f k))
        (fun k => x10 (ix2 0 k)) j := by
  subst ha
  rw [groupV_apply]
  simp only [hd, hl, hx]

/-- The block at any of its rows. -/
theorem out_apply (x0 x1 : Vec Ideal S1024x512 .bf16) (x2 : Vec Ideal S1024x1024 .f32) (x3 x4 : Vec Ideal S512x1024 .bf16) (x5 x6 : Vec Ideal S1x1024 .f32)
    (x7 x8 : Vec Ideal S1024x2816 .bf16) (x9 : Vec Ideal S2816x1024 .bf16) (x10 : Vec Ideal S1x1024 .f32) (i j : Fin 1024) :
    out0_11 x0 x1 x2 x3 x4 x5 x6 x7 x8 x9 x10 (ix2 i j) =
      half (mix (fun k => x0 (ix2 i k)) (fun k => x1 (ix2 i k)) (fun k => x2 (ix2 i k)) (fun k l => x3 (ix2 k l)) (fun k l => x4 (ix2 k l))
          (fun k => x5 (ix2 0 k))) (fun k => x6 (ix2 0 k)) (fun k f => x7 (ix2 k f)) (fun k f => x8 (ix2 k f)) (fun f k => x9 (ix2 f k))
        (fun k => x10 (ix2 0 k)) j := by
  rw [out_eq]
  canon_tiles y h
  all_goals
    refine groupV_row (y 0) (idx2_eq rfl h1.symm) (fun k => ?_) (fun k => ?_) (fun k => ?_) ..
    all_goals pointwise; exact congrArg _ (idx2_eq (by simpa using h0.symm) rfl)

end Cert.Out2

end
-- ==== Proof.Val2.lean ====
/- The array the output projection and second half step leave, as a function of the arguments. -/
module

public import proofs.«01_k».proof.Proof.Out2

@[expose] public section

set_option maxRecDepth 16384

noncomputable section

namespace Cert.Val2

open Cert.Ffn Cert.Out2 Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Token `s` of batch row `b` after the layer's last steps. -/
def row (od ol : Vec Ideal S16x2048x512 .f32) (x : Vec Ideal S16x2048x1024 .f32) (wo : Vec Ideal S1x1024x1024 .f32)
    (mg pg : Vec Ideal S1x1024 .f32) (wg wu : Vec Ideal S1x1024x2816 .f32) (wd : Vec Ideal S1x2816x1024 .f32) (qg : Vec Ideal S1x1024 .f32)
    (b : Fin 16) (s : Fin 2048) (j : Fin 1024) : EReal :=
  half (mix (fun k => od (ix3 b s k)) (fun k => ol (ix3 b s k)) (fun k => x (ix3 b s k)) (fun k l => wo (ix3 0 ⟨k, by omega⟩ l))
      (fun k l => wo (ix3 0 ⟨512 + k, by omega⟩ l)) (fun k => mg (ix2 0 k)))
    (fun k => pg (ix2 0 k)) (fun k f => wg (ix3 0 k f)) (fun k f => wu (ix3 0 k f)) (fun f k => wd (ix3 0 f k)) (fun k => qg (ix2 0 k)) j

/-- The whole result. -/
def out : S32768x1024.Idx → EReal := fun z =>
  row (m (c, main_arg0)) (m (c, main_arg1)) (m (c, main_arg2)) (m (c, main_arg3)) (m (c, main_arg4)) (m (c, main_arg5))
    (m (c, main_arg6)) (m (c, main_arg7)) (m (c, main_arg8)) (m (c, main_arg9))
    ⟨(z 0).val / 2048, by have := (z 0).isLt; simp at this; omega⟩ ⟨(z 0).val % 2048, by omega⟩ (z 1)

/-- Which block each window holds at each grid point. -/
theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![t.val, 0] :=
  (by decide +kernel : ∀ t : Fin grid0.N, _)

/-- The batch row and the token of row `y` of block `t`. -/
theorem row_lt (t : Fin cfg0.N) (y : Fin 1024) : t.val * 1024 + y.val < 32768 := by
  have : t.val < 32 := lt_of_lt_of_eq t.isLt (by decide)
  omega

section Blocks

variable (t : Fin cfg0.N)

theorem iblk0 (y : Fin 1024) (k : Fin 512) : iblk m c 0 t (ix2 y k) = m (c, main_arg0)
    (ix3 (⟨(t.val * 1024 + y.val) / 2048, by have := row_lt t y; omega⟩ : Fin 16) (⟨(t.val * 1024 + y.val) % 2048, by omega⟩ : Fin 2048) k) := by
  blk_ext! [iblk, V, idx t]

theorem iblk1 (y : Fin 1024) (k : Fin 512) : iblk m c 1 t (ix2 y k) = m (c, main_arg1)
    (ix3 (⟨(t.val * 1024 + y.val) / 2048, by have := row_lt t y; omega⟩ : Fin 16) (⟨(t.val * 1024 + y.val) % 2048, by omega⟩ : Fin 2048) k) := by
  blk_ext! [iblk, V, idx t]

theorem iblk2 (y : Fin 1024) (k : Fin 1024) : iblk m c 2 t (ix2 y k) = m (c, main_arg2)
    (ix3 (⟨(t.val * 1024 + y.val) / 2048, by have := row_lt t y; omega⟩ : Fin 16) (⟨(t.val * 1024 + y.val) % 2048, by omega⟩ : Fin 2048) k) := by
  blk_ext! [iblk, V, idx t]

theorem iblk3 (k : Fin 512) (l : Fin 1024) : iblk m c 3 t (ix2 k l) = m (c, main_arg3) (ix3 (0 : Fin 1) (⟨k, by omega⟩ : Fin 1024) l) := by
  blk_ext! [iblk, V, idx t]

theorem iblk4 (k : Fin 512) (l : Fin 1024) : iblk m c 4 t (ix2 k l) = m (c, main_arg3) (ix3 (0 : Fin 1) (⟨512 + k, by omega⟩ : Fin 1024) l) := by
  blk_ext! [iblk, V, idx t]

theorem iblk5 (k : Fin 1024) : iblk m c 5 t (ix2 (0 : Fin 1) k) = m (c, main_arg4) (ix2 (0 : Fin 1) k) := by
  blk_ext! [iblk, V, idx t]

theorem iblk6 (k : Fin 1024) : iblk m c 6 t (ix2 (0 : Fin 1) k) = m (c, main_arg5) (ix2 (0 : Fin 1) k) := by
  blk_ext! [iblk, V, idx t]

theorem iblk7 (k : Fin 1024) (f : Fin 2816) : iblk m c 7 t (ix2 k f) = m (c, main_arg6) (ix3 (0 : Fin 1) k f) := by
  blk_ext! [iblk, V, idx t]

theorem iblk8 (k : Fin 1024) (f : Fin 2816) : iblk m c 8 t (ix2 k f) = m (c, main_arg7) (ix3 (0 : Fin 1) k f) := by
  blk_ext! [iblk, V, idx t]

theorem iblk9 (f : Fin 2816) (k : Fin 1024) : iblk m c 9 t (ix2 f k) = m (c, main_arg8) (ix3 (0 : Fin 1) f k) := by
  blk_ext! [iblk, V, idx t]

theorem iblk10 (k : Fin 1024) : iblk m c 10 t (ix2 (0 : Fin 1) k) = m (c, main_arg9) (ix2 (0 : Fin 1) k) := by
  blk_ext! [iblk, V, idx t]

end Blocks

theorem final : (dats m 0 c).arrAt 11 cfg0.N = out m c := by
  refine (dats m 0 c).arrAt_eq_of_covers 11 _ (by decide +kernel) fun t hf y => ?_
  blk_simp
  rw [after0_11]
  idx_vars y
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).trans ?_
  have he : ((win0 11).blk t).view.emb (ix2 y0 y1) = ix2 (⟨t.val * 1024 + y0.val, row_lt t y0⟩ : Fin 32768) y1 := by
    blk_ext [idx t]
  refine Eq.trans ?_ (congrArg (out m c) he.symm)
  simp only [iblk0, iblk1, iblk2, iblk3, iblk4, iblk5, iblk6, iblk7, iblk8, iblk9, iblk10]
  rfl

end Cert.Val2

end
-- ==== Proof.Ref2.lean ====
/- The reference of the output projection and second half step, row by row. -/
module

public import proofs.«01_k».proof.Proof.Val2
public import proofs.«01_k».proof.Proof.Gen.Reference2Ideal.Read

@[expose] public section

set_option maxRecDepth 16384

noncomputable section

namespace Cert.Ref2

open Cert.Ffn Cert.Out2 Cert.Reference2Ideal Cert.Reference2Ideal.Read Idealize.ShloMosaic Idealize.ShloMosaic.TcCoe Idealize.SL.Sem

variable (od ol : Vec Ideal S16x2048x512 .f32) (x : Vec Ideal S16x2048x1024 .f32) (wo : Vec Ideal S1x1024x1024 .f32)
    (mg pg : Vec Ideal S1x1024 .f32) (wg wu : Vec Ideal S1x1024x2816 .f32) (wd : Vec Ideal S1x2816x1024 .f32) (qg : Vec Ideal S1x1024 .f32)
    (b : Fin 16) (s : Fin 2048)

/-- The product with the whole output weight is the sum of the products with its halves. -/
theorem v2 (j : Fin 1024) : val_main_v2 od ol wo (ix3 b s j) = (∑ k : Fin 512, od (ix3 b s k) * wo (ix3 0 ⟨k, by omega⟩ j))
    + ∑ k : Fin 512, ol (ix3 b s k) * wo (ix3 0 ⟨512 + k, by omega⟩ j) := by
  pointwise [val_main_v2, val_main_v1, val_main_v0]

/-- The mixed row. -/
theorem v17 (j : Fin 1024) : val_main_v17 od ol x wo mg (ix3 b s j) = mix (fun k => od (ix3 b s k)) (fun k => ol (ix3 b s k)) (fun k => x (ix3 b s k))
    (fun k l => wo (ix3 0 ⟨k, by omega⟩ l)) (fun k l => wo (ix3 0 ⟨512 + k, by omega⟩ l)) (fun k => mg (ix2 0 k)) j := by
  unfold mix rms
  pointwise [val_main_v17, val_main_v16, val_main_v15, val_main_v14, val_main_v13, val_main_v12, val_main_v11, val_main_v10, val_main_v9, val_main_v8,
    val_main_v7, val_main_v6, val_main_v5, val_main_v4, val_main_v3, val_main_cst, val_main_cst_0, val_main_cst_1, v2]

/-- The normed row the gates read. -/
theorem v31 (j : Fin 1024) : val_main_v31 od ol x wo mg pg (ix3 b s j) = rms (mix (fun k => od (ix3 b s k)) (fun k => ol (ix3 b s k)) (fun k => x (ix3 b s k))
    (fun k l => wo (ix3 0 ⟨k, by omega⟩ l)) (fun k l => wo (ix3 0 ⟨512 + k, by omega⟩ l)) (fun k => mg (ix2 0 k)))
    (fun k => pg (ix2 0 k)) j := by
  unfold rms
  pointwise [val_main_v31, val_main_v30, val_main_v29, val_main_v28, val_main_v27, val_main_v26, val_main_v25, val_main_v24, val_main_v23, val_main_v22, val_main_v21, val_main_v20, val_main_v19, val_main_v18, val_main_cst_2, val_main_cst_3, val_main_cst_4, v17]

/-- The gated hidden row. -/
theorem v38 (f : Fin 2816) : val_main_v38 od ol x wo mg pg wg wu (ix3 b s f) =
    gate (∑ k : Fin 1024, rms (mix (fun k => od (ix3 b s k)) (fun k => ol (ix3 b s k)) (fun k => x (ix3 b s k))
    (fun k l => wo (ix3 0 ⟨k, by omega⟩ l)) (fun k l => wo (ix3 0 ⟨512 + k, by omega⟩ l)) (fun k => mg (ix2 0 k))) (fun k => pg (ix2 0 k)) k * wg (ix3 0 k f))
      (∑ k : Fin 1024, rms (mix (fun k => od (ix3 b s k)) (fun k => ol (ix3 b s k)) (fun k => x (ix3 b s k))
    (fun k l => wo (ix3 0 ⟨k, by omega⟩ l)) (fun k l => wo (ix3 0 ⟨512 + k, by omega⟩ l)) (fun k => mg (ix2 0 k))) (fun k => pg (ix2 0 k)) k * wu (ix3 0 k f)) := by
  unfold gate
  pointwise [val_main_v38, val_main_v37, val_main_v36, val_main_v35, val_main_v33, val_main_v32, val_main_call0_v5, val_main_call0_v4, val_main_call0_v3,
    val_main_call0_v2, val_main_call0_v1, val_main_call0_v0, val_main_call0_cst, val_main_call0_cst_0, v31]

/-- The step's row before its norm. -/
theorem v39 (j : Fin 1024) : val_main_v39 od ol x wo mg pg wg wu wd (ix3 b s j) =
    swiglu (rms (mix (fun k => od (ix3 b s k)) (fun k => ol (ix3 b s k)) (fun k => x (ix3 b s k))
    (fun k l => wo (ix3 0 ⟨k, by omega⟩ l)) (fun k l => wo (ix3 0 ⟨512 + k, by omega⟩ l)) (fun k => mg (ix2 0 k))) (fun k => pg (ix2 0 k))) (fun k f => wg (ix3 0 k f)) (fun k f => wu (ix3 0 k f)) (fun f k => wd (ix3 0 f k)) j := by
  unfold swiglu
  pointwise [val_main_v39, val_main_v34, v38]

/-- The result's row. -/
theorem v56 (j : Fin 1024) : val_main_v56 od ol x wo mg pg wg wu wd qg (ix3 b s j) = Val2.row od ol x wo mg pg wg wu wd qg b s j := by
  unfold Val2.row half
  rw [show rms (swiglu (rms (mix (fun k => od (ix3 b s k)) (fun k => ol (ix3 b s k)) (fun k => x (ix3 b s k))
    (fun k l => wo (ix3 0 ⟨k, by omega⟩ l)) (fun k l => wo (ix3 0 ⟨512 + k, by omega⟩ l)) (fun k => mg (ix2 0 k))) (fun k => pg (ix2 0 k))) (fun k f => wg (ix3 0 k f)) (fun k f => wu (ix3 0 k f)) (fun f k => wd (ix3 0 f k)))
    (fun k => qg (ix2 0 k)) j = val_main_v53 od ol x wo mg pg wg wu wd qg (ix3 b s j) from by
      unfold rms; pointwise [val_main_v53, val_main_v52, val_main_v51, val_main_v50, val_main_v49, val_main_v48, val_main_v47, val_main_v46, val_main_v45, val_main_v44, val_main_v43, val_main_v42, val_main_v41, val_main_v40, val_main_cst_5, val_main_cst_6, val_main_cst_7, v39]; rfl]
  pointwise [val_main_v56, val_main_v55, val_main_v54, val_main_cst_8, v17]

/-- The result over rows. -/
theorem v57 (z : S32768x1024.Idx) : val_main_v57 od ol x wo mg pg wg wu wd qg z = Val2.row od ol x wo mg pg wg wu wd qg
    ⟨(z 0).val / 2048, by have := (z 0).isLt; simp at this; omega⟩ ⟨(z 0).val % 2048, by omega⟩ (z 1) := by
  refine (val_main_v57_apply ..).trans (Eq.trans (congrArg _ (funext fun a => ?_)) (v56 ..))
  have h1 : (z 1).val < 1024 := (z 1).isLt
  match a with
  | ⟨0, _⟩ => exact Fin.ext (by show ((z 0).val * 1024 + (z 1).val) / 2097152 = (z 0).val / 2048; omega)
  | ⟨1, _⟩ => exact Fin.ext (by show ((z 0).val * 1024 + (z 1).val) / 1024 % 2048 = (z 0).val % 2048; omega)
  | ⟨2, _⟩ => exact Fin.ext (by show ((z 0).val * 1024 + (z 1).val) % 1024 = (z 1).val; omega)

end Cert.Ref2

end
-- ==== Proof.Out3.lean ====
/- What one grid point of the first half step and input projection leaves in its blocks, row by row. -/
module

public import proofs.«01_k».proof.Proof.Ffn
public import proofs.«01_k».proof.Proof.Gen.Kernel3Ideal.Value
public import Idealize.ShloMosaic.Lib.Pipeline.ValueKit

@[expose] public section

set_option maxRecDepth 16384

noncomputable section

namespace Cert.Out3

open Cert.Ffn Cert.Kernel3Ideal Cert.Kernel3Ideal.Gen Idealize.ShloMosaic Idealize.ShloMosaic.TcCoe Idealize.SL.Sem

/-- The input projection of a row, at column `l`. -/
def proj (x g : Fin 1024 → EReal) (w : Fin 1024 → Fin 3072 → EReal) (l : Fin 3072) : EReal :=
  ∑ k : Fin 1024, rms x g k * w k l

section Vectors

variable {F : FTy → Type} [FloatOps F]

/-- The half step of a group of rows over the whole weights. -/
def halfG (x : Vec F S256x1024 .f32) (x1 : Vec F S1x1024 .f32) (x2 x3 : Vec F S1024x2816 .bf16) (x4 : Vec F S2816x1024 .bf16)
    (x5 : Vec F S1x1024 .f32) : FVec F S256x1024 .f32 :=
  halfV (shapeCast S256x1024 x shapeCasts_S256x1024_S256x1024)
    (shapeCast S1x1024 (View.ld x1 r0_2) shapeCasts_S1x1024_S1x1024)
    (shapeCast S1024x2816 (View.ld x2 r0_3) shapeCasts_S1024x2816_S1024x2816)
    (shapeCast S1024x2816 (View.ld x3 r0_3) shapeCasts_S1024x2816_S1024x2816)
    (shapeCast S2816x1024 (View.ld x4 r0_4) shapeCasts_S2816x1024_S2816x1024)
    (shapeCast S1x1024 (View.ld x5 r0_2) shapeCasts_S1x1024_S1x1024)

/-- The input projection of a group of rows. -/
def projV (x : FVec F S256x1024 .f32) (x6 : Vec F S1x1024 .f32) (x7 : Vec F S1024x3072 .bf16) : FVec F S256x3072 .f32 :=
  matmul dot_S256x1024_S1024x3072_S256x3072_1_0_0_1_n_n none
    (truncf .bf16 (rmsV x (shapeCast S1x1024 (View.ld x6 r0_2) shapeCasts_S1x1024_S1x1024)) bitsLt_bf16_f32)
    (shapeCast S1024x3072 (View.ld x7 r0_5) shapeCasts_S1024x3072_S1024x3072) (constant S256x3072 .f32 0x00000000#32)

/-- The queries and keys of a group. -/
def qkV (p : FVec F S256x3072 .f32) : FVec F S256x1024 .bf16 :=
  truncf .bf16 (extractStridedSlice S256x1024 ![0, 0] p slices_S256x3072_o0_0_S256x1024) bitsLt_bf16_f32

/-- The transposed values of a group. -/
def vtV (p : FVec F S256x3072 .f32) : FVec F S1x512x256 .bf16 :=
  shapeCast S1x512x256 (truncf .bf16 (transpose S512x256 [1, 0]
    (extractStridedSlice S256x512 ![0, 1024] p slices_S256x3072_o0_1024_S256x512) transposes_S256x512_p1_0_S512x256) bitsLt_bf16_f32)
    shapeCasts_S512x256_S1x512x256

/-- The dilated part of a group. -/
def dilV (p : FVec F S256x3072 .f32) : FVec F S256x1536 .f32 :=
  extractStridedSlice S256x1536 ![0, 1536] p slices_S256x3072_o0_1536_S256x1536

/-- Window 8 after the body. -/
theorem out8_eq (x0 : Vec F S512x1024 .f32) (x1 : Vec F S1x1024 .f32) (x2 x3 : Vec F S1024x2816 .bf16) (x4 : Vec F S2816x1024 .bf16) (x5 x6 : Vec F S1x1024 .f32) (x7 : Vec F S1024x3072 .bf16) : out0_8 x0 x1 x2 x3 x4 x5 x6 x7 = View.canon [⟨r0_1, halfG (View.ld x0 r0_1) x1 x2 x3 x4 x5⟩, ⟨r0_0, halfG (View.ld x0 r0_0) x1 x2 x3 x4 x5⟩] := rfl

/-- Window 9 after the body. -/
theorem out9_eq (x0 : Vec F S512x1024 .f32) (x1 : Vec F S1x1024 .f32) (x2 x3 : Vec F S1024x2816 .bf16) (x4 : Vec F S2816x1024 .bf16) (x5 x6 : Vec F S1x1024 .f32) (x7 : Vec F S1024x3072 .bf16) : out0_9 x0 x1 x2 x3 x4 x5 x6 x7 = View.canon [⟨r0_1, qkV (projV (halfG (View.ld x0 r0_1) x1 x2 x3 x4 x5) x6 x7)⟩, ⟨r0_0, qkV (projV (halfG (View.ld x0 r0_0) x1 x2 x3 x4 x5) x6 x7)⟩] := rfl

/-- Window 10 after the body. -/
theorem out10_eq (x0 : Vec F S512x1024 .f32) (x1 : Vec F S1x1024 .f32) (x2 x3 : Vec F S1024x2816 .bf16) (x4 : Vec F S2816x1024 .bf16) (x5 x6 : Vec F S1x1024 .f32) (x7 : Vec F S1024x3072 .bf16) : out0_10 x0 x1 x2 x3 x4 x5 x6 x7 = View.canon [⟨r0_8, vtV (projV (halfG (View.ld x0 r0_1) x1 x2 x3 x4 x5) x6 x7)⟩, ⟨r0_6, vtV (projV (halfG (View.ld x0 r0_0) x1 x2 x3 x4 x5) x6 x7)⟩] := rfl

/-- Window 11 after the body. -/
theorem out11_eq (x0 : Vec F S512x1024 .f32) (x1 : Vec F S1x1024 .f32) (x2 x3 : Vec F S1024x2816 .bf16) (x4 : Vec F S2816x1024 .bf16) (x5 x6 : Vec F S1x1024 .f32) (x7 : Vec F S1024x3072 .bf16) : out0_11 x0 x1 x2 x3 x4 x5 x6 x7 = View.canon [⟨r0_9, dilV (projV (halfG (View.ld x0 r0_1) x1 x2 x3 x4 x5) x6 x7)⟩, ⟨r0_7, dilV (projV (halfG (View.ld x0 r0_0) x1 x2 x3 x4 x5) x6 x7)⟩] := rfl

end Vectors

variable (x0 : Vec Ideal S512x1024 .f32) (x1 : Vec Ideal S1x1024 .f32) (x2 x3 : Vec Ideal S1024x2816 .bf16) (x4 : Vec Ideal S2816x1024 .bf16) (x5 x6 : Vec Ideal S1x1024 .f32) (x7 : Vec Ideal S1024x3072 .bf16)

/-- A group's row `a` where its load's row `a` is row `i` of the block. -/
theorem halfG_row {x0 : Vec Ideal S512x1024 .f32} {x : Vec Ideal S256x1024 .f32} {i : Fin 512} {a : Fin 256}
    (hx : ∀ k, x (ix2 a k) = x0 (ix2 i k)) (x1 : Vec Ideal S1x1024 .f32) (x2 x3 : Vec Ideal S1024x2816 .bf16) (x4 : Vec Ideal S2816x1024 .bf16)
    (x5 : Vec Ideal S1x1024 .f32) (j : Fin 1024) :
    halfG x x1 x2 x3 x4 x5 (ix2 a j) = half (fun k => x0 (ix2 i k)) (fun k => x1 (ix2 0 k)) (fun k f => x2 (ix2 k f)) (fun k f => x3 (ix2 k f)) (fun f k => x4 (ix2 f k)) (fun k => x5 (ix2 0 k)) j := by
  simp only [← hx]
  pointwise [halfG, halfV_apply]

theorem projV_row {x : FVec Ideal S256x1024 .f32} {r : Fin 1024 → EReal} {a : Fin 256} (hx : ∀ k, x (ix2 a k) = r k)
    (x6 : Vec Ideal S1x1024 .f32) (x7 : Vec Ideal S1024x3072 .bf16) (l : Fin 3072) :
    projV x x6 x7 (ix2 a l) = proj r (fun k => x6 (ix2 0 k)) (fun k l => x7 (ix2 k l)) l := by
  obtain rfl : (fun k => x (ix2 a k)) = r := funext hx
  unfold proj
  pointwise [projV, rmsV_apply]

theorem qkV_apply (p : FVec Ideal S256x3072 .f32) (a : Fin 256) (j : Fin 1024) : qkV p (ix2 a j) = p (ix2 a ⟨j, by omega⟩) := by
  pointwise [qkV]

theorem vtV_apply (p : FVec Ideal S256x3072 .f32) (a : Fin 256) (d : Fin 512) : vtV p (ix3 0 d a) = p (ix2 a ⟨1024 + d, by omega⟩) := by
  pointwise [vtV]

theorem dilV_apply (p : FVec Ideal S256x3072 .f32) (a : Fin 256) (j : Fin 1536) : dilV p (ix2 a j) = p (ix2 a ⟨1536 + j, by omega⟩) := by
  pointwise [dilV]

theorem out8_apply (i : Fin 512) (j : Fin 1024) : out0_8 x0 x1 x2 x3 x4 x5 x6 x7 (ix2 i j) = half (fun k => x0 (ix2 i k)) (fun k => x1 (ix2 0 k)) (fun k f => x2 (ix2 k f)) (fun k f => x3 (ix2 k f)) (fun f k => x4 (ix2 f k)) (fun k => x5 (ix2 0 k)) j := by
  rw [out8_eq]
  canon_tiles y h
  all_goals
    rw [show y = ix2 (y 0) j from idx2_eq rfl h1.symm]
    refine halfG_row (fun k => ?_) ..
    pointwise; exact congrArg _ (idx2_eq (by simpa using h0.symm) rfl)

theorem out9_apply (i : Fin 512) (j : Fin 1024) : out0_9 x0 x1 x2 x3 x4 x5 x6 x7 (ix2 i j) = proj (half (fun k => x0 (ix2 i k)) (fun k => x1 (ix2 0 k)) (fun k f => x2 (ix2 k f)) (fun k f => x3 (ix2 k f)) (fun f k => x4 (ix2 f k)) (fun k => x5 (ix2 0 k))) (fun k => x6 (ix2 0 k)) (fun k l => x7 (ix2 k l)) ⟨j, by omega⟩ := by
  rw [out9_eq]
  canon_tiles y h
  all_goals
    rw [show y = ix2 (y 0) j from idx2_eq rfl h1.symm]
    refine (qkV_apply ..).trans (projV_row (fun k => halfG_row (fun k => ?_) ..) ..)
    pointwise; exact congrArg _ (idx2_eq (by simpa using h0.symm) rfl)

theorem out11_apply (i : Fin 512) (j : Fin 1536) : out0_11 x0 x1 x2 x3 x4 x5 x6 x7 (ix2 i j) = proj (half (fun k => x0 (ix2 i k)) (fun k => x1 (ix2 0 k)) (fun k f => x2 (ix2 k f)) (fun k f => x3 (ix2 k f)) (fun f k => x4 (ix2 f k)) (fun k => x5 (ix2 0 k))) (fun k => x6 (ix2 0 k)) (fun k l => x7 (ix2 k l)) ⟨1536 + j, by omega⟩ := by
  rw [out11_eq]
  canon_tiles y h
  all_goals
    rw [show y = ix2 (y 0) j from idx2_eq rfl h1.symm]
    refine (dilV_apply ..).trans (projV_row (fun k => halfG_row (fun k => ?_) ..) ..)
    pointwise; exact congrArg _ (idx2_eq (by simpa using h0.symm) rfl)

theorem out10_apply (i d : Fin 512) : out0_10 x0 x1 x2 x3 x4 x5 x6 x7 (ix3 0 d i) = proj (half (fun k => x0 (ix2 i k)) (fun k => x1 (ix2 0 k)) (fun k f => x2 (ix2 k f)) (fun k f => x3 (ix2 k f)) (fun f k => x4 (ix2 f k)) (fun k => x5 (ix2 0 k))) (fun k => x6 (ix2 0 k)) (fun k l => x7 (ix2 k l)) ⟨1024 + d, by omega⟩ := by
  rw [out10_eq]
  canon_tiles y h
  all_goals
    rw [show y = ix3 0 d (y 2) from idx3_eq (by simp) h1.symm rfl]
    refine (vtV_apply ..).trans (projV_row (fun k => halfG_row (fun k => ?_) ..) ..)
    pointwise; exact congrArg _ (idx2_eq (by simpa using h2.symm) rfl)

end Cert.Out3

end
-- ==== Proof.Val3.lean ====
/- The arrays the first half step and input projection leave, as functions of the arguments. -/
module

public import proofs.«01_k».proof.Proof.Out3

@[expose] public section

set_option maxRecDepth 16384

noncomputable section

namespace Cert.Val3

open Cert.Ffn Cert.Out3 Cert.Kernel3Ideal Cert.Kernel3Ideal.Gen Idealize.ShloMosaic Idealize.ShloMosaic.TcCoe Idealize.SL.Sem

variable (m : (ℓ : Loc nD τ sig) → Buf (Elt Ideal) ℓ) (c : Dev nD)

/-- Token `s` of batch row `b` after the first half step. -/
def row (x : Vec Ideal S16x2048x1024 .f32) (pg : Vec Ideal S1x1024 .f32) (wg wu : Vec Ideal S1x1024x2816 .f32) (wd : Vec Ideal S1x2816x1024 .f32)
    (qg : Vec Ideal S1x1024 .f32) (b : Fin 16) (s : Fin 2048) (j : Fin 1024) : EReal :=
  half (fun k => x (ix3 b s k)) (fun k => pg (ix2 0 k)) (fun k f => wg (ix3 0 k f)) (fun k f => wu (ix3 0 k f)) (fun f k => wd (ix3 0 f k))
    (fun k => qg (ix2 0 k)) j

/-- Its input projection. -/
def prow (x : Vec Ideal S16x2048x1024 .f32) (pg : Vec Ideal S1x1024 .f32) (wg wu : Vec Ideal S1x1024x2816 .f32) (wd : Vec Ideal S1x2816x1024 .f32)
    (qg : Vec Ideal S1x1024 .f32)
    (mg : Vec Ideal S1x1024 .f32) (w : Vec Ideal S1x1024x3072 .f32) (b : Fin 16) (s : Fin 2048) (l : Fin 3072) : EReal :=
  proj (row x pg wg wu wd qg b s) (fun k => mg (ix2 0 k)) (fun k l => w (ix3 0 k l)) l

/-- The rows after the half step. -/
def outX : S32768x1024.Idx → EReal := fun z => row (m (c, main_arg0)) (m (c, main_arg1)) (m (c, main_arg2)) (m (c, main_arg3)) (m (c, main_arg4)) (m (c, main_arg5)) ⟨(z 0).val / 2048, by have := (z 0).isLt; simp at this; omega⟩ ⟨(z 0).val % 2048, by omega⟩ (z 1)

/-- The queries and keys. -/
def outQk : S32768x1024.Idx → EReal := fun z => prow (m (c, main_arg0)) (m (c, main_arg1)) (m (c, main_arg2)) (m (c, main_arg3)) (m (c, main_arg4)) (m (c, main_arg5)) (m (c, main_arg6)) (m (c, main_arg7))
  ⟨(z 0).val / 2048, by have := (z 0).isLt; simp at this; omega⟩ ⟨(z 0).val % 2048, by omega⟩ ⟨(z 1).val, by have := (z 1).isLt; simp at this; omega⟩

/-- The transposed values. -/
def outV : S16x512x2048.Idx → EReal := fun z => prow (m (c, main_arg0)) (m (c, main_arg1)) (m (c, main_arg2)) (m (c, main_arg3)) (m (c, main_arg4)) (m (c, main_arg5)) (m (c, main_arg6)) (m (c, main_arg7))
  (z 0) (z 2) ⟨1024 + (z 1).val, by have := (z 1).isLt; simp at this; omega⟩

/-- The dilated part. -/
def outDil : S32768x1536.Idx → EReal := fun z => prow (m (c, main_arg0)) (m (c, main_arg1)) (m (c, main_arg2)) (m (c, main_arg3)) (m (c, main_arg4)) (m (c, main_arg5)) (m (c, main_arg6)) (m (c, main_arg7))
  ⟨(z 0).val / 2048, by have := (z 0).isLt; simp at this; omega⟩ ⟨(z 0).val % 2048, by omega⟩ ⟨1536 + (z 1).val, by have := (z 1).isLt; simp at this; omega⟩

/-- Which block each window holds at each grid point. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧ win0_7.index t = ![0, 0] ∧
    win0_8.index t = ![t.val, 0] ∧ win0_9.index t = ![t.val, 0] ∧ win0_10.index t = ![t.val / 4, 0, t.val % 4] ∧ win0_11.index t = ![t.val, 0] :=
  (by decide +kernel : ∀ t : Fin grid0.N, _)

/-- The row `y` of block `t` is a token. -/
theorem row_lt (t : Fin cfg0.N) (y : Fin 512) : t.val * 512 + y.val < 32768 := by
  have : t.val < 64 := lt_of_lt_of_eq t.isLt (by decide)
  omega

section Blocks

variable (t : Fin cfg0.N)

theorem iblk0 (y : Fin 512) (k : Fin 1024) : iblk m c 0 t (ix2 y k) = m (c, main_arg0)
    (ix3 (⟨(t.val * 512 + y.val) / 2048, by have := row_lt t y; omega⟩ : Fin 16) (⟨(t.val * 512 + y.val) % 2048, by omega⟩ : Fin 2048) k) := by
  blk_ext! [iblk, V, idx t]

theorem iblk1 (k : Fin 1024) : iblk m c 1 t (ix2 (0 : Fin 1) k) = m (c, main_arg1) (ix2 (0 : Fin 1) k) := by
  blk_ext! [iblk, V, idx t]

theorem iblk5 (k : Fin 1024) : iblk m c 5 t (ix2 (0 : Fin 1) k) = m (c, main_arg5) (ix2 (0 : Fin 1) k) := by
  blk_ext! [iblk, V, idx t]

theorem iblk6 (k : Fin 1024) : iblk m c 6 t (ix2 (0 : Fin 1) k) = m (c, main_arg6) (ix2 (0 : Fin 1) k) := by
  blk_ext! [iblk, V, idx t]

theorem iblk2 (k : Fin 1024) (f : Fin 2816) : iblk m c 2 t (ix2 k f) = m (c, main_arg2) (ix3 (0 : Fin 1) k f) := by
  blk_ext! [iblk, V, idx t]

theorem iblk3 (k : Fin 1024) (f : Fin 2816) : iblk m c 3 t (ix2 k f) = m (c, main_arg3) (ix3 (0 : Fin 1) k f) := by
  blk_ext! [iblk, V, idx t]

theorem iblk4 (k : Fin 2816) (f : Fin 1024) : iblk m c 4 t (ix2 k f) = m (c, main_arg4) (ix3 (0 : Fin 1) k f) := by
  blk_ext! [iblk, V, idx t]

theorem iblk7 (k : Fin 1024) (f : Fin 3072) : iblk m c 7 t (ix2 k f) = m (c, main_arg7) (ix3 (0 : Fin 1) k f) := by
  blk_ext! [iblk, V, idx t]

end Blocks

theorem final8 : (dats m 0 c).arrAt 8 cfg0.N = outX m c := by
  refine (dats m 0 c).arrAt_eq_of_covers 8 _ (by decide +kernel) fun t hf y => ?_
  blk_simp
  rw [after0_8]
  idx_vars y
  refine (out8_apply (iblk m c 0 t) (iblk m c 1 t) (iblk m c 2 t) (iblk m c 3 t) (iblk m c 4 t) (iblk m c 5 t) (iblk m c 6 t) (iblk m c 7 t) y0 y1).trans ?_
  have he : ((win0 8).blk t).view.emb (ix2 y0 y1) = ix2 (⟨t.val * 512 + y0.val, row_lt t y0⟩ : Fin 32768) y1 := by
    blk_ext [idx t]
  refine Eq.trans ?_ (congrArg (outX m c) he.symm)
  simp only [iblk0, iblk1, iblk2, iblk3, iblk4, iblk5, iblk6, iblk7]
  rfl

theorem final9 : (dats m 0 c).arrAt 9 cfg0.N = outQk m c := by
  refine (dats m 0 c).arrAt_eq_of_covers 9 _ (by decide +kernel) fun t hf y => ?_
  blk_simp
  rw [after0_9]
  idx_vars y
  refine (out9_apply (iblk m c 0 t) (iblk m c 1 t) (iblk m c 2 t) (iblk m c 3 t) (iblk m c 4 t) (iblk m c 5 t) (iblk m c 6 t) (iblk m c 7 t) y0 y1).trans ?_
  have he : ((win0 9).blk t).view.emb (ix2 y0 y1) = ix2 (⟨t.val * 512 + y0.val, row_lt t y0⟩ : Fin 32768) y1 := by
    blk_ext [idx t]
  refine Eq.trans ?_ (congrArg (outQk m c) he.symm)
  simp only [iblk0, iblk1, iblk2, iblk3, iblk4, iblk5, iblk6, iblk7]
  rfl

theorem final11 : (dats m 0 c).arrAt 11 cfg0.N = outDil m c := by
  refine (dats m 0 c).arrAt_eq_of_covers 11 _ (by decide +kernel) fun t hf y => ?_
  blk_simp
  rw [after0_11]
  idx_vars y
  refine (out11_apply (iblk m c 0 t) (iblk m c 1 t) (iblk m c 2 t) (iblk m c 3 t) (iblk m c 4 t) (iblk m c 5 t) (iblk m c 6 t) (iblk m c 7 t) y0 y1).trans ?_
  have he : ((win0 11).blk t).view.emb (ix2 y0 y1) = ix2 (⟨t.val * 512 + y0.val, row_lt t y0⟩ : Fin 32768) y1 := by
    blk_ext [idx t]
  refine Eq.trans ?_ (congrArg (outDil m c) he.symm)
  simp only [iblk0, iblk1, iblk2, iblk3, iblk4, iblk5, iblk6, iblk7]
  rfl

theorem final10 : (dats m 0 c).arrAt 10 cfg0.N = outV m c := by
  refine (dats m 0 c).arrAt_eq_of_covers 10 _ (by decide +kernel) fun t hf y => ?_
  blk_simp
  rw [after0_10]
  idx_vars y
  obtain rfl : y0 = 0 := Fin.ext (by omega)
  refine (out10_apply (iblk m c 0 t) (iblk m c 1 t) (iblk m c 2 t) (iblk m c 3 t) (iblk m c 4 t) (iblk m c 5 t) (iblk m c 6 t) (iblk m c 7 t) y2 y1).trans ?_
  have he : ((win0 10).blk t).view.emb (ix3 0 y1 y2) = ix3 (⟨(t.val * 512 + y2.val) / 2048, by have := row_lt t y2; omega⟩ : Fin 16) y1
      (⟨(t.val * 512 + y2.val) % 2048, by omega⟩ : Fin 2048) := by
    blk_ext [idx t]
  refine Eq.trans ?_ (congrArg (outV m c) he.symm)
  simp only [iblk0, iblk1, iblk2, iblk3, iblk4, iblk5, iblk6, iblk7]
  rfl

end Cert.Val3

end
-- ==== Proof.Ref3.lean ====
/- The reference of the first half step and input projection, row by row. -/
module

public import proofs.«01_k».proof.Proof.Val3
public import proofs.«01_k».proof.Proof.Gen.Reference3Ideal.Read

@[expose] public section

set_option maxRecDepth 16384

noncomputable section

namespace Cert.Ref3

open Cert.Ffn Cert.Out3 Cert.Reference3Ideal Cert.Reference3Ideal.Read Idealize.ShloMosaic Idealize.ShloMosaic.TcCoe Idealize.SL.Sem

variable (x : Vec Ideal S16x2048x1024 .f32) (pg : Vec Ideal S1x1024 .f32) (wg wu : Vec Ideal S1x1024x2816 .f32) (wd : Vec Ideal S1x2816x1024 .f32)
    (qg mg : Vec Ideal S1x1024 .f32) (w : Vec Ideal S1x1024x3072 .f32) (b : Fin 16) (s : Fin 2048)

/-- The normed row the gates read. -/
theorem v13 (j : Fin 1024) : val_main_v13 x pg (ix3 b s j) = rms (fun k => x (ix3 b s k)) (fun k => pg (ix2 0 k)) j := by
  unfold rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The gated hidden row. -/
theorem v20 (f : Fin 2816) : val_main_v20 x pg wg wu (ix3 b s f) =
    gate (∑ k : Fin 1024, rms (fun k => x (ix3 b s k)) (fun k => pg (ix2 0 k)) k * wg (ix3 0 k f)) (∑ k : Fin 1024, rms (fun k => x (ix3 b s k)) (fun k => pg (ix2 0 k)) k * wu (ix3 0 k f)) := by
  unfold gate
  pointwise [val_main_v20, val_main_v19, val_main_v18, val_main_v17, val_main_v15, val_main_v14, val_main_call0_v5, val_main_call0_v4, val_main_call0_v3,
    val_main_call0_v2, val_main_call0_v1, val_main_call0_v0, val_main_call0_cst, val_main_call0_cst_0, v13]

/-- The step's row before its norm. -/
theorem v21 (j : Fin 1024) : val_main_v21 x pg wg wu wd (ix3 b s j) =
    swiglu (rms (fun k => x (ix3 b s k)) (fun k => pg (ix2 0 k))) (fun k f => wg (ix3 0 k f)) (fun k f => wu (ix3 0 k f)) (fun f k => wd (ix3 0 f k)) j := by
  unfold swiglu
  pointwise [val_main_v21, val_main_v16, v20]

/-- The row after the half step. -/
theorem v38 (j : Fin 1024) : val_main_v38 x pg wg wu wd qg (ix3 b s j) = Val3.row x pg wg wu wd qg b s j := by
  unfold Val3.row half
  rw [show rms (swiglu (rms (fun k => x (ix3 b s k)) (fun k => pg (ix2 0 k))) (fun k f => wg (ix3 0 k f)) (fun k f => wu (ix3 0 k f)) (fun f k => wd (ix3 0 f k)))
    (fun k => qg (ix2 0 k)) j = val_main_v35 x pg wg wu wd qg (ix3 b s j) from by
      unfold rms; pointwise [val_main_v35, val_main_v34, val_main_v33, val_main_v32, val_main_v31, val_main_v30, val_main_v29, val_main_v28, val_main_v27, val_main_v26, val_main_v25, val_main_v24, val_main_v23, val_main_v22, val_main_cst_2, val_main_cst_3, val_main_cst_4, v21]; rfl]
  pointwise [val_main_v38, val_main_v37, val_main_v36, val_main_cst_5]

/-- The normed row the projection reads. -/
theorem v52 (j : Fin 1024) : val_main_v52 x pg wg wu wd qg mg (ix3 b s j) = rms (Val3.row x pg wg wu wd qg b s) (fun k => mg (ix2 0 k)) j := by
  unfold rms
  pointwise [val_main_v52, val_main_v51, val_main_v50, val_main_v49, val_main_v48, val_main_v47, val_main_v46, val_main_v45, val_main_v44, val_main_v43, val_main_v42, val_main_v41, val_main_v40, val_main_v39, val_main_cst_6, val_main_cst_7, val_main_cst_8, v38]

/-- The projected row. -/
theorem v54 (l : Fin 3072) : val_main_v54 x pg wg wu wd qg mg w (ix3 b s l) = Val3.prow x pg wg wu wd qg mg w b s l := by
  unfold Val3.prow proj
  pointwise [val_main_v54, val_main_v53, v52]

/-- The rows after the half step, over rows. -/
theorem v63 (z : S32768x1024.Idx) : val_main_v63 x pg wg wu wd qg z = Val3.row x pg wg wu wd qg ⟨(z 0).val / 2048, by have := (z 0).isLt; simp at this; omega⟩ ⟨(z 0).val % 2048, by omega⟩ (z 1) := by
  have h1 : (z 1).val < 1024 := (z 1).isLt
  refine (val_main_v63_apply ..).trans (Eq.trans (congrArg _ (idx3_eq ?_ ?_ ?_)) (v38 ..))
  · show ((z 0).val * 1024 + (z 1).val) / 2097152 = (z 0).val / 2048; omega
  · show ((z 0).val * 1024 + (z 1).val) / 1024 % 2048 = (z 0).val % 2048; omega
  · show ((z 0).val * 1024 + (z 1).val) % 1024 = (z 1).val; omega

/-- The queries and keys, over rows. -/
theorem v57 (z : S32768x1024.Idx) : val_main_v57 x pg wg wu wd qg mg w z = Val3.prow x pg wg wu wd qg mg w ⟨(z 0).val / 2048, by have := (z 0).isLt; simp at this; omega⟩ ⟨(z 0).val % 2048, by omega⟩
    ⟨(z 1).val, by have := (z 1).isLt; simp at this; omega⟩ := by
  have h1 : (z 1).val < 1024 := (z 1).isLt
  refine (val_main_v57_apply ..).trans ((val_main_v56_apply ..).trans ((val_main_v55_apply ..).trans (Eq.trans (congrArg _ (idx3_eq ?_ ?_ ?_)) (v54 ..))))
  · show ((z 0).val * 1024 + (z 1).val) / 2097152 = (z 0).val / 2048; omega
  · show ((z 0).val * 1024 + (z 1).val) / 1024 % 2048 = (z 0).val % 2048; omega
  · show ((z 0).val * 1024 + (z 1).val) % 1024 = (z 1).val; omega

/-- The transposed values. -/
theorem v60 (z : S16x512x2048.Idx) : val_main_v60 x pg wg wu wd qg mg w z = Val3.prow x pg wg wu wd qg mg w (z 0) (z 2)
    ⟨1024 + (z 1).val, by have := (z 1).isLt; simp at this; omega⟩ := by
  refine (val_main_v60_apply ..).trans ((val_main_v59_apply ..).trans ((val_main_v58_apply ..).trans (Eq.trans (congrArg _ (idx3_eq ?_ ?_ ?_)) (v54 ..))))
  all_goals first | rfl | exact Nat.add_comm ..

/-- The dilated part, over rows. -/
theorem v62 (z : S32768x1536.Idx) : val_main_v62 x pg wg wu wd qg mg w z = Val3.prow x pg wg wu wd qg mg w ⟨(z 0).val / 2048, by have := (z 0).isLt; simp at this; omega⟩ ⟨(z 0).val % 2048, by omega⟩
    ⟨1536 + (z 1).val, by have := (z 1).isLt; simp at this; omega⟩ := by
  have h1 : (z 1).val < 1536 := (z 1).isLt
  refine (val_main_v62_apply ..).trans ((val_main_v61_apply ..).trans (Eq.trans (congrArg _ (idx3_eq ?_ ?_ ?_)) (v54 ..)))
  · show ((z 0).val * 1536 + (z 1).val) / 3145728 = (z 0).val / 2048; omega
  · show ((z 0).val * 1536 + (z 1).val) / 1536 % 2048 = (z 0).val % 2048; omega
  · show 1536 + ((z 0).val * 1536 + (z 1).val) % 1536 = 1536 + (z 1).val; omega

end Cert.Ref3

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.KIFrame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.K4Frame
public import proofs.«01_k».proof.Proof.K4IFrame
public import proofs.«01_k».proof.Proof.Ref2
public import proofs.«01_k».proof.Proof.Ref3
public import Idealize.ShloMosaic.Lib.Claim
public import Idealize.ShloMosaic.Adequacy
public import Idealize.ShloMosaic.Init

@[expose] public section

noncomputable section

namespace Cert.Proof

open Idealize.ShloMosaic Idealize.SL.Sem

/-- The attention's reference runs, keeps its arguments and has no semaphore. -/
theorem frame_r : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The second reference likewise: it runs, keeps its arguments and has no semaphore. -/
theorem frame_r2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The third reference likewise. -/
theorem frame_r3 : Cert.quiescent_Reference3Ideal := by
  intro m ρ _
  exact (θ_run Cert.Reference3Ideal.defs _ _).mono (fun r h => ⟨fun c => (h c).2.2.2.2, sem_eq_zero_of_no_sems (by decide) r.2⟩)
    (Cert.Reference3Ideal.Value.run (F := Ideal) m ρ)

/-- The fourth reference likewise. -/
theorem frame_r4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The output projection and second half step: both programs leave `Val2.out`. -/
theorem algebraic2 : Cert.algebraic_Kernel2Ideal_Reference2Ideal := by
  intro m g m' g' _ hag
  refine ⟨fun c => Val2.out m c, ?_, ?_⟩
  · exact (θ_run Cert.Kernel2Ideal.defs _ _).mono (fun r h c => ⟨(h c).1.trans (Val2.final m c), (h c).2⟩)
      (Cert.Kernel2Ideal.Value.run_blocks (F := Ideal) m g)
  · refine (θ_run Cert.Reference2Ideal.defs _ _).mono (fun r h c => ⟨?_, (h c).2⟩) (Cert.Reference2Ideal.Value.run (F := Ideal) m' g')
    obtain ⟨h0, h1, h2, h3, h4, h5, h6, h7, h8, h9⟩ := hag c
    rw [(h c).1, Cert.Reference2Ideal.Read.val_main_v57_eq, h0, h1, h2, h3, h4, h5, h6, h7, h8, h9]
    exact funext fun z => Ref2.v57 _ _ _ _ _ _ _ _ _ _ z

/-- The first half step and input projection: both programs leave `Val3`'s four arrays. -/
theorem algebraic3 : Cert.algebraic_Kernel3Ideal_Reference3Ideal := by
  intro m g m' g' _ hag
  refine ⟨fun c => Val3.outX m c, fun c => Val3.outQk m c, fun c => Val3.outV m c, fun c => Val3.outDil m c, ?_, ?_⟩
  · exact (θ_run Cert.Kernel3Ideal.defs _ _).mono (fun r h c => ⟨(h c).1.trans (Val3.final8 m c), (h c).2.1.trans (Val3.final9 m c),
        (h c).2.2.1.trans (Val3.final10 m c), (h c).2.2.2.1.trans (Val3.final11 m c), (h c).2.2.2.2⟩)
      (Cert.Kernel3Ideal.Value.run_blocks (F := Ideal) m g)
  · refine (θ_run Cert.Reference3Ideal.defs _ _).mono (fun r h c => ⟨?_, ?_, ?_, ?_, (h c).2.2.2.2⟩)
      (Cert.Reference3Ideal.Value.run (F := Ideal) m' g')
    all_goals obtain ⟨h0, h1, h2, h3, h4, h5, h6, h7⟩ := hag c
    · rw [(h c).1, Cert.Reference3Ideal.Read.val_main_v63_eq, h0, h1, h2, h3, h4, h5]
      exact funext fun z => Ref3.v63 _ _ _ _ _ _ z
    · rw [(h c).2.1, Cert.Reference3Ideal.Read.val_main_v57_eq, h0, h1, h2, h3, h4, h5, h6, h7]
      exact funext fun z => Ref3.v57 _ _ _ _ _ _ _ _ z
    · rw [(h c).2.2.1, Cert.Reference3Ideal.Read.val_main_v60_eq, h0, h1, h2, h3, h4, h5, h6, h7]
      exact funext fun z => Ref3.v60 _ _ _ _ _ _ _ _ z
    · rw [(h c).2.2.2.1, Cert.Reference3Ideal.Read.val_main_v62_eq, h0, h1, h2, h3, h4, h5, h6, h7]
      exact funext fun z => Ref3.v62 _ _ _ _ _ _ _ _ z

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Hand.frame m ρ, fun m ρ _ => Cert.KernelIdeal.Hand.frame m ρ, frame_r,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Hand.frame m ρ, fun m ρ _ => Cert.Kernel4Ideal.Hand.frame m ρ, frame_r4,
  IdealRules.named_const.statement Cert.KernelIdeal.κ "mask" .f32 0xF149F2CA#32 ⊥ rfl,
  trivial, algebraic2, trivial, algebraic3,
  IdealRules.named_const.statement Cert.Kernel4Ideal.κ "mask" .f32 0xF149F2CA#32 ⊥ rfl⟩

end Cert.Proof

end
